-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v430) = v0 c
          ∧ r.2.mem ((c.tc : Thread Cert.ReferenceIdeal.nD Cert.ReferenceIdeal.τ).loc Cert.ReferenceIdeal.main_v426) = v1 c
          ∧ r.2.mem ((c.tc : Thread Cert.ReferenceIdeal.nD Cert.ReferenceIdeal.τ).loc Cert.ReferenceIdeal.main_v424) = v2 c
          ∧ r.2.mem ((c.tc : Thread Cert.ReferenceIdeal.nD Cert.ReferenceIdeal.τ).loc Cert.ReferenceIdeal.main_v427) = v3 c
          ∧ r.2.mem ((c.tc : Thread Cert.ReferenceIdeal.nD Cert.ReferenceIdeal.τ).loc Cert.ReferenceIdeal.main_v428) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x64 : Shape := ⟨2, ![32, 64]⟩
abbrev S32x64x64 : Shape := ⟨3, ![32, 64, 64]⟩
abbrev S32x64x64x80x4 : Shape := ⟨5, ![32, 64, 64, 80, 4]⟩
abbrev S32x64x3 : Shape := ⟨3, ![32, 64, 3]⟩
abbrev S32x64x64x320 : Shape := ⟨4, ![32, 64, 64, 320]⟩
abbrev S32x64x64x1x2 : Shape := ⟨5, ![32, 64, 64, 1, 2]⟩
abbrev S32x64x64x2 : Shape := ⟨4, ![32, 64, 64, 2]⟩
abbrev S32x64x2x64 : Shape := ⟨4, ![32, 64, 2, 64]⟩
abbrev S2048x2x64 : Shape := ⟨3, ![2048, 2, 64]⟩
abbrev S2048x64 : Shape := ⟨2, ![2048, 64]⟩
abbrev S2048x3 : Shape := ⟨2, ![2048, 3]⟩
abbrev S2048x6 : Shape := ⟨2, ![2048, 6]⟩
abbrev S2048x1x64 : Shape := ⟨3, ![2048, 1, 64]⟩
abbrev S2048 : Shape := ⟨1, ![2048]⟩
abbrev S2048x1 : Shape := ⟨2, ![2048, 1]⟩
abbrev S12288 : Shape := ⟨1, ![12288]⟩
abbrev S32x80x768 : Shape := ⟨3, ![32, 80, 768]⟩
abbrev S32x80x384 : Shape := ⟨3, ![32, 80, 384]⟩
abbrev S384 : Shape := ⟨1, ![384]⟩
abbrev S384x320 : Shape := ⟨2, ![384, 320]⟩
abbrev S768 : Shape := ⟨1, ![768]⟩
abbrev S_ : Shape := ⟨0, ![]⟩
abbrev S16 : Shape := ⟨1, ![16]⟩
abbrev S1 : Shape := ⟨1, ![1]⟩
abbrev S1x320 : Shape := ⟨2, ![1, 320]⟩
abbrev S320 : Shape := ⟨1, ![320]⟩
abbrev S1x1x1x320 : Shape := ⟨4, ![1, 1, 1, 320]⟩
abbrev S1x1x768 : Shape := ⟨3, ![1, 1, 768]⟩
abbrev S1x1x384 : Shape := ⟨3, ![1, 1, 384]⟩
abbrev S32x80x64x6x2 : Shape := ⟨5, ![32, 80, 64, 6, 2]⟩
abbrev S32x80x64x6x1 : Shape := ⟨5, ![32, 80, 64, 6, 1]⟩
abbrev S32x1x64 : Shape := ⟨3, ![32, 1, 64]⟩
abbrev S32x80x64 : Shape := ⟨3, ![32, 80, 64]⟩
abbrev S32x64x6 : Shape := ⟨3, ![32, 64, 6]⟩

abbrev nBuf : Table → Nat
  | .hbm => 23
  | .local .tc .vmem => 5
  | .local .scVector .vmem => 5
  | _ => 0

abbrev bufTy : (tb : Table) → Fin (nBuf tb) → BufTy
  | .hbm, ⟨0, _⟩ => ⟨S32x64, .i1⟩
  | .hbm, ⟨1, _⟩ => ⟨S32x64x64, .f32⟩
  | .hbm, ⟨2, _⟩ => ⟨S32x64x64x80x4, .f32⟩
  | .hbm, ⟨3, _⟩ => ⟨S32x64x3, .f32⟩
  | .hbm, ⟨4, _⟩ => ⟨S32x64x64x320, .f32⟩
  | .hbm, ⟨5, _⟩ => ⟨S32x64x64x1x2, .f32⟩
  | .hbm, ⟨6, _⟩ => ⟨S32x64x64x2, .f32⟩
  | .hbm, ⟨7, _⟩ => ⟨S32x64x2x64, .f32⟩
  | .hbm, ⟨8, _⟩ => ⟨S2048x2x64, .f32⟩
  | .hbm, ⟨9, _⟩ => ⟨S2048x64, .f32⟩
  | .hbm, ⟨10, _⟩ => ⟨S2048x3, .f32⟩
  | .hbm, ⟨11, _⟩ => ⟨S2048x6, .f32⟩
  | .hbm, ⟨12, _⟩ => ⟨S2048x6, .i32⟩
  | .hbm, ⟨13, _⟩ => ⟨S12288, .i32⟩
  | .hbm, ⟨14, _⟩ => ⟨S32x80x768, .f32⟩
  | .hbm, ⟨15, _⟩ => ⟨S32x80x384, .f32⟩
  | .hbm, ⟨16, _⟩ => ⟨S32x80x384, .f32⟩
  | .hbm, ⟨17, _⟩ => ⟨S32x80x64x6x2, .f32⟩
  | .hbm, ⟨18, _⟩ => ⟨S32x80x64x6x1, .f32⟩
  | .hbm, ⟨19, _⟩ => ⟨S32x80x64x6x1, .f32⟩
  | .hbm, ⟨20, _⟩ => ⟨S32x1x64, .i1⟩
  | .hbm, ⟨21, _⟩ => ⟨S32x80x64, .i1⟩
  | .hbm, ⟨22, _⟩ => ⟨S32x64x6, .f32⟩
  | .local .tc .vmem, ⟨0, _⟩ => ⟨S2048x64, .f32⟩
  | .local .tc .vmem, ⟨1, _⟩ => ⟨S2048x3, .f32⟩
  | .local .tc .vmem, ⟨2, _⟩ => ⟨S2048x2x64, .f32⟩
  | .local .tc .vmem, ⟨3, _⟩ => ⟨S2048x6, .f32⟩
  | .local .tc .vmem, ⟨4, _⟩ => ⟨S2048x6, .i32⟩
  | .local .scVector .vmem, ⟨0, _⟩ => ⟨S384, .i32⟩
  | .local .scVector .vmem, ⟨1, _⟩ => ⟨S384x320, .f32⟩
  | .local .scVector .vmem, ⟨2, _⟩ => ⟨S768, .f32⟩
  | .local .scVector .vmem, ⟨3, _⟩ => ⟨S384, .f32⟩
  | .local .scVector .vmem, ⟨4, _⟩ => ⟨S384, .f32⟩
  | _, _ => ⟨S32x64, .i1⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v0_scv : Ref sig .scVector := ⟨.hbm, 4, rfl⟩
abbrev main_v8_scv : Ref sig .scVector := ⟨.hbm, 13, rfl⟩
abbrev main_v9_0_scv : Ref sig .scVector := ⟨.hbm, 14, rfl⟩
abbrev main_v9_1_scv : Ref sig .scVector := ⟨.hbm, 15, rfl⟩
abbrev main_v9_2_scv : Ref sig .scVector := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x6 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  ![v2.toNat]
@[reducible] def k1_t1_loop : Scf.Loop 32 :=
  let c0_i32 : BitVec 32 := 0#32
  let c24_i32 : BitVec 32 := 24#32
  let v3 : BitVec 32 := Scalar.addi c0_i32 c24_i32
  let c1_i32 : BitVec 32 := 1#32
  ⟨c0_i32, v3, c1_i32⟩
def k1_off2 (k1_t1 : Fin k1_t1_loop.trips) : Fin 1 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32 : BitVec 32 := 16#32
  let v9 : BitVec 32 := Scalar.muli v8 c16_i32
  let v10 : Index := Scalar.indexCast v9
  ![v10.toNat]
def k1_off3 (k1_t1 : Fin k1_t1_loop.trips) : Fin 2 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32_10 : BitVec 32 := 16#32
  let v14 : BitVec 32 := Scalar.muli v8 c16_i32_10
  let c0_i32_11 : BitVec 32 := 0#32
  let v15 : BitVec 32 := Scalar.addi v14 c0_i32_11
  let c0_i32_13 : BitVec 32 := 0#32
  ![v15.toNat, 0]
def k1_off4 (i : grid1.Coords) (v13 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v16 : BitVec 32 := Scalar.shrsi v13 c6_i32
  let c63_i32 : BitVec 32 := 63#32
  let v17 : BitVec 32 := Scalar.andi v16 c63_i32
  let c63_i32_12 : BitVec 32 := 63#32
  let v18 : BitVec 32 := Scalar.andi v13 c63_i32_12
  let c0_i32_14 : BitVec 32 := 0#32
  ![v1.toNat, v17.toNat, v18.toNat, 0]

def k1_chk1 (i : grid1.Coords) (v13 : BitVec 32) : Prop :=
  (∀ a, (k1_off4 i v13) a + S1x1x1x320.size a ≤ S32x64x64x320.size a)
theorem k1_off4_inb : ∀ (i : grid1.Coords) (v13 : BitVec 32) (k1_hw1 : k1_chk1 i v13), ∀ a, (k1_off4 i v13) a + S1x1x1x320.size a ≤ S32x64x64x320.size a := fun i v13 k1_hw1 => k1_hw1

def k1_off5 (k1_t1 : Fin k1_t1_loop.trips) (c0_i32_11 : BitVec 32) : Fin 2 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32_10 : BitVec 32 := 16#32
  let v14 : BitVec 32 := Scalar.muli v8 c16_i32_10
  let v15 : BitVec 32 := Scalar.addi v14 c0_i32_11
  let c0_i32_15 : BitVec 32 := 0#32
  ![v15.toNat, 0]
def k1_off6 (i : grid1.Coords) (v28 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_19 : BitVec 32 := 6#32
  let v31 : BitVec 32 := Scalar.shrsi v28 c6_i32_19
  let c63_i32_20 : BitVec 32 := 63#32
  let v32 : BitVec 32 := Scalar.andi v31 c63_i32_20
  let c63_i32_21 : BitVec 32 := 63#32
  let v33 : BitVec 32 := Scalar.andi v28 c63_i32_21
  let c0_i32_23 : BitVec 32 := 0#32
  ![v1.toNat, v32.toNat, v33.toNat, 0]

def k1_chk2 (i : grid1.Coords) (v28 : BitVec 32) : Prop :=
  (∀ a, (k1_off6 i v28) a + S1x1x1x320.size a ≤ S32x64x64x320.size a)
theorem k1_off6_inb : ∀ (i : grid1.Coords) (v28 : BitVec 32) (k1_hw2 : k1_chk2 i v28), ∀ a, (k1_off6 i v28) a + S1x1x1x320.size a ≤ S32x64x64x320.size a := fun i v28 k1_hw2 => k1_hw2

def k1_off7 (k1_t1 : Fin k1_t1_loop.trips) (c1_i32_18 : BitVec 32) : Fin 2 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32_17 : BitVec 32 := 16#32
  let v29 : BitVec 32 := Scalar.muli v8 c16_i32_17
  let v30 : BitVec 32 := Scalar.addi v29 c1_i32_18
  let c0_i32_24 : BitVec 32 := 0#32
  ![v30.toNat, 0]
def k1_off8 (i : grid1.Coords) (v43 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_28 : BitVec 32 := 6#32
  let v46 : BitVec 32 := Scalar.shrsi v43 c6_i32_28
  let c63_i32_29 : BitVec 32 := 63#32
  let v47 : BitVec 32 := Scalar.andi v46 c63_i32_29
  let c63_i32_30 : BitVec 32 := 63#32
  let v48 : BitVec 32 := Scalar.andi v43 c63_i32_30
  let c0_i32_32 : BitVec 32 := 0#32
  ![v1.toNat, v47.toNat, v48.toNat, 0]

def k1_chk3 (i : grid1.Coords) (v43 : BitVec 32) : Prop :=
  (∀ a, (k1_off8 i v43) a + S1x1x1x320.size a ≤ S32x64x64x320.size a)
theorem k1_off8_inb : ∀ (i : grid1.Coords) (v43 : BitVec 32) (k1_hw3 : k1_chk3 i v43), ∀ a, (k1_off8 i v43) a + S1x1x1x320.size a ≤ S32x64x64x320.size a := fun i v43 k1_hw3 => k1_hw3

def k1_off9 (k1_t1 : Fin k1_t1_loop.trips) (c2_i32_27 : BitVec 32) : Fin 2 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32_26 : BitVec 32 := 16#32
  let v44 : BitVec 32 := Scalar.muli v8 c16_i32_26
  let v45 : BitVec 32 := Scalar.addi v44 c2_i32_27
  let c0_i32_33 : BitVec 32 := 0#32
  ![v45.toNat, 0]
def k1_off10 (i : grid1.Coords) (v58 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_36 : BitVec 32 := 6#32
  let v61 : BitVec 32 := Scalar.shrsi v58 c6_i32_36
  let c63_i32_37 : BitVec 32 := 63#32
  let v62 : BitVec 32 := Scalar.andi v61 c63_i32_37
  let c63_i32_38 : BitVec 32 := 63#32
  let v63 : BitVec 32 := Scalar.andi v58 c63_i32_38
  let c0_i32_40 : BitVec 32 := 0#32
  ![v1.toNat, v62.toNat, v63.toNat, 0]

def k1_chk4 (i : grid1.Coords) (v58 : BitVec 32) : Prop :=
  (∀ a, (k1_off10 i v58) a + S1x1x1x320.size a ≤ S32x64x64x320.size a)
theorem k1_off10_inb : ∀ (i : grid1.Coords) (v58 : BitVec 32) (k1_hw4 : k1_chk4 i v58), ∀ a, (k1_off10 i v58) a + S1x1x1x320.size a ≤ S32x64x64x320.size a := fun i v58 k1_hw4 => k1_hw4

def k1_off11 (k1_t1 : Fin k1_t1_loop.trips) (c3_i32 : BitVec 32) : Fin 2 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32_35 : BitVec 32 := 16#32
  let v59 : BitVec 32 := Scalar.muli v8 c16_i32_35
  let v60 : BitVec 32 := Scalar.addi v59 c3_i32
  let c0_i32_41 : BitVec 32 := 0#32
  ![v60.toNat, 0]
def k1_off12 (i : grid1.Coords) (v73 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_44 : BitVec 32 := 6#32
  let v76 : BitVec 32 := Scalar.shrsi v73 c6_i32_44
  let c63_i32_45 : BitVec 32 := 63#32
  let v77 : BitVec 32 := Scalar.andi v76 c63_i32_45
  let c63_i32_46 : BitVec 32 := 63#32
  let v78 : BitVec 32 := Scalar.andi v73 c63_i32_46
  let c0_i32_48 : BitVec 32 := 0#32
  ![v1.toNat, v77.toNat, v78.toNat, 0]

def k1_chk5 (i : grid1.Coords) (v73 : BitVec 32) : Prop :=
  (∀ a, (k1_off12 i v73) a + S1x1x1x320.size a ≤ S32x64x64x320.size a)
theorem k1_off12_inb : ∀ (i : grid1.Coords) (v73 : BitVec 32) (k1_hw5 : k1_chk5 i v73), ∀ a, (k1_off12 i v73) a + S1x1x1x320.size a ≤ S32x64x64x320.size a := fun i v73 k1_hw5 => k1_hw5

def k1_off13 (k1_t1 : Fin k1_t1_loop.trips) (c4_i32 : BitVec 32) : Fin 2 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32_43 : BitVec 32 := 16#32
  let v74 : BitVec 32 := Scalar.muli v8 c16_i32_43
  let v75 : BitVec 32 := Scalar.addi v74 c4_i32
  let c0_i32_49 : BitVec 32 := 0#32
  ![v75.toNat, 0]
def k1_off14 (i : grid1.Coords) (v88 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_52 : BitVec 32 := 6#32
  let v91 : BitVec 32 := Scalar.shrsi v88 c6_i32_52
  let c63_i32_53 : BitVec 32 := 63#32
  let v92 : BitVec 32 := Scalar.andi v91 c63_i32_53
  let c63_i32_54 : BitVec 32 := 63#32
  let v93 : BitVec 32 := Scalar.andi v88 c63_i32_54
  let c0_i32_56 : BitVec 32 := 0#32
  ![v1.toNat, v92.toNat, v93.toNat, 0]

def k1_chk6 (i : grid1.Coords) (v88 : BitVec 32) : Prop :=
  (∀ a, (k1_off14 i v88) a + S1x1x1x320.size a ≤ S32x64x64x320.size a)
theorem k1_off14_inb : ∀ (i : grid1.Coords) (v88 : BitVec 32) (k1_hw6 : k1_chk6 i v88), ∀ a, (k1_off14 i v88) a + S1x1x1x320.size a ≤ S32x64x64x320.size a := fun i v88 k1_hw6 => k1_hw6

def k1_off15 (k1_t1 : Fin k1_t1_loop.trips) (c5_i32 : BitVec 32) : Fin 2 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32_51 : BitVec 32 := 16#32
  let v89 : BitVec 32 := Scalar.muli v8 c16_i32_51
  let v90 : BitVec 32 := Scalar.addi v89 c5_i32
  let c0_i32_57 : BitVec 32 := 0#32
  ![v90.toNat, 0]
def k1_off16 (i : grid1.Coords) (v103 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_61 : BitVec 32 := 6#32
  let v106 : BitVec 32 := Scalar.shrsi v103 c6_i32_61
  let c63_i32_62 : BitVec 32 := 63#32
  let v107 : BitVec 32 := Scalar.andi v106 c63_i32_62
  let c63_i32_63 : BitVec 32 := 63#32
  let v108 : BitVec 32 := Scalar.andi v103 c63_i32_63
  let c0_i32_65 : BitVec 32 := 0#32
  ![v1.toNat, v107.toNat, v108.toNat, 0]

def k1_chk7 (i : grid1.Coords) (v103 : BitVec 32) : Prop :=
  (∀ a, (k1_off16 i v103) a + S1x1x1x320.size a ≤ S32x64x64x320.size a)
theorem k1_off16_inb : ∀ (i : grid1.Coords) (v103 : BitVec 32) (k1_hw7 : k1_chk7 i v103), ∀ a, (k1_off16 i v103) a + S1x1x1x320.size a ≤ S32x64x64x320.size a := fun i v103 k1_hw7 => k1_hw7

def k1_off17 (k1_t1 : Fin k1_t1_loop.trips) (c6_i32_60 : BitVec 32) : Fin 2 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32_59 : BitVec 32 := 16#32
  let v104 : BitVec 32 := Scalar.muli v8 c16_i32_59
  let v105 : BitVec 32 := Scalar.addi v104 c6_i32_60
  let c0_i32_66 : BitVec 32 := 0#32
  ![v105.toNat, 0]
def k1_off18 (i : grid1.Coords) (v118 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_69 : BitVec 32 := 6#32
  let v121 : BitVec 32 := Scalar.shrsi v118 c6_i32_69
  let c63_i32_70 : BitVec 32 := 63#32
  let v122 : BitVec 32 := Scalar.andi v121 c63_i32_70
  let c63_i32_71 : BitVec 32 := 63#32
  let v123 : BitVec 32 := Scalar.andi v118 c63_i32_71
  let c0_i32_73 : BitVec 32 := 0#32
  ![v1.toNat, v122.toNat, v123.toNat, 0]

def k1_chk8 (i : grid1.Coords) (v118 : BitVec 32) : Prop :=
  (∀ a, (k1_off18 i v118) a + S1x1x1x320.size a ≤ S32x64x64x320.size a)
theorem k1_off18_inb : ∀ (i : grid1.Coords) (v118 : BitVec 32) (k1_hw8 : k1_chk8 i v118), ∀ a, (k1_off18 i v118) a + S1x1x1x320.size a ≤ S32x64x64x320.size a := fun i v118 k1_hw8 => k1_hw8

def k1_off19 (k1_t1 : Fin k1_t1_loop.trips) (c7_i32 : BitVec 32) : Fin 2 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32_68 : BitVec 32 := 16#32
  let v119 : BitVec 32 := Scalar.muli v8 c16_i32_68
  let v120 : BitVec 32 := Scalar.addi v119 c7_i32
  let c0_i32_74 : BitVec 32 := 0#32
  ![v120.toNat, 0]
def k1_off20 (i : grid1.Coords) (v133 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_77 : BitVec 32 := 6#32
  let v136 : BitVec 32 := Scalar.shrsi v133 c6_i32_77
  let c63_i32_78 : BitVec 32 := 63#32
  let v137 : BitVec 32 := Scalar.andi v136 c63_i32_78
  let c63_i32_79 : BitVec 32 := 63#32
  let v138 : BitVec 32 := Scalar.andi v133 c63_i32_79
  let c0_i32_81 : BitVec 32 := 0#32
  ![v1.toNat, v137.toNat, v138.toNat, 0]

def k1_chk9 (i : grid1.Coords) (v133 : BitVec 32) : Prop :=
  (∀ a, (k1_off20 i v133) a + S1x1x1x320.size a ≤ S32x64x64x320.size a)
theorem k1_off20_inb : ∀ (i : grid1.Coords) (v133 : BitVec 32) (k1_hw9 : k1_chk9 i v133), ∀ a, (k1_off20 i v133) a + S1x1x1x320.size a ≤ S32x64x64x320.size a := fun i v133 k1_hw9 => k1_hw9

def k1_off21 (k1_t1 : Fin k1_t1_loop.trips) (c8_i32 : BitVec 32) : Fin 2 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32_76 : BitVec 32 := 16#32
  let v134 : BitVec 32 := Scalar.muli v8 c16_i32_76
  let v135 : BitVec 32 := Scalar.addi v134 c8_i32
  let c0_i32_82 : BitVec 32 := 0#32
  ![v135.toNat, 0]
def k1_off22 (i : grid1.Coords) (v148 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_85 : BitVec 32 := 6#32
  let v151 : BitVec 32 := Scalar.shrsi v148 c6_i32_85
  let c63_i32_86 : BitVec 32 := 63#32
  let v152 : BitVec 32 := Scalar.andi v151 c63_i32_86
  let c63_i32_87 : BitVec 32 := 63#32
  let v153 : BitVec 32 := Scalar.andi v148 c63_i32_87
  let c0_i32_89 : BitVec 32 := 0#32
  ![v1.toNat, v152.toNat, v153.toNat, 0]

def k1_chk10 (i : grid1.Coords) (v148 : BitVec 32) : Prop :=
  (∀ a, (k1_off22 i v148) a + S1x1x1x320.size a ≤ S32x64x64x320.size a)
theorem k1_off22_inb : ∀ (i : grid1.Coords) (v148 : BitVec 32) (k1_hw10 : k1_chk10 i v148), ∀ a, (k1_off22 i v148) a + S1x1x1x320.size a ≤ S32x64x64x320.size a := fun i v148 k1_hw10 => k1_hw10

def k1_off23 (k1_t1 : Fin k1_t1_loop.trips) (c9_i32 : BitVec 32) : Fin 2 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32_84 : BitVec 32 := 16#32
  let v149 : BitVec 32 := Scalar.muli v8 c16_i32_84
  let v150 : BitVec 32 := Scalar.addi v149 c9_i32
  let c0_i32_90 : BitVec 32 := 0#32
  ![v150.toNat, 0]
def k1_off24 (i : grid1.Coords) (v163 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_93 : BitVec 32 := 6#32
  let v166 : BitVec 32 := Scalar.shrsi v163 c6_i32_93
  let c63_i32_94 : BitVec 32 := 63#32
  let v167 : BitVec 32 := Scalar.andi v166 c63_i32_94
  let c63_i32_95 : BitVec 32 := 63#32
  let v168 : BitVec 32 := Scalar.andi v163 c63_i32_95
  let c0_i32_97 : BitVec 32 := 0#32
  ![v1.toNat, v167.toNat, v168.toNat, 0]

def k1_chk11 (i : grid1.Coords) (v163 : BitVec 32) : Prop :=
  (∀ a, (k1_off24 i v163) a + S1x1x1x320.size a ≤ S32x64x64x320.size a)
theorem k1_off24_inb : ∀ (i : grid1.Coords) (v163 : BitVec 32) (k1_hw11 : k1_chk11 i v163), ∀ a, (k1_off24 i v163) a + S1x1x1x320.size a ≤ S32x64x64x320.size a := fun i v163 k1_hw11 => k1_hw11

def k1_off25 (k1_t1 : Fin k1_t1_loop.trips) (c10_i32 : BitVec 32) : Fin 2 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32_92 : BitVec 32 := 16#32
  let v164 : BitVec 32 := Scalar.muli v8 c16_i32_92
  let v165 : BitVec 32 := Scalar.addi v164 c10_i32
  let c0_i32_98 : BitVec 32 := 0#32
  ![v165.toNat, 0]
def k1_off26 (i : grid1.Coords) (v178 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_101 : BitVec 32 := 6#32
  let v181 : BitVec 32 := Scalar.shrsi v178 c6_i32_101
  let c63_i32_102 : BitVec 32 := 63#32
  let v182 : BitVec 32 := Scalar.andi v181 c63_i32_102
  let c63_i32_103 : BitVec 32 := 63#32
  let v183 : BitVec 32 := Scalar.andi v178 c63_i32_103
  let c0_i32_105 : BitVec 32 := 0#32
  ![v1.toNat, v182.toNat, v183.toNat, 0]

def k1_chk12 (i : grid1.Coords) (v178 : BitVec 32) : Prop :=
  (∀ a, (k1_off26 i v178) a + S1x1x1x320.size a ≤ S32x64x64x320.size a)
theorem k1_off26_inb : ∀ (i : grid1.Coords) (v178 : BitVec 32) (k1_hw12 : k1_chk12 i v178), ∀ a, (k1_off26 i v178) a + S1x1x1x320.size a ≤ S32x64x64x320.size a := fun i v178 k1_hw12 => k1_hw12

def k1_off27 (k1_t1 : Fin k1_t1_loop.trips) (c11_i32 : BitVec 32) : Fin 2 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32_100 : BitVec 32 := 16#32
  let v179 : BitVec 32 := Scalar.muli v8 c16_i32_100
  let v180 : BitVec 32 := Scalar.addi v179 c11_i32
  let c0_i32_106 : BitVec 32 := 0#32
  ![v180.toNat, 0]
def k1_off28 (i : grid1.Coords) (v193 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_109 : BitVec 32 := 6#32
  let v196 : BitVec 32 := Scalar.shrsi v193 c6_i32_109
  let c63_i32_110 : BitVec 32 := 63#32
  let v197 : BitVec 32 := Scalar.andi v196 c63_i32_110
  let c63_i32_111 : BitVec 32 := 63#32
  let v198 : BitVec 32 := Scalar.andi v193 c63_i32_111
  let c0_i32_113 : BitVec 32 := 0#32
  ![v1.toNat, v197.toNat, v198.toNat, 0]

def k1_chk13 (i : grid1.Coords) (v193 : BitVec 32) : Prop :=
  (∀ a, (k1_off28 i v193) a + S1x1x1x320.size a ≤ S32x64x64x320.size a)
theorem k1_off28_inb : ∀ (i : grid1.Coords) (v193 : BitVec 32) (k1_hw13 : k1_chk13 i v193), ∀ a, (k1_off28 i v193) a + S1x1x1x320.size a ≤ S32x64x64x320.size a := fun i v193 k1_hw13 => k1_hw13

def k1_off29 (k1_t1 : Fin k1_t1_loop.trips) (c12_i32 : BitVec 32) : Fin 2 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32_108 : BitVec 32 := 16#32
  let v194 : BitVec 32 := Scalar.muli v8 c16_i32_108
  let v195 : BitVec 32 := Scalar.addi v194 c12_i32
  let c0_i32_114 : BitVec 32 := 0#32
  ![v195.toNat, 0]
def k1_off30 (i : grid1.Coords) (v208 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_117 : BitVec 32 := 6#32
  let v211 : BitVec 32 := Scalar.shrsi v208 c6_i32_117
  let c63_i32_118 : BitVec 32 := 63#32
  let v212 : BitVec 32 := Scalar.andi v211 c63_i32_118
  let c63_i32_119 : BitVec 32 := 63#32
  let v213 : BitVec 32 := Scalar.andi v208 c63_i32_119
  let c0_i32_121 : BitVec 32 := 0#32
  ![v1.toNat, v212.toNat, v213.toNat, 0]

def k1_chk14 (i : grid1.Coords) (v208 : BitVec 32) : Prop :=
  (∀ a, (k1_off30 i v208) a + S1x1x1x320.size a ≤ S32x64x64x320.size a)
theorem k1_off30_inb : ∀ (i : grid1.Coords) (v208 : BitVec 32) (k1_hw14 : k1_chk14 i v208), ∀ a, (k1_off30 i v208) a + S1x1x1x320.size a ≤ S32x64x64x320.size a := fun i v208 k1_hw14 => k1_hw14

def k1_off31 (k1_t1 : Fin k1_t1_loop.trips) (c13_i32 : BitVec 32) : Fin 2 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32_116 : BitVec 32 := 16#32
  let v209 : BitVec 32 := Scalar.muli v8 c16_i32_116
  let v210 : BitVec 32 := Scalar.addi v209 c13_i32
  let c0_i32_122 : BitVec 32 := 0#32
  ![v210.toNat, 0]
def k1_off32 (i : grid1.Coords) (v223 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_125 : BitVec 32 := 6#32
  let v226 : BitVec 32 := Scalar.shrsi v223 c6_i32_125
  let c63_i32_126 : BitVec 32 := 63#32
  let v227 : BitVec 32 := Scalar.andi v226 c63_i32_126
  let c63_i32_127 : BitVec 32 := 63#32
  let v228 : BitVec 32 := Scalar.andi v223 c63_i32_127
  let c0_i32_129 : BitVec 32 := 0#32
  ![v1.toNat, v227.toNat, v228.toNat, 0]

def k1_chk15 (i : grid1.Coords) (v223 : BitVec 32) : Prop :=
  (∀ a, (k1_off32 i v223) a + S1x1x1x320.size a ≤ S32x64x64x320.size a)
theorem k1_off32_inb : ∀ (i : grid1.Coords) (v223 : BitVec 32) (k1_hw15 : k1_chk15 i v223), ∀ a, (k1_off32 i v223) a + S1x1x1x320.size a ≤ S32x64x64x320.size a := fun i v223 k1_hw15 => k1_hw15

def k1_off33 (k1_t1 : Fin k1_t1_loop.trips) (c14_i32 : BitVec 32) : Fin 2 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32_124 : BitVec 32 := 16#32
  let v224 : BitVec 32 := Scalar.muli v8 c16_i32_124
  let v225 : BitVec 32 := Scalar.addi v224 c14_i32
  let c0_i32_130 : BitVec 32 := 0#32
  ![v225.toNat, 0]
def k1_off34 (i : grid1.Coords) (v238 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_133 : BitVec 32 := 6#32
  let v241 : BitVec 32 := Scalar.shrsi v238 c6_i32_133
  let c63_i32_134 : BitVec 32 := 63#32
  let v242 : BitVec 32 := Scalar.andi v241 c63_i32_134
  let c63_i32_135 : BitVec 32 := 63#32
  let v243 : BitVec 32 := Scalar.andi v238 c63_i32_135
  let c0_i32_137 : BitVec 32 := 0#32
  ![v1.toNat, v242.toNat, v243.toNat, 0]

def k1_chk16 (i : grid1.Coords) (v238 : BitVec 32) : Prop :=
  (∀ a, (k1_off34 i v238) a + S1x1x1x320.size a ≤ S32x64x64x320.size a)
theorem k1_off34_inb : ∀ (i : grid1.Coords) (v238 : BitVec 32) (k1_hw16 : k1_chk16 i v238), ∀ a, (k1_off34 i v238) a + S1x1x1x320.size a ≤ S32x64x64x320.size a := fun i v238 k1_hw16 => k1_hw16

def k1_off35 (k1_t1 : Fin k1_t1_loop.trips) : Fin 2 → Nat :=
  let c0_i32_9 : BitVec 32 := 0#32
  let c0_i32 : BitVec 32 := 0#32
  let c1_i32 : BitVec 32 := 1#32
  let arg13 : BitVec 32 := Scf.iv c0_i32 c1_i32 k1_t1
  let c1_i32_8 : BitVec 32 := 1#32
  let v7 : BitVec 32 := Scalar.muli arg13 c1_i32_8
  let v8 : BitVec 32 := Scalar.addi c0_i32_9 v7
  let c16_i32_132 : BitVec 32 := 16#32
  let v239 : BitVec 32 := Scalar.muli v8 c16_i32_132
  let c15_i32 : BitVec 32 := 15#32
  let v240 : BitVec 32 := Scalar.addi v239 c15_i32
  let c0_i32_138 : BitVec 32 := 0#32
  ![v240.toNat, 0]
@[reducible] def k1_t2_loop : Scf.Loop 32 :=
  let c0_i32_1 : BitVec 32 := 0#32
  let c384_i32_2 : BitVec 32 := 384#32
  let v4 : BitVec 32 := Scalar.addi c0_i32_1 c384_i32_2
  let c1_i32_3 : BitVec 32 := 1#32
  ⟨c0_i32_1, v4, c1_i32_3⟩
def k1_off36 (k1_t2 : Fin k1_t2_loop.trips) : Fin 2 → Nat :=
  let c0_i32_9 : BitVec 32 := 0#32
  let c0_i32_1 : BitVec 32 := 0#32
  let c1_i32_3 : BitVec 32 := 1#32
  let arg13 : BitVec 32 := Scf.iv c0_i32_1 c1_i32_3 k1_t2
  let c1_i32_8 : BitVec 32 := 1#32
  let v7 : BitVec 32 := Scalar.muli arg13 c1_i32_8
  let v8 : BitVec 32 := Scalar.addi c0_i32_9 v7
  let c0_i32_12 : BitVec 32 := 0#32
  ![v8.toNat, 0]
def k1_off37 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10 : BitVec 32 := 0#32
  let c0_i32_11 : BitVec 32 := 0#32
  let c0_i32_13 : BitVec 32 := 0#32
  ![v1.toNat, 0, 0, 0]
@[reducible] def k1_t3_loop : Scf.Loop 32 :=
  let c0_i32_5 : BitVec 32 := 0#32
  let c80_i32 : BitVec 32 := 80#32
  let v6 : BitVec 32 := Scalar.addi c0_i32_5 c80_i32
  let c1_i32_6 : BitVec 32 := 1#32
  ⟨c0_i32_5, v6, c1_i32_6⟩
@[reducible] def k1_t4_loop : Scf.Loop 32 :=
  let c0_i32_10 : BitVec 32 := 0#32
  let c48_i32 : BitVec 32 := 48#32
  let v10 : BitVec 32 := Scalar.addi c0_i32_10 c48_i32
  let c1_i32_11 : BitVec 32 := 1#32
  ⟨c0_i32_10, v10, c1_i32_11⟩

def k1_chk17 (v18 : IVec S16 32) (v22 : IVec S16 32) : Prop :=
  (∀ a x, ((![v18, v22] : Fin 2 → IVec S16 32) a x).toNat < S384x320.size a)
theorem k1_idx1_inb : ∀ (v18 : IVec S16 32) (v22 : IVec S16 32) (k1_hw17 : k1_chk17 v18 v22), ∀ a x, ((![v18, v22] : Fin 2 → IVec S16 32) a x).toNat < S384x320.size a := fun v18 v22 k1_hw17 => k1_hw17
def k1_off38 (k1_t4 : Fin k1_t4_loop.trips) : Fin 1 → Nat :=
  let c0_i32_18 : BitVec 32 := 0#32
  let c0_i32_10 : BitVec 32 := 0#32
  let c1_i32_11 : BitVec 32 := 1#32
  let arg14 : BitVec 32 := Scf.iv c0_i32_10 c1_i32_11 k1_t4
  let c1_i32_17 : BitVec 32 := 1#32
  let v12 : BitVec 32 := Scalar.muli arg14 c1_i32_17
  let v13 : BitVec 32 := Scalar.addi c0_i32_18 v12
  let c16_i32_21 : BitVec 32 := 16#32
  let v24 : BitVec 32 := Scalar.muli v13 c16_i32_21
  let v25 : Index := Scalar.indexCast v24
  ![v25.toNat]
@[reducible] def k1_t5_loop : Scf.Loop 32 :=
  let c0_i32_13 : BitVec 32 := 0#32
  let c24_i32_14 : BitVec 32 := 24#32
  let v11 : BitVec 32 := Scalar.addi c0_i32_13 c24_i32_14
  let c1_i32_15 : BitVec 32 := 1#32
  ⟨c0_i32_13, v11, c1_i32_15⟩

def k1_chk18 (v16 : IVec S16 32) (v18 : IVec S16 32) : Prop :=
  (∀ a x, ((![v16, v18] : Fin 2 → IVec S16 32) a x).toNat < S384x320.size a)
theorem k1_idx2_inb : ∀ (v16 : IVec S16 32) (v18 : IVec S16 32) (k1_hw18 : k1_chk18 v16 v18), ∀ a x, ((![v16, v18] : Fin 2 → IVec S16 32) a x).toNat < S384x320.size a := fun v16 v18 k1_hw18 => k1_hw18
def k1_off39 (k1_t5 : Fin k1_t5_loop.trips) : Fin 1 → Nat :=
  let c0_i32_18 : BitVec 32 := 0#32
  let c0_i32_13 : BitVec 32 := 0#32
  let c1_i32_15 : BitVec 32 := 1#32
  let arg14 : BitVec 32 := Scf.iv c0_i32_13 c1_i32_15 k1_t5
  let c1_i32_17 : BitVec 32 := 1#32
  let v12 : BitVec 32 := Scalar.muli arg14 c1_i32_17
  let v13 : BitVec 32 := Scalar.addi c0_i32_18 v12
  let c16_i32_20 : BitVec 32 := 16#32
  let v20 : BitVec 32 := Scalar.muli v13 c16_i32_20
  let v21 : Index := Scalar.indexCast v20
  ![v21.toNat]

def k1_chk19 (v16 : IVec S16 32) (v24 : IVec S16 32) : Prop :=
  (∀ a x, ((![v16, v24] : Fin 2 → IVec S16 32) a x).toNat < S384x320.size a)
theorem k1_idx3_inb : ∀ (v16 : IVec S16 32) (v24 : IVec S16 32) (k1_hw19 : k1_chk19 v16 v24), ∀ a x, ((![v16, v24] : Fin 2 → IVec S16 32) a x).toNat < S384x320.size a := fun v16 v24 k1_hw19 => k1_hw19
def k1_off40 (k1_t5 : Fin k1_t5_loop.trips) : Fin 1 → Nat :=
  let c0_i32_18 : BitVec 32 := 0#32
  let c0_i32_13 : BitVec 32 := 0#32
  let c1_i32_15 : BitVec 32 := 1#32
  let arg14 : BitVec 32 := Scf.iv c0_i32_13 c1_i32_15 k1_t5
  let c1_i32_17 : BitVec 32 := 1#32
  let v12 : BitVec 32 := Scalar.muli arg14 c1_i32_17
  let v13 : BitVec 32 := Scalar.addi c0_i32_18 v12
  let c16_i32_21 : BitVec 32 := 16#32
  let v26 : BitVec 32 := Scalar.muli v13 c16_i32_21
  let v27 : Index := Scalar.indexCast v26
  ![v27.toNat]
def k1_off41 (i : grid1.Coords) (k1_t3 : Fin k1_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c0_i32_5 : BitVec 32 := 0#32
  let c1_i32_6 : BitVec 32 := 1#32
  let arg13 : BitVec 32 := Scf.iv c0_i32_5 c1_i32_6 k1_t3
  let c1_i32_8 : BitVec 32 := 1#32
  let v7 : BitVec 32 := Scalar.muli arg13 c1_i32_8
  let v8 : BitVec 32 := Scalar.addi c0_i32_9 v7
  let c0_i32_17_r1 : BitVec 32 := 0#32
  ![v1.toNat, v8.toNat, 0]
def k1_off42 (i : grid1.Coords) (k1_t3 : Fin k1_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c0_i32_5 : BitVec 32 := 0#32
  let c1_i32_6 : BitVec 32 := 1#32
  let arg13 : BitVec 32 := Scf.iv c0_i32_5 c1_i32_6 k1_t3
  let c1_i32_8 : BitVec 32 := 1#32
  let v7 : BitVec 32 := Scalar.muli arg13 c1_i32_8
  let v8 : BitVec 32 := Scalar.addi c0_i32_9 v7
  let c0_i32_17_r2 : BitVec 32 := 0#32
  ![v1.toNat, v8.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x64 : Shape := ⟨2, ![32, 64]⟩
abbrev S32x64x64 : Shape := ⟨3, ![32, 64, 64]⟩
abbrev S32x64x64x80x4 : Shape := ⟨5, ![32, 64, 64, 80, 4]⟩
abbrev S32x64x3 : Shape := ⟨3, ![32, 64, 3]⟩
abbrev S_ : Shape := ⟨0, ![]⟩
abbrev S32x64x1 : Shape := ⟨3, ![32, 64, 1]⟩
abbrev S32x64x1x1 : Shape := ⟨4, ![32, 64, 1, 1]⟩
abbrev S32x64x64x80x2 : Shape := ⟨5, ![32, 64, 64, 80, 2]⟩
abbrev S32x64x64x1x2 : Shape := ⟨5, ![32, 64, 64, 1, 2]⟩
abbrev S32x64x64x2 : Shape := ⟨4, ![32, 64, 64, 2]⟩
abbrev S32x64x1x64x2 : Shape := ⟨5, ![32, 64, 1, 64, 2]⟩
abbrev S32x64x64x64x2 : Shape := ⟨5, ![32, 64, 64, 64, 2]⟩
abbrev S32x64x64x64 : Shape := ⟨4, ![32, 64, 64, 64]⟩
abbrev S32 : Shape := ⟨1, ![32]⟩
abbrev S32x1 : Shape := ⟨2, ![32, 1]⟩
abbrev S64 : Shape := ⟨1, ![64]⟩
abbrev S1x64 : Shape := ⟨2, ![1, 64]⟩
abbrev S32x64x6 : Shape := ⟨3, ![32, 64, 6]⟩
abbrev S32x1x1 : Shape := ⟨3, ![32, 1, 1]⟩
abbrev S1x64x1 : Shape := ⟨3, ![1, 64, 1]⟩
abbrev S32x64x6x1 : Shape := ⟨4, ![32, 64, 6, 1]⟩
abbrev S32x64x6x3 : Shape := ⟨4, ![32, 64, 6, 3]⟩
abbrev S32x64x6x80x4 : Shape := ⟨5, ![32, 64, 6, 80, 4]⟩
abbrev S32x80x64x6x4 : Shape := ⟨5, ![32, 80, 64, 6, 4]⟩
abbrev S32x80x64x6x2 : Shape := ⟨5, ![32, 80, 64, 6, 2]⟩
abbrev S32x80x64x6x1 : Shape := ⟨5, ![32, 80, 64, 6, 1]⟩
abbrev S32x1x64 : Shape := ⟨3, ![32, 1, 64]⟩
abbrev S32x80x64 : Shape := ⟨3, ![32, 80, 64]⟩

abbrev nBuf : Space → Nat
  | .hbm => 574
  | .vmem => 0
  | .smem => 0
  | _ => 0

abbrev hbmTy0_0 (i : Nat) : BufTy := match i % 128 with
  | 0 => ⟨S32x64, .i1⟩
  | 1 => ⟨S32x64x64, .f32⟩
  | 2 => ⟨S32x64x64x80x4, .f32⟩
  | 3 => ⟨S32x64x3, .f32⟩
  | 4 => ⟨S_, .f32⟩
  | 5 => ⟨S32x64, .f32⟩
  | 6 => ⟨S32x64x1, .f32⟩
  | 7 => ⟨S32x64x64, .f32⟩
  | 8 => ⟨S32x64x64, .f32⟩
  | 9 => ⟨S32x64x1, .f32⟩
  | 10 => ⟨S32x64, .f32⟩
  | 11 => ⟨S_, .f32⟩
  | 12 => ⟨S32x64, .f32⟩
  | 13 => ⟨S32x64, .f32⟩
  | 14 => ⟨S_, .f32⟩
  | 15 => ⟨S32x64, .f32⟩
  | 16 => ⟨S32x64, .f32⟩
  | 17 => ⟨S32x64x1, .f32⟩
  | 18 => ⟨S32x64, .f32⟩
  | 19 => ⟨S_, .f32⟩
  | 20 => ⟨S32x64, .f32⟩
  | 21 => ⟨S32x64, .f32⟩
  | 22 => ⟨S32x64, .f32⟩
  | 23 => ⟨S32x64x1, .f32⟩
  | 24 => ⟨S32x64, .f32⟩
  | 25 => ⟨S_, .f32⟩
  | 26 => ⟨S32x64, .f32⟩
  | 27 => ⟨S32x64, .f32⟩
  | 28 => ⟨S32x64, .f32⟩
  | 29 => ⟨S32x64x1x1, .f32⟩
  | 30 => ⟨S32x64x64x80x2, .f32⟩
  | 31 => ⟨S32x64x64x1x2, .f32⟩
  | 32 => ⟨S32x64x64x2, .f32⟩
  | 33 => ⟨S32x64x1x64x2, .f32⟩
  | 34 => ⟨S32x64x64x1x2, .f32⟩
  | 35 => ⟨S32x64x64x64x2, .f32⟩
  | 36 => ⟨S32x64x64x64x2, .f32⟩
  | 37 => ⟨S32x64x64x64x2, .f32⟩
  | 38 => ⟨S32x64x64x64x2, .f32⟩
  | 39 => ⟨S_, .f32⟩
  | 40 => ⟨S32x64x64x64, .f32⟩
  | 41 => ⟨S32x64x64x64, .f32⟩
  | 42 => ⟨S32x64x64x64, .f32⟩
  | 43 => ⟨S32x64x64x64, .i1⟩
  | 44 => ⟨S32, .i32⟩
  | 45 => ⟨S32x1, .i32⟩
  | 46 => ⟨S64, .i32⟩
  | 47 => ⟨S1x64, .i32⟩
  | 48 => ⟨S32x64x64, .i32⟩
  | 49 => ⟨S_, .f32⟩
  | 50 => ⟨S_, .i32⟩
  | 51 => ⟨S32x64, .f32⟩
  | 52 => ⟨S32x64, .i32⟩
  | 53 => ⟨S_, .i32⟩
  | 54 => ⟨S32x1, .i32⟩
  | 55 => ⟨S32x1, .i1⟩
  | 56 => ⟨S_, .i32⟩
  | 57 => ⟨S32x1, .i32⟩
  | 58 => ⟨S32x1, .i32⟩
  | 59 => ⟨S32x1, .i32⟩
  | 60 => ⟨S_, .i32⟩
  | 61 => ⟨S1x64, .i32⟩
  | 62 => ⟨S1x64, .i1⟩
  | 63 => ⟨S_, .i32⟩
  | 64 => ⟨S1x64, .i32⟩
  | 65 => ⟨S1x64, .i32⟩
  | 66 => ⟨S1x64, .i32⟩
  | 67 => ⟨S_, .i32⟩
  | 68 => ⟨S32x64, .i32⟩
  | 69 => ⟨S32x64, .i1⟩
  | 70 => ⟨S_, .i32⟩
  | 71 => ⟨S32x64, .i32⟩
  | 72 => ⟨S32x64, .i32⟩
  | 73 => ⟨S32x64, .i32⟩
  | 74 => ⟨S32x64, .i32⟩
  | 75 => ⟨S32x64, .i32⟩
  | 76 => ⟨S32x64x1, .i32⟩
  | 77 => ⟨S32x64x1, .i32⟩
  | 78 => ⟨S32x64x1, .i32⟩
  | 79 => ⟨S32x64x3, .i32⟩
  | 80 => ⟨S32x64x64, .i1⟩
  | 81 => ⟨S32x64x64, .i1⟩
  | 82 => ⟨S32x64x64, .f32⟩
  | 83 => ⟨S_, .f32⟩
  | 84 => ⟨S32x64x64, .f32⟩
  | 85 => ⟨S32x64x64, .f32⟩
  | 86 => ⟨S_, .f32⟩
  | 87 => ⟨S32x64x64, .f32⟩
  | 88 => ⟨S32x64x64, .f32⟩
  | 89 => ⟨S32x64x64, .f32⟩
  | 90 => ⟨S_, .i32⟩
  | 91 => ⟨S32x1, .i32⟩
  | 92 => ⟨S32x1, .i1⟩
  | 93 => ⟨S_, .i32⟩
  | 94 => ⟨S32x1, .i32⟩
  | 95 => ⟨S32x1, .i32⟩
  | 96 => ⟨S32x1, .i32⟩
  | 97 => ⟨S_, .i32⟩
  | 98 => ⟨S1x64, .i32⟩
  | 99 => ⟨S1x64, .i1⟩
  | 100 => ⟨S_, .i32⟩
  | 101 => ⟨S1x64, .i32⟩
  | 102 => ⟨S1x64, .i32⟩
  | 103 => ⟨S1x64, .i32⟩
  | 104 => ⟨S_, .i32⟩
  | 105 => ⟨S32x64, .i32⟩
  | 106 => ⟨S32x64, .i1⟩
  | 107 => ⟨S_, .i32⟩
  | 108 => ⟨S32x64, .i32⟩
  | 109 => ⟨S32x64, .i32⟩
  | 110 => ⟨S32x64, .i32⟩
  | 111 => ⟨S32x64, .i32⟩
  | 112 => ⟨S32x64, .i32⟩
  | 113 => ⟨S32x64x1, .i32⟩
  | 114 => ⟨S32x64x1, .i32⟩
  | 115 => ⟨S32x64x1, .i32⟩
  | 116 => ⟨S32x64x3, .i32⟩
  | 117 => ⟨S_, .f32⟩
  | 118 => ⟨S32x64, .f32⟩
  | 119 => ⟨S32x64x64, .f32⟩
  | 120 => ⟨S32x64x64, .i32⟩
  | 121 => ⟨S_, .f32⟩
  | 122 => ⟨S_, .i32⟩
  | 123 => ⟨S32x64, .f32⟩
  | 124 => ⟨S32x64, .i32⟩
  | 125 => ⟨S_, .i32⟩
  | 126 => ⟨S32x1, .i32⟩
  | 127 => ⟨S32x1, .i1⟩
  | _ => ⟨S32x64, .i1⟩

abbrev hbmTy0_1 (i : Nat) : BufTy := match i % 128 with
  | 0 => ⟨S_, .i32⟩
  | 1 => ⟨S32x1, .i32⟩
  | 2 => ⟨S32x1, .i32⟩
  | 3 => ⟨S32x1, .i32⟩
  | 4 => ⟨S_, .i32⟩
  | 5 => ⟨S1x64, .i32⟩
  | 6 => ⟨S1x64, .i1⟩
  | 7 => ⟨S_, .i32⟩
  | 8 => ⟨S1x64, .i32⟩
  | 9 => ⟨S1x64, .i32⟩
  | 10 => ⟨S1x64, .i32⟩
  | 11 => ⟨S_, .i32⟩
  | 12 => ⟨S32x64, .i32⟩
  | 13 => ⟨S32x64, .i1⟩
  | 14 => ⟨S_, .i32⟩
  | 15 => ⟨S32x64, .i32⟩
  | 16 => ⟨S32x64, .i32⟩
  | 17 => ⟨S32x64, .i32⟩
  | 18 => ⟨S32x64, .i32⟩
  | 19 => ⟨S32x64, .i32⟩
  | 20 => ⟨S32x64x1, .i32⟩
  | 21 => ⟨S32x64x1, .i32⟩
  | 22 => ⟨S32x64x1, .i32⟩
  | 23 => ⟨S32x64x3, .i32⟩
  | 24 => ⟨S32x64x64, .i1⟩
  | 25 => ⟨S32x64x64, .i1⟩
  | 26 => ⟨S32x64x64, .f32⟩
  | 27 => ⟨S_, .f32⟩
  | 28 => ⟨S32x64x64, .f32⟩
  | 29 => ⟨S32x64x64, .f32⟩
  | 30 => ⟨S_, .f32⟩
  | 31 => ⟨S32x64x64, .f32⟩
  | 32 => ⟨S32x64x64, .f32⟩
  | 33 => ⟨S32x64x64, .f32⟩
  | 34 => ⟨S_, .i32⟩
  | 35 => ⟨S32x1, .i32⟩
  | 36 => ⟨S32x1, .i1⟩
  | 37 => ⟨S_, .i32⟩
  | 38 => ⟨S32x1, .i32⟩
  | 39 => ⟨S32x1, .i32⟩
  | 40 => ⟨S32x1, .i32⟩
  | 41 => ⟨S_, .i32⟩
  | 42 => ⟨S1x64, .i32⟩
  | 43 => ⟨S1x64, .i1⟩
  | 44 => ⟨S_, .i32⟩
  | 45 => ⟨S1x64, .i32⟩
  | 46 => ⟨S1x64, .i32⟩
  | 47 => ⟨S1x64, .i32⟩
  | 48 => ⟨S_, .i32⟩
  | 49 => ⟨S32x64, .i32⟩
  | 50 => ⟨S32x64, .i1⟩
  | 51 => ⟨S_, .i32⟩
  | 52 => ⟨S32x64, .i32⟩
  | 53 => ⟨S32x64, .i32⟩
  | 54 => ⟨S32x64, .i32⟩
  | 55 => ⟨S32x64, .i32⟩
  | 56 => ⟨S32x64, .i32⟩
  | 57 => ⟨S32x64x1, .i32⟩
  | 58 => ⟨S32x64x1, .i32⟩
  | 59 => ⟨S32x64x1, .i32⟩
  | 60 => ⟨S32x64x3, .i32⟩
  | 61 => ⟨S_, .f32⟩
  | 62 => ⟨S32x64, .f32⟩
  | 63 => ⟨S32x64x64, .f32⟩
  | 64 => ⟨S32x64x64, .i32⟩
  | 65 => ⟨S_, .f32⟩
  | 66 => ⟨S_, .i32⟩
  | 67 => ⟨S32x64, .f32⟩
  | 68 => ⟨S32x64, .i32⟩
  | 69 => ⟨S_, .i32⟩
  | 70 => ⟨S32x1, .i32⟩
  | 71 => ⟨S32x1, .i1⟩
  | 72 => ⟨S_, .i32⟩
  | 73 => ⟨S32x1, .i32⟩
  | 74 => ⟨S32x1, .i32⟩
  | 75 => ⟨S32x1, .i32⟩
  | 76 => ⟨S_, .i32⟩
  | 77 => ⟨S1x64, .i32⟩
  | 78 => ⟨S1x64, .i1⟩
  | 79 => ⟨S_, .i32⟩
  | 80 => ⟨S1x64, .i32⟩
  | 81 => ⟨S1x64, .i32⟩
  | 82 => ⟨S1x64, .i32⟩
  | 83 => ⟨S_, .i32⟩
  | 84 => ⟨S32x64, .i32⟩
  | 85 => ⟨S32x64, .i1⟩
  | 86 => ⟨S_, .i32⟩
  | 87 => ⟨S32x64, .i32⟩
  | 88 => ⟨S32x64, .i32⟩
  | 89 => ⟨S32x64, .i32⟩
  | 90 => ⟨S32x64, .i32⟩
  | 91 => ⟨S32x64, .i32⟩
  | 92 => ⟨S32x64x1, .i32⟩
  | 93 => ⟨S32x64x1, .i32⟩
  | 94 => ⟨S32x64x1, .i32⟩
  | 95 => ⟨S32x64x3, .i32⟩
  | 96 => ⟨S32x64x64, .i1⟩
  | 97 => ⟨S32x64x64, .i1⟩
  | 98 => ⟨S32x64x64, .f32⟩
  | 99 => ⟨S_, .f32⟩
  | 100 => ⟨S32x64x64, .f32⟩
  | 101 => ⟨S32x64x64, .f32⟩
  | 102 => ⟨S_, .f32⟩
  | 103 => ⟨S32x64x64, .f32⟩
  | 104 => ⟨S32x64x64, .f32⟩
  | 105 => ⟨S32x64x64, .f32⟩
  | 106 => ⟨S_, .i32⟩
  | 107 => ⟨S32x1, .i32⟩
  | 108 => ⟨S32x1, .i1⟩
  | 109 => ⟨S_, .i32⟩
  | 110 => ⟨S32x1, .i32⟩
  | 111 => ⟨S32x1, .i32⟩
  | 112 => ⟨S32x1, .i32⟩
  | 113 => ⟨S_, .i32⟩
  | 114 => ⟨S1x64, .i32⟩
  | 115 => ⟨S1x64, .i1⟩
  | 116 => ⟨S_, .i32⟩
  | 117 => ⟨S1x64, .i32⟩
  | 118 => ⟨S1x64, .i32⟩
  | 119 => ⟨S1x64, .i32⟩
  | 120 => ⟨S_, .i32⟩
  | 121 => ⟨S32x64, .i32⟩
  | 122 => ⟨S32x64, .i1⟩
  | 123 => ⟨S_, .i32⟩
  | 124 => ⟨S32x64, .i32⟩
  | 125 => ⟨S32x64, .i32⟩
  | 126 => ⟨S32x64, .i32⟩
  | 127 => ⟨S32x64, .i32⟩
  | _ => ⟨S32x64, .i1⟩

abbrev hbmTy0_2 (i : Nat) : BufTy := match i % 128 with
  | 0 => ⟨S32x64, .i32⟩
  | 1 => ⟨S32x64x1, .i32⟩
  | 2 => ⟨S32x64x1, .i32⟩
  | 3 => ⟨S32x64x1, .i32⟩
  | 4 => ⟨S32x64x3, .i32⟩
  | 5 => ⟨S_, .f32⟩
  | 6 => ⟨S32x64, .f32⟩
  | 7 => ⟨S32x64x64, .f32⟩
  | 8 => ⟨S32x64x64, .i32⟩
  | 9 => ⟨S_, .f32⟩
  | 10 => ⟨S_, .i32⟩
  | 11 => ⟨S32x64, .f32⟩
  | 12 => ⟨S32x64, .i32⟩
  | 13 => ⟨S_, .i32⟩
  | 14 => ⟨S32x1, .i32⟩
  | 15 => ⟨S32x1, .i1⟩
  | 16 => ⟨S_, .i32⟩
  | 17 => ⟨S32x1, .i32⟩
  | 18 => ⟨S32x1, .i32⟩
  | 19 => ⟨S32x1, .i32⟩
  | 20 => ⟨S_, .i32⟩
  | 21 => ⟨S1x64, .i32⟩
  | 22 => ⟨S1x64, .i1⟩
  | 23 => ⟨S_, .i32⟩
  | 24 => ⟨S1x64, .i32⟩
  | 25 => ⟨S1x64, .i32⟩
  | 26 => ⟨S1x64, .i32⟩
  | 27 => ⟨S_, .i32⟩
  | 28 => ⟨S32x64, .i32⟩
  | 29 => ⟨S32x64, .i1⟩
  | 30 => ⟨S_, .i32⟩
  | 31 => ⟨S32x64, .i32⟩
  | 32 => ⟨S32x64, .i32⟩
  | 33 => ⟨S32x64, .i32⟩
  | 34 => ⟨S32x64, .i32⟩
  | 35 => ⟨S32x64, .i32⟩
  | 36 => ⟨S32x64x1, .i32⟩
  | 37 => ⟨S32x64x1, .i32⟩
  | 38 => ⟨S32x64x1, .i32⟩
  | 39 => ⟨S32x64x3, .i32⟩
  | 40 => ⟨S32x64x64, .i1⟩
  | 41 => ⟨S32x64x64, .i1⟩
  | 42 => ⟨S32x64x64, .f32⟩
  | 43 => ⟨S_, .f32⟩
  | 44 => ⟨S32x64x64, .f32⟩
  | 45 => ⟨S32x64x64, .f32⟩
  | 46 => ⟨S_, .f32⟩
  | 47 => ⟨S32x64x64, .f32⟩
  | 48 => ⟨S32x64x64, .f32⟩
  | 49 => ⟨S32x64x64, .f32⟩
  | 50 => ⟨S_, .i32⟩
  | 51 => ⟨S32x1, .i32⟩
  | 52 => ⟨S32x1, .i1⟩
  | 53 => ⟨S_, .i32⟩
  | 54 => ⟨S32x1, .i32⟩
  | 55 => ⟨S32x1, .i32⟩
  | 56 => ⟨S32x1, .i32⟩
  | 57 => ⟨S_, .i32⟩
  | 58 => ⟨S1x64, .i32⟩
  | 59 => ⟨S1x64, .i1⟩
  | 60 => ⟨S_, .i32⟩
  | 61 => ⟨S1x64, .i32⟩
  | 62 => ⟨S1x64, .i32⟩
  | 63 => ⟨S1x64, .i32⟩
  | 64 => ⟨S_, .i32⟩
  | 65 => ⟨S32x64, .i32⟩
  | 66 => ⟨S32x64, .i1⟩
  | 67 => ⟨S_, .i32⟩
  | 68 => ⟨S32x64, .i32⟩
  | 69 => ⟨S32x64, .i32⟩
  | 70 => ⟨S32x64, .i32⟩
  | 71 => ⟨S32x64, .i32⟩
  | 72 => ⟨S32x64, .i32⟩
  | 73 => ⟨S32x64x1, .i32⟩
  | 74 => ⟨S32x64x1, .i32⟩
  | 75 => ⟨S32x64x1, .i32⟩
  | 76 => ⟨S32x64x3, .i32⟩
  | 77 => ⟨S_, .f32⟩
  | 78 => ⟨S32x64, .f32⟩
  | 79 => ⟨S32x64x64, .f32⟩
  | 80 => ⟨S32x64x64, .i32⟩
  | 81 => ⟨S_, .f32⟩
  | 82 => ⟨S_, .i32⟩
  | 83 => ⟨S32x64, .f32⟩
  | 84 => ⟨S32x64, .i32⟩
  | 85 => ⟨S_, .i32⟩
  | 86 => ⟨S32x1, .i32⟩
  | 87 => ⟨S32x1, .i1⟩
  | 88 => ⟨S_, .i32⟩
  | 89 => ⟨S32x1, .i32⟩
  | 90 => ⟨S32x1, .i32⟩
  | 91 => ⟨S32x1, .i32⟩
  | 92 => ⟨S_, .i32⟩
  | 93 => ⟨S1x64, .i32⟩
  | 94 => ⟨S1x64, .i1⟩
  | 95 => ⟨S_, .i32⟩
  | 96 => ⟨S1x64, .i32⟩
  | 97 => ⟨S1x64, .i32⟩
  | 98 => ⟨S1x64, .i32⟩
  | 99 => ⟨S_, .i32⟩
  | 100 => ⟨S32x64, .i32⟩
  | 101 => ⟨S32x64, .i1⟩
  | 102 => ⟨S_, .i32⟩
  | 103 => ⟨S32x64, .i32⟩
  | 104 => ⟨S32x64, .i32⟩
  | 105 => ⟨S32x64, .i32⟩
  | 106 => ⟨S32x64, .i32⟩
  | 107 => ⟨S32x64, .i32⟩
  | 108 => ⟨S32x64x1, .i32⟩
  | 109 => ⟨S32x64x1, .i32⟩
  | 110 => ⟨S32x64x1, .i32⟩
  | 111 => ⟨S32x64x3, .i32⟩
  | 112 => ⟨S32x64x64, .i1⟩
  | 113 => ⟨S32x64x64, .i1⟩
  | 114 => ⟨S32x64x64, .f32⟩
  | 115 => ⟨S_, .f32⟩
  | 116 => ⟨S32x64x64, .f32⟩
  | 117 => ⟨S32x64x64, .f32⟩
  | 118 => ⟨S_, .f32⟩
  | 119 => ⟨S32x64x64, .f32⟩
  | 120 => ⟨S32x64x64, .f32⟩
  | 121 => ⟨S32x64x64, .f32⟩
  | 122 => ⟨S_, .i32⟩
  | 123 => ⟨S32x1, .i32⟩
  | 124 => ⟨S32x1, .i1⟩
  | 125 => ⟨S_, .i32⟩
  | 126 => ⟨S32x1, .i32⟩
  | 127 => ⟨S32x1, .i32⟩
  | _ => ⟨S32x64, .i1⟩

abbrev hbmTy0_3 (i : Nat) : BufTy := match i % 128 with
  | 0 => ⟨S32x1, .i32⟩
  | 1 => ⟨S_, .i32⟩
  | 2 => ⟨S1x64, .i32⟩
  | 3 => ⟨S1x64, .i1⟩
  | 4 => ⟨S_, .i32⟩
  | 5 => ⟨S1x64, .i32⟩
  | 6 => ⟨S1x64, .i32⟩
  | 7 => ⟨S1x64, .i32⟩
  | 8 => ⟨S_, .i32⟩
  | 9 => ⟨S32x64, .i32⟩
  | 10 => ⟨S32x64, .i1⟩
  | 11 => ⟨S_, .i32⟩
  | 12 => ⟨S32x64, .i32⟩
  | 13 => ⟨S32x64, .i32⟩
  | 14 => ⟨S32x64, .i32⟩
  | 15 => ⟨S32x64, .i32⟩
  | 16 => ⟨S32x64, .i32⟩
  | 17 => ⟨S32x64x1, .i32⟩
  | 18 => ⟨S32x64x1, .i32⟩
  | 19 => ⟨S32x64x1, .i32⟩
  | 20 => ⟨S32x64x3, .i32⟩
  | 21 => ⟨S_, .f32⟩
  | 22 => ⟨S32x64, .f32⟩
  | 23 => ⟨S32x64x64, .f32⟩
  | 24 => ⟨S32x64x64, .i32⟩
  | 25 => ⟨S_, .f32⟩
  | 26 => ⟨S_, .i32⟩
  | 27 => ⟨S32x64, .f32⟩
  | 28 => ⟨S32x64, .i32⟩
  | 29 => ⟨S_, .i32⟩
  | 30 => ⟨S32x1, .i32⟩
  | 31 => ⟨S32x1, .i1⟩
  | 32 => ⟨S_, .i32⟩
  | 33 => ⟨S32x1, .i32⟩
  | 34 => ⟨S32x1, .i32⟩
  | 35 => ⟨S32x1, .i32⟩
  | 36 => ⟨S_, .i32⟩
  | 37 => ⟨S1x64, .i32⟩
  | 38 => ⟨S1x64, .i1⟩
  | 39 => ⟨S_, .i32⟩
  | 40 => ⟨S1x64, .i32⟩
  | 41 => ⟨S1x64, .i32⟩
  | 42 => ⟨S1x64, .i32⟩
  | 43 => ⟨S_, .i32⟩
  | 44 => ⟨S32x64, .i32⟩
  | 45 => ⟨S32x64, .i1⟩
  | 46 => ⟨S_, .i32⟩
  | 47 => ⟨S32x64, .i32⟩
  | 48 => ⟨S32x64, .i32⟩
  | 49 => ⟨S32x64, .i32⟩
  | 50 => ⟨S32x64, .i32⟩
  | 51 => ⟨S32x64, .i32⟩
  | 52 => ⟨S32x64x1, .i32⟩
  | 53 => ⟨S32x64x1, .i32⟩
  | 54 => ⟨S32x64x1, .i32⟩
  | 55 => ⟨S32x64x3, .i32⟩
  | 56 => ⟨S32x64x64, .i1⟩
  | 57 => ⟨S32x64x64, .i1⟩
  | 58 => ⟨S32x64x64, .f32⟩
  | 59 => ⟨S_, .f32⟩
  | 60 => ⟨S32x64x64, .f32⟩
  | 61 => ⟨S32x64x64, .f32⟩
  | 62 => ⟨S_, .f32⟩
  | 63 => ⟨S32x64x64, .f32⟩
  | 64 => ⟨S32x64x64, .f32⟩
  | 65 => ⟨S32x64x64, .f32⟩
  | 66 => ⟨S_, .i32⟩
  | 67 => ⟨S32x1, .i32⟩
  | 68 => ⟨S32x1, .i1⟩
  | 69 => ⟨S_, .i32⟩
  | 70 => ⟨S32x1, .i32⟩
  | 71 => ⟨S32x1, .i32⟩
  | 72 => ⟨S32x1, .i32⟩
  | 73 => ⟨S_, .i32⟩
  | 74 => ⟨S1x64, .i32⟩
  | 75 => ⟨S1x64, .i1⟩
  | 76 => ⟨S_, .i32⟩
  | 77 => ⟨S1x64, .i32⟩
  | 78 => ⟨S1x64, .i32⟩
  | 79 => ⟨S1x64, .i32⟩
  | 80 => ⟨S_, .i32⟩
  | 81 => ⟨S32x64, .i32⟩
  | 82 => ⟨S32x64, .i1⟩
  | 83 => ⟨S_, .i32⟩
  | 84 => ⟨S32x64, .i32⟩
  | 85 => ⟨S32x64, .i32⟩
  | 86 => ⟨S32x64, .i32⟩
  | 87 => ⟨S32x64, .i32⟩
  | 88 => ⟨S32x64, .i32⟩
  | 89 => ⟨S32x64x1, .i32⟩
  | 90 => ⟨S32x64x1, .i32⟩
  | 91 => ⟨S32x64x1, .i32⟩
  | 92 => ⟨S32x64x3, .i32⟩
  | 93 => ⟨S_, .f32⟩
  | 94 => ⟨S32x64, .f32⟩
  | 95 => ⟨S32x64x64, .f32⟩
  | 96 => ⟨S32x64x1, .i32⟩
  | 97 => ⟨S32x64x1, .i32⟩
  | 98 => ⟨S32x64x1, .i32⟩
  | 99 => ⟨S32x64x1, .i32⟩
  | 100 => ⟨S32x64x1, .i32⟩
  | 101 => ⟨S32x64x1, .i32⟩
  | 102 => ⟨S32x64x6, .i32⟩
  | 103 => ⟨S32x1x1, .i32⟩
  | 104 => ⟨S1x64x1, .i32⟩
  | 105 => ⟨S_, .i32⟩
  | 106 => ⟨S32x1x1, .i32⟩
  | 107 => ⟨S32x1x1, .i1⟩
  | 108 => ⟨S_, .i32⟩
  | 109 => ⟨S32x1x1, .i32⟩
  | 110 => ⟨S32x1x1, .i32⟩
  | 111 => ⟨S32x1x1, .i32⟩
  | 112 => ⟨S_, .i32⟩
  | 113 => ⟨S1x64x1, .i32⟩
  | 114 => ⟨S1x64x1, .i1⟩
  | 115 => ⟨S_, .i32⟩
  | 116 => ⟨S1x64x1, .i32⟩
  | 117 => ⟨S1x64x1, .i32⟩
  | 118 => ⟨S1x64x1, .i32⟩
  | 119 => ⟨S_, .i32⟩
  | 120 => ⟨S32x64x6, .i32⟩
  | 121 => ⟨S32x64x6, .i1⟩
  | 122 => ⟨S_, .i32⟩
  | 123 => ⟨S32x64x6, .i32⟩
  | 124 => ⟨S32x64x6, .i32⟩
  | 125 => ⟨S32x64x6, .i32⟩
  | 126 => ⟨S32x64x6, .i32⟩
  | 127 => ⟨S32x64x6, .i32⟩
  | _ => ⟨S32x64, .i1⟩

abbrev hbmTy0_4 (i : Nat) : BufTy := match i % 128 with
  | 0 => ⟨S32x64x6x1, .i32⟩
  | 1 => ⟨S32x64x6x1, .i32⟩
  | 2 => ⟨S32x64x6x1, .i32⟩
  | 3 => ⟨S32x64x6x3, .i32⟩
  | 4 => ⟨S32x64x6x80x4, .f32⟩
  | 5 => ⟨S_, .i32⟩
  | 6 => ⟨S32x1x1, .i32⟩
  | 7 => ⟨S32x1x1, .i1⟩
  | 8 => ⟨S_, .i32⟩
  | 9 => ⟨S32x1x1, .i32⟩
  | 10 => ⟨S32x1x1, .i32⟩
  | 11 => ⟨S32x1x1, .i32⟩
  | 12 => ⟨S_, .i32⟩
  | 13 => ⟨S1x64x1, .i32⟩
  | 14 => ⟨S1x64x1, .i1⟩
  | 15 => ⟨S_, .i32⟩
  | 16 => ⟨S1x64x1, .i32⟩
  | 17 => ⟨S1x64x1, .i32⟩
  | 18 => ⟨S1x64x1, .i32⟩
  | 19 => ⟨S_, .i32⟩
  | 20 => ⟨S32x64x6, .i32⟩
  | 21 => ⟨S32x64x6, .i1⟩
  | 22 => ⟨S_, .i32⟩
  | 23 => ⟨S32x64x6, .i32⟩
  | 24 => ⟨S32x64x6, .i32⟩
  | 25 => ⟨S32x64x6, .i32⟩
  | 26 => ⟨S32x64x6, .i32⟩
  | 27 => ⟨S32x64x6, .i32⟩
  | 28 => ⟨S32x64x6x1, .i32⟩
  | 29 => ⟨S32x64x6x1, .i32⟩
  | 30 => ⟨S32x64x6x1, .i32⟩
  | 31 => ⟨S32x64x6x3, .i32⟩
  | 32 => ⟨S32x64x6, .f32⟩
  | 33 => ⟨S_, .f32⟩
  | 34 => ⟨S32x64, .f32⟩
  | 35 => ⟨S32x64x1, .f32⟩
  | 36 => ⟨S32x64x6, .f32⟩
  | 37 => ⟨S32x64x6, .f32⟩
  | 38 => ⟨S32x64x6, .f32⟩
  | 39 => ⟨S_, .f32⟩
  | 40 => ⟨S32x64x6, .f32⟩
  | 41 => ⟨S32x64x6, .f32⟩
  | 42 => ⟨S_, .f32⟩
  | 43 => ⟨S32x64, .f32⟩
  | 44 => ⟨S_, .f32⟩
  | 45 => ⟨S32x64, .f32⟩
  | 46 => ⟨S32x64, .f32⟩
  | 47 => ⟨S32x64x1, .f32⟩
  | 48 => ⟨S32x64x6, .f32⟩
  | 49 => ⟨S32x64x6, .f32⟩
  | 50 => ⟨S32x64x6, .f32⟩
  | 51 => ⟨S_, .f32⟩
  | 52 => ⟨S32x64, .f32⟩
  | 53 => ⟨S32x64x1, .f32⟩
  | 54 => ⟨S32x64x6, .f32⟩
  | 55 => ⟨S32x64x6, .f32⟩
  | 56 => ⟨S32x80x64x6x4, .f32⟩
  | 57 => ⟨S32x80x64x6x2, .f32⟩
  | 58 => ⟨S32x80x64x6x1, .f32⟩
  | 59 => ⟨S32x80x64x6x1, .f32⟩
  | 60 => ⟨S32x1x64, .i1⟩
  | 61 => ⟨S32x80x64, .i1⟩
  | _ => ⟨S32x64, .i1⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x64, .i1⟩

abbrev bufTy : (tb : Table) → Fin (tcTables nBuf tb) → BufTy
  | .hbm, ⟨i, _⟩ => hbmTy i
  | _, _ => ⟨S32x64, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call1_v0 : Ref sig .tc := ⟨.hbm, 48, rfl⟩
abbrev main_call1_cst : Ref sig .tc := ⟨.hbm, 49, rfl⟩
abbrev main_call1_c : Ref sig .tc := ⟨.hbm, 50, rfl⟩
abbrev main_call1_v1_0 : Ref sig .tc := ⟨.hbm, 51, rfl⟩
abbrev main_v36 : Ref sig .tc := ⟨.hbm, 52, rfl⟩
abbrev main_c : Ref sig .tc := ⟨.hbm, 53, rfl⟩
abbrev main_v37 : Ref sig .tc := ⟨.hbm, 54, rfl⟩
abbrev main_v38 : Ref sig .tc := ⟨.hbm, 55, rfl⟩
abbrev main_c_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_5 : Ref sig .tc := ⟨.hbm, 60, rfl⟩
abbrev main_v42 : Ref sig .tc := ⟨.hbm, 61, rfl⟩
abbrev main_v43 : Ref sig .tc := ⟨.hbm, 62, rfl⟩
abbrev main_c_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_7 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_11 : Ref sig .tc := ⟨.hbm, 90, rfl⟩
abbrev main_v66 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_13 : Ref sig .tc := ⟨.hbm, 97, rfl⟩
abbrev main_v71 : Ref sig .tc := ⟨.hbm, 98, rfl⟩
abbrev main_v72 : Ref sig .tc := ⟨.hbm, 99, rfl⟩
abbrev main_c_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_15 : Ref sig .tc := ⟨.hbm, 104, rfl⟩
abbrev main_v76 : Ref sig .tc := ⟨.hbm, 105, rfl⟩
abbrev main_v77 : Ref sig .tc := ⟨.hbm, 106, rfl⟩
abbrev main_c_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_17 : Ref sig .tc := ⟨.hbm, 117, rfl⟩
abbrev main_v87 : Ref sig .tc := ⟨.hbm, 118, rfl⟩
abbrev main_v88 : Ref sig .tc := ⟨.hbm, 119, rfl⟩
abbrev main_call2_v0 : Ref sig .tc := ⟨.hbm, 120, rfl⟩
abbrev main_call2_cst : Ref sig .tc := ⟨.hbm, 121, rfl⟩
abbrev main_call2_c : Ref sig .tc := ⟨.hbm, 122, rfl⟩
abbrev main_call2_v1_0 : Ref sig .tc := ⟨.hbm, 123, rfl⟩
abbrev main_v89 : Ref sig .tc := ⟨.hbm, 124, rfl⟩
abbrev main_c_18 : Ref sig .tc := ⟨.hbm, 125, rfl⟩
abbrev main_v90 : Ref sig .tc := ⟨.hbm, 126, rfl⟩
abbrev main_v91 : Ref sig .tc := ⟨.hbm, 127, rfl⟩
abbrev main_c_19 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_20 : Ref sig .tc := ⟨.hbm, 132, rfl⟩
abbrev main_v95 : Ref sig .tc := ⟨.hbm, 133, rfl⟩
abbrev main_v96 : Ref sig .tc := ⟨.hbm, 134, rfl⟩
abbrev main_c_21 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_c_22 : Ref sig .tc := ⟨.hbm, 139, rfl⟩
abbrev main_v100 : Ref sig .tc := ⟨.hbm, 140, rfl⟩
abbrev main_v101 : Ref sig .tc := ⟨.hbm, 141, rfl⟩
abbrev main_c_23 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_24 : Ref sig .tc := ⟨.hbm, 155, rfl⟩
abbrev main_v114 : Ref sig .tc := ⟨.hbm, 156, rfl⟩
abbrev main_v115 : Ref sig .tc := ⟨.hbm, 157, rfl⟩
abbrev main_cst_25 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_c_26 : Ref sig .tc := ⟨.hbm, 162, rfl⟩
abbrev main_v119 : Ref sig .tc := ⟨.hbm, 163, rfl⟩
abbrev main_v120 : Ref sig .tc := ⟨.hbm, 164, rfl⟩
abbrev main_c_27 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_c_28 : Ref sig .tc := ⟨.hbm, 169, rfl⟩
abbrev main_v124 : Ref sig .tc := ⟨.hbm, 170, rfl⟩
abbrev main_v125 : Ref sig .tc := ⟨.hbm, 171, rfl⟩
abbrev main_c_29 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_c_30 : Ref sig .tc := ⟨.hbm, 176, rfl⟩
abbrev main_v129 : Ref sig .tc := ⟨.hbm, 177, rfl⟩
abbrev main_v130 : Ref sig .tc := ⟨.hbm, 178, rfl⟩
abbrev main_c_31 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_32 : Ref sig .tc := ⟨.hbm, 189, rfl⟩
abbrev main_v140 : Ref sig .tc := ⟨.hbm, 190, rfl⟩
abbrev main_v141 : Ref sig .tc := ⟨.hbm, 191, rfl⟩
abbrev main_call3_v0 : Ref sig .tc := ⟨.hbm, 192, rfl⟩
abbrev main_call3_cst : Ref sig .tc := ⟨.hbm, 193, rfl⟩
abbrev main_call3_c : Ref sig .tc := ⟨.hbm, 194, rfl⟩
abbrev main_call3_v1_0 : Ref sig .tc := ⟨.hbm, 195, rfl⟩
abbrev main_v142 : Ref sig .tc := ⟨.hbm, 196, rfl⟩
abbrev main_c_33 : Ref sig .tc := ⟨.hbm, 197, rfl⟩
abbrev main_v143 : Ref sig .tc := ⟨.hbm, 198, rfl⟩
abbrev main_v144 : Ref sig .tc := ⟨.hbm, 199, rfl⟩
abbrev main_c_34 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_c_35 : Ref sig .tc := ⟨.hbm, 204, rfl⟩
abbrev main_v148 : Ref sig .tc := ⟨.hbm, 205, rfl⟩
abbrev main_v149 : Ref sig .tc := ⟨.hbm, 206, rfl⟩
abbrev main_c_36 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_c_37 : Ref sig .tc := ⟨.hbm, 211, rfl⟩
abbrev main_v153 : Ref sig .tc := ⟨.hbm, 212, rfl⟩
abbrev main_v154 : Ref sig .tc := ⟨.hbm, 213, rfl⟩
abbrev main_c_38 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_cst_39 : Ref sig .tc := ⟨.hbm, 227, rfl⟩
abbrev main_v167 : Ref sig .tc := ⟨.hbm, 228, rfl⟩
abbrev main_v168 : Ref sig .tc := ⟨.hbm, 229, rfl⟩
abbrev main_cst_40 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_c_41 : Ref sig .tc := ⟨.hbm, 234, rfl⟩
abbrev main_v172 : Ref sig .tc := ⟨.hbm, 235, rfl⟩
abbrev main_v173 : Ref sig .tc := ⟨.hbm, 236, rfl⟩
abbrev main_c_42 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_c_43 : Ref sig .tc := ⟨.hbm, 241, rfl⟩
abbrev main_v177 : Ref sig .tc := ⟨.hbm, 242, rfl⟩
abbrev main_v178 : Ref sig .tc := ⟨.hbm, 243, rfl⟩
abbrev main_c_44 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_c_45 : Ref sig .tc := ⟨.hbm, 248, rfl⟩
abbrev main_v182 : Ref sig .tc := ⟨.hbm, 249, rfl⟩
abbrev main_v183 : Ref sig .tc := ⟨.hbm, 250, rfl⟩
abbrev main_c_46 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_cst_47 : Ref sig .tc := ⟨.hbm, 261, rfl⟩
abbrev main_v193 : Ref sig .tc := ⟨.hbm, 262, rfl⟩
abbrev main_v194 : Ref sig .tc := ⟨.hbm, 263, rfl⟩
abbrev main_call4_v0 : Ref sig .tc := ⟨.hbm, 264, rfl⟩
abbrev main_call4_cst : Ref sig .tc := ⟨.hbm, 265, rfl⟩
abbrev main_call4_c : Ref sig .tc := ⟨.hbm, 266, rfl⟩
abbrev main_call4_v1_0 : Ref sig .tc := ⟨.hbm, 267, rfl⟩
abbrev main_v195 : Ref sig .tc := ⟨.hbm, 268, rfl⟩
abbrev main_c_48 : Ref sig .tc := ⟨.hbm, 269, rfl⟩
abbrev main_v196 : Ref sig .tc := ⟨.hbm, 270, rfl⟩
abbrev main_v197 : Ref sig .tc := ⟨.hbm, 271, rfl⟩
abbrev main_c_49 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_c_50 : Ref sig .tc := ⟨.hbm, 276, rfl⟩
abbrev main_v201 : Ref sig .tc := ⟨.hbm, 277, rfl⟩
abbrev main_v202 : Ref sig .tc := ⟨.hbm, 278, rfl⟩
abbrev main_c_51 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_c_52 : Ref sig .tc := ⟨.hbm, 283, rfl⟩
abbrev main_v206 : Ref sig .tc := ⟨.hbm, 284, rfl⟩
abbrev main_v207 : Ref sig .tc := ⟨.hbm, 285, rfl⟩
abbrev main_c_53 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_cst_54 : Ref sig .tc := ⟨.hbm, 299, rfl⟩
abbrev main_v220 : Ref sig .tc := ⟨.hbm, 300, rfl⟩
abbrev main_v221 : Ref sig .tc := ⟨.hbm, 301, rfl⟩
abbrev main_cst_55 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_c_56 : Ref sig .tc := ⟨.hbm, 306, rfl⟩
abbrev main_v225 : Ref sig .tc := ⟨.hbm, 307, rfl⟩
abbrev main_v226 : Ref sig .tc := ⟨.hbm, 308, rfl⟩
abbrev main_c_57 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_c_58 : Ref sig .tc := ⟨.hbm, 313, rfl⟩
abbrev main_v230 : Ref sig .tc := ⟨.hbm, 314, rfl⟩
abbrev main_v231 : Ref sig .tc := ⟨.hbm, 315, rfl⟩
abbrev main_c_59 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_c_60 : Ref sig .tc := ⟨.hbm, 320, rfl⟩
abbrev main_v235 : Ref sig .tc := ⟨.hbm, 321, rfl⟩
abbrev main_v236 : Ref sig .tc := ⟨.hbm, 322, rfl⟩
abbrev main_c_61 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_cst_62 : Ref sig .tc := ⟨.hbm, 333, rfl⟩
abbrev main_v246 : Ref sig .tc := ⟨.hbm, 334, rfl⟩
abbrev main_v247 : Ref sig .tc := ⟨.hbm, 335, rfl⟩
abbrev main_call5_v0 : Ref sig .tc := ⟨.hbm, 336, rfl⟩
abbrev main_call5_cst : Ref sig .tc := ⟨.hbm, 337, rfl⟩
abbrev main_call5_c : Ref sig .tc := ⟨.hbm, 338, rfl⟩
abbrev main_call5_v1_0 : Ref sig .tc := ⟨.hbm, 339, rfl⟩
abbrev main_v248 : Ref sig .tc := ⟨.hbm, 340, rfl⟩
abbrev main_c_63 : Ref sig .tc := ⟨.hbm, 341, rfl⟩
abbrev main_v249 : Ref sig .tc := ⟨.hbm, 342, rfl⟩
abbrev main_v250 : Ref sig .tc := ⟨.hbm, 343, rfl⟩
abbrev main_c_64 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩
abbrev main_c_65 : Ref sig .tc := ⟨.hbm, 348, rfl⟩
abbrev main_v254 : Ref sig .tc := ⟨.hbm, 349, rfl⟩
abbrev main_v255 : Ref sig .tc := ⟨.hbm, 350, rfl⟩
abbrev main_c_66 : Ref sig .tc := ⟨.hbm, 351, rfl⟩
abbrev main_v256 : Ref sig .tc := ⟨.hbm, 352, rfl⟩
abbrev main_v257 : Ref sig .tc := ⟨.hbm, 353, rfl⟩
abbrev main_v258 : Ref sig .tc := ⟨.hbm, 354, rfl⟩
abbrev main_c_67 : Ref sig .tc := ⟨.hbm, 355, rfl⟩
abbrev main_v259 : Ref sig .tc := ⟨.hbm, 356, rfl⟩
abbrev main_v260 : Ref sig .tc := ⟨.hbm, 357, rfl⟩
abbrev main_c_68 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_v264 : Ref sig .tc := ⟨.hbm, 362, rfl⟩
abbrev main_v265 : Ref sig .tc := ⟨.hbm, 363, rfl⟩
abbrev main_v266 : Ref sig .tc := ⟨.hbm, 364, rfl⟩
abbrev main_v267 : Ref sig .tc := ⟨.hbm, 365, rfl⟩
abbrev main_v268 : Ref sig .tc := ⟨.hbm, 366, rfl⟩
abbrev main_v269 : Ref sig .tc := ⟨.hbm, 367, rfl⟩
abbrev main_v270 : Ref sig .tc := ⟨.hbm, 368, rfl⟩
abbrev main_v271 : Ref sig .tc := ⟨.hbm, 369, rfl⟩
abbrev main_v272 : Ref sig .tc := ⟨.hbm, 370, rfl⟩
abbrev main_cst_69 : Ref sig .tc := ⟨.hbm, 371, rfl⟩
abbrev main_v273 : Ref sig .tc := ⟨.hbm, 372, rfl⟩
abbrev main_v274 : Ref sig .tc := ⟨.hbm, 373, rfl⟩
abbrev main_cst_70 : Ref sig .tc := ⟨.hbm, 374, rfl⟩
abbrev main_v275 : Ref sig .tc := ⟨.hbm, 375, rfl⟩
abbrev main_v276 : Ref sig .tc := ⟨.hbm, 376, rfl⟩
abbrev main_v277 : Ref sig .tc := ⟨.hbm, 377, rfl⟩
abbrev main_c_71 : Ref sig .tc := ⟨.hbm, 378, rfl⟩
abbrev main_v278 : Ref sig .tc := ⟨.hbm, 379, rfl⟩
abbrev main_v279 : Ref sig .tc := ⟨.hbm, 380, rfl⟩
abbrev main_c_72 : Ref sig .tc := ⟨.hbm, 381, rfl⟩
abbrev main_v280 : Ref sig .tc := ⟨.hbm, 382, rfl⟩
abbrev main_v281 : Ref sig .tc := ⟨.hbm, 383, rfl⟩
abbrev main_v282 : Ref sig .tc := ⟨.hbm, 384, rfl⟩
abbrev main_c_73 : Ref sig .tc := ⟨.hbm, 385, rfl⟩
abbrev main_v283 : Ref sig .tc := ⟨.hbm, 386, rfl⟩
abbrev main_v284 : Ref sig .tc := ⟨.hbm, 387, rfl⟩
abbrev main_c_74 : Ref sig .tc := ⟨.hbm, 388, rfl⟩
abbrev main_v285 : Ref sig .tc := ⟨.hbm, 389, rfl⟩
abbrev main_v286 : Ref sig .tc := ⟨.hbm, 390, rfl⟩
abbrev main_v287 : Ref sig .tc := ⟨.hbm, 391, rfl⟩
abbrev main_c_75 : Ref sig .tc := ⟨.hbm, 392, rfl⟩
abbrev main_v288 : Ref sig .tc := ⟨.hbm, 393, rfl⟩
abbrev main_v289 : Ref sig .tc := ⟨.hbm, 394, rfl⟩
abbrev main_c_76 : Ref sig .tc := ⟨.hbm, 395, rfl⟩
abbrev main_v290 : Ref sig .tc := ⟨.hbm, 396, rfl⟩
abbrev main_v291 : Ref sig .tc := ⟨.hbm, 397, rfl⟩
abbrev main_v292 : Ref sig .tc := ⟨.hbm, 398, rfl⟩
abbrev main_v293 : Ref sig .tc := ⟨.hbm, 399, rfl⟩
abbrev main_v294 : Ref sig .tc := ⟨.hbm, 400, rfl⟩
abbrev main_v295 : Ref sig .tc := ⟨.hbm, 401, rfl⟩
abbrev main_v296 : Ref sig .tc := ⟨.hbm, 402, rfl⟩
abbrev main_v297 : Ref sig .tc := ⟨.hbm, 403, rfl⟩
abbrev main_v298 : Ref sig .tc := ⟨.hbm, 404, rfl⟩
abbrev main_cst_77 : Ref sig .tc := ⟨.hbm, 405, rfl⟩
abbrev main_v299 : Ref sig .tc := ⟨.hbm, 406, rfl⟩
abbrev main_v300 : Ref sig .tc := ⟨.hbm, 407, rfl⟩
abbrev main_call6_v0 : Ref sig .tc := ⟨.hbm, 408, rfl⟩
abbrev main_call6_cst : Ref sig .tc := ⟨.hbm, 409, rfl⟩
abbrev main_call6_c : Ref sig .tc := ⟨.hbm, 410, rfl⟩
abbrev main_call6_v1_0 : Ref sig .tc := ⟨.hbm, 411, rfl⟩
abbrev main_v301 : Ref sig .tc := ⟨.hbm, 412, rfl⟩
abbrev main_c_78 : Ref sig .tc := ⟨.hbm, 413, rfl⟩
abbrev main_v302 : Ref sig .tc := ⟨.hbm, 414, rfl⟩
abbrev main_v303 : Ref sig .tc := ⟨.hbm, 415, rfl⟩
abbrev main_c_79 : Ref sig .tc := ⟨.hbm, 416, rfl⟩
abbrev main_v304 : Ref sig .tc := ⟨.hbm, 417, rfl⟩
abbrev main_v305 : Ref sig .tc := ⟨.hbm, 418, rfl⟩
abbrev main_v306 : Ref sig .tc := ⟨.hbm, 419, rfl⟩
abbrev main_c_80 : Ref sig .tc := ⟨.hbm, 420, rfl⟩
abbrev main_v307 : Ref sig .tc := ⟨.hbm, 421, rfl⟩
abbrev main_v308 : Ref sig .tc := ⟨.hbm, 422, rfl⟩
abbrev main_c_81 : Ref sig .tc := ⟨.hbm, 423, rfl⟩
abbrev main_v309 : Ref sig .tc := ⟨.hbm, 424, rfl⟩
abbrev main_v310 : Ref sig .tc := ⟨.hbm, 425, rfl⟩
abbrev main_v311 : Ref sig .tc := ⟨.hbm, 426, rfl⟩
abbrev main_c_82 : Ref sig .tc := ⟨.hbm, 427, rfl⟩
abbrev main_v312 : Ref sig .tc := ⟨.hbm, 428, rfl⟩
abbrev main_v313 : Ref sig .tc := ⟨.hbm, 429, rfl⟩
abbrev main_c_83 : Ref sig .tc := ⟨.hbm, 430, rfl⟩
abbrev main_v314 : Ref sig .tc := ⟨.hbm, 431, rfl⟩
abbrev main_v315 : Ref sig .tc := ⟨.hbm, 432, rfl⟩
abbrev main_v316 : Ref sig .tc := ⟨.hbm, 433, rfl⟩
abbrev main_v317 : Ref sig .tc := ⟨.hbm, 434, rfl⟩
abbrev main_v318 : Ref sig .tc := ⟨.hbm, 435, rfl⟩
abbrev main_v319 : Ref sig .tc := ⟨.hbm, 436, rfl⟩
abbrev main_v320 : Ref sig .tc := ⟨.hbm, 437, rfl⟩
abbrev main_v321 : Ref sig .tc := ⟨.hbm, 438, rfl⟩
abbrev main_v322 : Ref sig .tc := ⟨.hbm, 439, rfl⟩
abbrev main_v323 : Ref sig .tc := ⟨.hbm, 440, rfl⟩
abbrev main_v324 : Ref sig .tc := ⟨.hbm, 441, rfl⟩
abbrev main_v325 : Ref sig .tc := ⟨.hbm, 442, rfl⟩
abbrev main_cst_84 : Ref sig .tc := ⟨.hbm, 443, rfl⟩
abbrev main_v326 : Ref sig .tc := ⟨.hbm, 444, rfl⟩
abbrev main_v327 : Ref sig .tc := ⟨.hbm, 445, rfl⟩
abbrev main_cst_85 : Ref sig .tc := ⟨.hbm, 446, rfl⟩
abbrev main_v328 : Ref sig .tc := ⟨.hbm, 447, rfl⟩
abbrev main_v329 : Ref sig .tc := ⟨.hbm, 448, rfl⟩
abbrev main_v330 : Ref sig .tc := ⟨.hbm, 449, rfl⟩
abbrev main_c_86 : Ref sig .tc := ⟨.hbm, 450, rfl⟩
abbrev main_v331 : Ref sig .tc := ⟨.hbm, 451, rfl⟩
abbrev main_v332 : Ref sig .tc := ⟨.hbm, 452, rfl⟩
abbrev main_c_87 : Ref sig .tc := ⟨.hbm, 453, rfl⟩
abbrev main_v333 : Ref sig .tc := ⟨.hbm, 454, rfl⟩
abbrev main_v334 : Ref sig .tc := ⟨.hbm, 455, rfl⟩
abbrev main_v335 : Ref sig .tc := ⟨.hbm, 456, rfl⟩
abbrev main_c_88 : Ref sig .tc := ⟨.hbm, 457, rfl⟩
abbrev main_v336 : Ref sig .tc := ⟨.hbm, 458, rfl⟩
abbrev main_v337 : Ref sig .tc := ⟨.hbm, 459, rfl⟩
abbrev main_c_89 : Ref sig .tc := ⟨.hbm, 460, rfl⟩
abbrev main_v338 : Ref sig .tc := ⟨.hbm, 461, rfl⟩
abbrev main_v339 : Ref sig .tc := ⟨.hbm, 462, rfl⟩
abbrev main_v340 : Ref sig .tc := ⟨.hbm, 463, rfl⟩
abbrev main_c_90 : Ref sig .tc := ⟨.hbm, 464, rfl⟩
abbrev main_v341 : Ref sig .tc := ⟨.hbm, 465, rfl⟩
abbrev main_v342 : Ref sig .tc := ⟨.hbm, 466, rfl⟩
abbrev main_c_91 : Ref sig .tc := ⟨.hbm, 467, rfl⟩
abbrev main_v343 : Ref sig .tc := ⟨.hbm, 468, rfl⟩
abbrev main_v344 : Ref sig .tc := ⟨.hbm, 469, rfl⟩
abbrev main_v345 : Ref sig .tc := ⟨.hbm, 470, rfl⟩
abbrev main_v346 : Ref sig .tc := ⟨.hbm, 471, rfl⟩
abbrev main_v347 : Ref sig .tc := ⟨.hbm, 472, rfl⟩
abbrev main_v348 : Ref sig .tc := ⟨.hbm, 473, rfl⟩
abbrev main_v349 : Ref sig .tc := ⟨.hbm, 474, rfl⟩
abbrev main_v350 : Ref sig .tc := ⟨.hbm, 475, rfl⟩
abbrev main_v351 : Ref sig .tc := ⟨.hbm, 476, rfl⟩
abbrev main_cst_92 : Ref sig .tc := ⟨.hbm, 477, rfl⟩
abbrev main_v352 : Ref sig .tc := ⟨.hbm, 478, rfl⟩
abbrev main_v353 : Ref sig .tc := ⟨.hbm, 479, rfl⟩
abbrev main_v354 : Ref sig .tc := ⟨.hbm, 480, rfl⟩
abbrev main_v355 : Ref sig .tc := ⟨.hbm, 481, rfl⟩
abbrev main_v356 : Ref sig .tc := ⟨.hbm, 482, rfl⟩
abbrev main_v357 : Ref sig .tc := ⟨.hbm, 483, rfl⟩
abbrev main_v358 : Ref sig .tc := ⟨.hbm, 484, rfl⟩
abbrev main_v359 : Ref sig .tc := ⟨.hbm, 485, rfl⟩
abbrev main_v360 : Ref sig .tc := ⟨.hbm, 486, rfl⟩
abbrev main_v361 : Ref sig .tc := ⟨.hbm, 487, rfl⟩
abbrev main_v362 : Ref sig .tc := ⟨.hbm, 488, rfl⟩
abbrev main_c_93 : Ref sig .tc := ⟨.hbm, 489, rfl⟩
abbrev main_v363 : Ref sig .tc := ⟨.hbm, 490, rfl⟩
abbrev main_v364 : Ref sig .tc := ⟨.hbm, 491, rfl⟩
abbrev main_c_94 : Ref sig .tc := ⟨.hbm, 492, rfl⟩
abbrev main_v365 : Ref sig .tc := ⟨.hbm, 493, rfl⟩
abbrev main_v366 : Ref sig .tc := ⟨.hbm, 494, rfl⟩
abbrev main_v367 : Ref sig .tc := ⟨.hbm, 495, rfl⟩
abbrev main_c_95 : Ref sig .tc := ⟨.hbm, 496, rfl⟩
abbrev main_v368 : Ref sig .tc := ⟨.hbm, 497, rfl⟩
abbrev main_v369 : Ref sig .tc := ⟨.hbm, 498, rfl⟩
abbrev main_c_96 : Ref sig .tc := ⟨.hbm, 499, rfl⟩
abbrev main_v370 : Ref sig .tc := ⟨.hbm, 500, rfl⟩
abbrev main_v371 : Ref sig .tc := ⟨.hbm, 501, rfl⟩
abbrev main_v372 : Ref sig .tc := ⟨.hbm, 502, rfl⟩
abbrev main_c_97 : Ref sig .tc := ⟨.hbm, 503, rfl⟩
abbrev main_v373 : Ref sig .tc := ⟨.hbm, 504, rfl⟩
abbrev main_v374 : Ref sig .tc := ⟨.hbm, 505, rfl⟩
abbrev main_c_98 : Ref sig .tc := ⟨.hbm, 506, rfl⟩
abbrev main_v375 : Ref sig .tc := ⟨.hbm, 507, rfl⟩
abbrev main_v376 : Ref sig .tc := ⟨.hbm, 508, rfl⟩
abbrev main_v377 : Ref sig .tc := ⟨.hbm, 509, rfl⟩
abbrev main_v378 : Ref sig .tc := ⟨.hbm, 510, rfl⟩
abbrev main_v379 : Ref sig .tc := ⟨.hbm, 511, rfl⟩
abbrev main_v380 : Ref sig .tc := ⟨.hbm, 512, rfl⟩
abbrev main_v381 : Ref sig .tc := ⟨.hbm, 513, rfl⟩
abbrev main_v382 : Ref sig .tc := ⟨.hbm, 514, rfl⟩
abbrev main_v383 : Ref sig .tc := ⟨.hbm, 515, rfl⟩
abbrev main_v384 : Ref sig .tc := ⟨.hbm, 516, rfl⟩
abbrev main_c_99 : Ref sig .tc := ⟨.hbm, 517, rfl⟩
abbrev main_v385 : Ref sig .tc := ⟨.hbm, 518, rfl⟩
abbrev main_v386 : Ref sig .tc := ⟨.hbm, 519, rfl⟩
abbrev main_c_100 : Ref sig .tc := ⟨.hbm, 520, rfl⟩
abbrev main_v387 : Ref sig .tc := ⟨.hbm, 521, rfl⟩
abbrev main_v388 : Ref sig .tc := ⟨.hbm, 522, rfl⟩
abbrev main_v389 : Ref sig .tc := ⟨.hbm, 523, rfl⟩
abbrev main_c_101 : Ref sig .tc := ⟨.hbm, 524, rfl⟩
abbrev main_v390 : Ref sig .tc := ⟨.hbm, 525, rfl⟩
abbrev main_v391 : Ref sig .tc := ⟨.hbm, 526, rfl⟩
abbrev main_c_102 : Ref sig .tc := ⟨.hbm, 527, rfl⟩
abbrev main_v392 : Ref sig .tc := ⟨.hbm, 528, rfl⟩
abbrev main_v393 : Ref sig .tc := ⟨.hbm, 529, rfl⟩
abbrev main_v394 : Ref sig .tc := ⟨.hbm, 530, rfl⟩
abbrev main_c_103 : Ref sig .tc := ⟨.hbm, 531, rfl⟩
abbrev main_v395 : Ref sig .tc := ⟨.hbm, 532, rfl⟩
abbrev main_v396 : Ref sig .tc := ⟨.hbm, 533, rfl⟩
abbrev main_c_104 : Ref sig .tc := ⟨.hbm, 534, rfl⟩
abbrev main_v397 : Ref sig .tc := ⟨.hbm, 535, rfl⟩
abbrev main_v398 : Ref sig .tc := ⟨.hbm, 536, rfl⟩
abbrev main_v399 : Ref sig .tc := ⟨.hbm, 537, rfl⟩
abbrev main_v400 : Ref sig .tc := ⟨.hbm, 538, rfl⟩
abbrev main_v401 : Ref sig .tc := ⟨.hbm, 539, rfl⟩
abbrev main_v402 : Ref sig .tc := ⟨.hbm, 540, rfl⟩
abbrev main_v403 : Ref sig .tc := ⟨.hbm, 541, rfl⟩
abbrev main_v404 : Ref sig .tc := ⟨.hbm, 542, rfl⟩
abbrev main_v405 : Ref sig .tc := ⟨.hbm, 543, rfl⟩
abbrev main_v406 : Ref sig .tc := ⟨.hbm, 544, rfl⟩
abbrev main_cst_105 : Ref sig .tc := ⟨.hbm, 545, rfl⟩
abbrev main_v407 : Ref sig .tc := ⟨.hbm, 546, rfl⟩
abbrev main_v408 : Ref sig .tc := ⟨.hbm, 547, rfl⟩
abbrev main_v409 : Ref sig .tc := ⟨.hbm, 548, rfl⟩
abbrev main_v410 : Ref sig .tc := ⟨.hbm, 549, rfl⟩
abbrev main_v411 : Ref sig .tc := ⟨.hbm, 550, rfl⟩
abbrev main_cst_106 : Ref sig .tc := ⟨.hbm, 551, rfl⟩
abbrev main_v412 : Ref sig .tc := ⟨.hbm, 552, rfl⟩
abbrev main_v413 : Ref sig .tc := ⟨.hbm, 553, rfl⟩
abbrev main_cst_107 : Ref sig .tc := ⟨.hbm, 554, rfl⟩
abbrev main_v414 : Ref sig .tc := ⟨.hbm, 555, rfl⟩
abbrev main_cst_108 : Ref sig .tc := ⟨.hbm, 556, rfl⟩
abbrev main_v415 : Ref sig .tc := ⟨.hbm, 557, rfl⟩
abbrev main_v416 : Ref sig .tc := ⟨.hbm, 558, rfl⟩
abbrev main_v417 : Ref sig .tc := ⟨.hbm, 559, rfl⟩
abbrev main_v418 : Ref sig .tc := ⟨.hbm, 560, rfl⟩
abbrev main_v419 : Ref sig .tc := ⟨.hbm, 561, rfl⟩
abbrev main_v420 : Ref sig .tc := ⟨.hbm, 562, rfl⟩
abbrev main_cst_109 : Ref sig .tc := ⟨.hbm, 563, rfl⟩
abbrev main_v421 : Ref sig .tc := ⟨.hbm, 564, rfl⟩
abbrev main_v422 : Ref sig .tc := ⟨.hbm, 565, rfl⟩
abbrev main_v423 : Ref sig .tc := ⟨.hbm, 566, rfl⟩
abbrev main_v424 : Ref sig .tc := ⟨.hbm, 567, rfl⟩
abbrev main_v425 : Ref sig .tc := ⟨.hbm, 568, rfl⟩
abbrev main_v426 : Ref sig .tc := ⟨.hbm, 569, rfl⟩
abbrev main_v427 : Ref sig .tc := ⟨.hbm, 570, rfl⟩
abbrev main_v428 : Ref sig .tc := ⟨.hbm, 571, rfl⟩
abbrev main_v429 : Ref sig .tc := ⟨.hbm, 572, rfl⟩
abbrev main_v430 : Ref sig .tc := ⟨.hbm, 573, rfl⟩

abbrev nD : Nat := 1
abbrev τ : Topo := Topo.v7x

variable {F : FTy → Type} [FloatOps F]
-- ==== Proof.Base.lean ====
/-
  What every part of the proof uses: the names the launch theorem wants for the program, the value each tile leaves in
  its buffers as plain functions of the two arrays it reads, and where the program's slices place an index.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pointwise.Index
public import Idealize.ShloMosaic.Lib.ViewIndex
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm

section
variable [FloatOps F]
abbrev K : SparseCore.Cfg τ sig (ΛP (F := F)) 1 := sc (F := F)
abbrev D : Defs nD τ sig (Elt F) (ΛP (F := F)) := Pipeline.defs pcfgs defs₀
end
abbrev 𝒱₀ : Variants := Variants.none
abbrev 𝒱 : Variants := 𝒱₀.lift
abbrev v₀ : 𝒱.V := Sum.inl none

/-! ## The tile's number and the values it moves -/

/-- The number of the tile at coordinates `i`: the slice of the batch it handles. -/
def wid (i : grid1.Coords) : Fin 32 := ⟨2 * (i 1).val + (i 0).val, by
  have h0 : (i 0).val < 2 := (i 0).isLt
  have h1 : (i 1).val < 16 := (i 1).isLt
  omega⟩

/-- The row part of a cell's word: bits 6 to 11. -/
def hiW (f : BitVec 32) : BitVec 32 := Scalar.andi (Scalar.shrsi f 6#32) 63#32
/-- The column part of a cell's word: bits 0 to 5. -/
def loW (f : BitVec 32) : BitVec 32 := Scalar.andi f 63#32

theorem and63_lt (x : BitVec 32) : (Scalar.andi x 63#32).toNat < 64 := by
  have h : (x &&& 63#32).toNat = x.toNat &&& 63 := BitVec.toNat_and x 63#32
  show (x &&& 63#32).toNat < 64
  rw [h]
  exact Nat.lt_of_le_of_lt Nat.and_le_right (by decide)

theorem hiW_lt (f : BitVec 32) : (hiW f).toNat < 64 := and63_lt _
theorem loW_lt (f : BitVec 32) : (loW f).toNat < 64 := and63_lt _

/-- The cell of slice `w` that word `f` names, at lane `j`. -/
def cellIx (w : Fin 32) (f : BitVec 32) (j : Fin 320) : S32x64x64x320.Idx :=
  ix4 w ⟨(hiW f).toNat, hiW_lt f⟩ ⟨(loW f).toNat, loW_lt f⟩ j

/-- The place in the list of cells of entry `n` of slice `w`. -/
def listIx (w : Fin 32) (n : Fin 384) : S12288.Idx :=
  ix1 ⟨384 * w.val + n.val, by have := w.isLt; have := n.isLt; omega⟩

variable (A : S32x64x64x320.Idx → Elt F .f32) (B : S12288.Idx → BitVec 32)

/-- The rows slice `w` fetches, one for each of its 384 cells. -/
def T8 (w : Fin 32) : S384x320.Idx → Elt F .f32 := fun p => A (cellIx w (B (listIx w (p 0))) (p 1))

/-- The gathered coordinates: at time `t`, lane `q` is coordinate `q % 2` of cell `q / 2`. -/
def O9 : S32x80x768.Idx → Elt F .f32 := fun y =>
  T8 A B (y 0) (ix2 ⟨(y 2).val / 2, by have : (y 2).val < 768 := (y 2).isLt; omega⟩
    ⟨4 * (y 1).val + (y 2).val % 2, by have : (y 1).val < 80 := (y 1).isLt; omega⟩)
/-- The gathered headings. -/
def O10 : S32x80x384.Idx → Elt F .f32 := fun y =>
  T8 A B (y 0) (ix2 (y 2) ⟨4 * (y 1).val + 2, by have : (y 1).val < 80 := (y 1).isLt; omega⟩)
/-- The gathered speeds. -/
def O11 : S32x80x384.Idx → Elt F .f32 := fun y =>
  T8 A B (y 0) (ix2 (y 2) ⟨4 * (y 1).val + 3, by have : (y 1).val < 80 := (y 1).isLt; omega⟩)

/-! ## Where the program's slices place an index -/

theorem ext2 {n0 n1 : ℕ} {x y : (⟨2, ![n0, n1]⟩ : Shape).Idx} (h0 : (x 0).val = (y 0).val) (h1 : (x 1).val = (y 1).val) : x = y := by
  funext a
  apply Fin.ext
  match a with
  | 0 => exact h0
  | 1 => exact h1

theorem resh2 {n : ℕ} (h : (⟨1, ![n]⟩ : Shape).numel = (⟨2, ![1, n]⟩ : Shape).numel) (j : (⟨1, ![n]⟩ : Shape).Idx) :
    Shape.reshapeEquiv h j = ix2 (n0 := 1) (n1 := n) ⟨0, Nat.one_pos⟩ (j 0) :=
  Shape.reshapeEquiv_eq_of_rowMajor h (by
    rw [Shape.rowMajor_val_two, Shape.rowMajor_val_one]
    show 0 * n + (j 0).val = (j 0).val
    simp)

theorem resh3 {n : ℕ} (h : (⟨1, ![n]⟩ : Shape).numel = (⟨3, ![1, 1, n]⟩ : Shape).numel) (j : (⟨1, ![n]⟩ : Shape).Idx) :
    Shape.reshapeEquiv h j = ix3 (n0 := 1) (n1 := 1) (n2 := n) ⟨0, Nat.one_pos⟩ ⟨0, Nat.one_pos⟩ (j 0) :=
  Shape.reshapeEquiv_eq_of_rowMajor h (by
    rw [Shape.rowMajor_val_three, Shape.rowMajor_val_one]
    show (0 * 1 + 0) * n + (j 0).val = (j 0).val
    simp)

theorem resh4 {n : ℕ} (h : (⟨1, ![n]⟩ : Shape).numel = (⟨4, ![1, 1, 1, n]⟩ : Shape).numel) (j : (⟨1, ![n]⟩ : Shape).Idx) :
    Shape.reshapeEquiv h j = ix4 (n0 := 1) (n1 := 1) (n2 := 1) (n3 := n) ⟨0, Nat.one_pos⟩ ⟨0, Nat.one_pos⟩ ⟨0, Nat.one_pos⟩ (j 0) :=
  Shape.reshapeEquiv_eq_of_rowMajor h (by
    rw [Shape.rowMajor_val_four, Shape.rowMajor_val_one]
    show ((0 * 1 + 0) * 1 + 0) * n + (j 0).val = (j 0).val
    simp)

/-- Storing sixteen lanes at offset `16 g` extends by sixteen the lanes that are known. -/
theorem store16 {sig : RefSig} {κ : Kind} {sp : Space} {n : ℕ} (v : View sig κ sp ⟨1, ![n]⟩ .f32) (f : v.ty.Contents (Elt F))
    (off : Fin 1 → ℕ) (inb : ∀ a, off a + S16.size a ≤ (⟨1, ![n]⟩ : Shape).size a) (g : ℕ) (hoff : off 0 = 16 * g)
    (w : S16.Idx → Elt F .f32) (val : (⟨1, ![n]⟩ : Shape).Idx → Elt F .f32)
    (hw : ∀ x : S16.Idx, ∀ p : (⟨1, ![n]⟩ : Shape).Idx, (p 0).val = 16 * g + (x 0).val → w x = val p)
    (hf : ∀ p : (⟨1, ![n]⟩ : Shape).Idx, (p 0).val < 16 * g → v.read (Elt F) f p = val p)
    (p : (⟨1, ![n]⟩ : Shape).Idx) (hp : (p 0).val < 16 * (g + 1)) :
    v.read (Elt F) ((v.slice (Rect.unit (s := ⟨1, ![n]⟩) off S16.size inb)).write (Elt F) f w Finset.univ) p = val p := by
  by_cases hlt : (p 0).val < 16 * g
  · rw [View.read_apply, View.write_of_not_mem, ← View.read_apply]
    · exact hf p hlt
    · intro hmem
      obtain ⟨x, -, e⟩ := Finset.mem_map.mp hmem
      have e' : (Rect.unit (s := ⟨1, ![n]⟩) off S16.size inb).emb x = p := v.emb.injective e
      have := congrArg (fun q : (⟨1, ![n]⟩ : Shape).Idx => (q 0).val) e'
      rw [Rect.emb_apply] at this
      have h2 : off 0 + 1 * (x 0).val = (p 0).val := this
      omega
  · have hx : (p 0).val - 16 * g < 16 := by omega
    have e' : (Rect.unit (s := ⟨1, ![n]⟩) off S16.size inb).emb (ix1 (n0 := 16) ⟨(p 0).val - 16 * g, hx⟩) = p := by
      apply Shape.idx1_ext
      show off 0 + 1 * ((p 0).val - 16 * g) = (p 0).val
      omega
    have hrw : v.emb p = (v.slice (Rect.unit (s := ⟨1, ![n]⟩) off S16.size inb)).emb (ix1 (n0 := 16) ⟨(p 0).val - 16 * g, hx⟩) := by
      conv_lhs => rw [← e']
      rfl
    rw [View.read_apply, hrw, View.write_emb_of_mem _ _ (Finset.mem_univ _), cast_cast, cast_eq]
    exact hw _ _ (by show (p 0).val = 16 * g + ((p 0).val - 16 * g); omega)

end Cert.Proof.K

end
-- ==== Proof.Nms.lean ====
/-
  The kernel on the matrix core as a function: one step of the suppression, written once, and what the body stores
  as six of them.
-/
module

public import proofs.«01_k».proof.Proof.Base

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok pending Batch)
open Idealize.ShloMosaic.Tactic

variable {F : FTy → Type} [FloatOps F]

/-- A column of one number per row, from a vector of them. -/
def asCol {α : Type} (x : S2048.Idx → α) : S2048x1.Idx → α := shapeCast S2048x1 x shapeCasts_S2048_S2048x1

/-- A row's number set beside each of the row's 64 modes. -/
def wide {α : Type} (x : S2048x1.Idx → α) : S2048x64.Idx → α := broadcastTo S2048x64 x broadcasts_S2048x1_S2048x64

/-- The mode's number at each place. -/
def lane : IVec S2048x64 32 := iota .tc S2048x64 32 [1] iota_S2048x64_d1_w32

/-- Each row's sum over its modes. -/
def rowSum (x : FVec F S2048x64 .f32) : FVec F S2048 .f32 :=
  multiReduction .add [1] S2048 x 0x00000000#32 reduces_S2048x64_S2048 (.inl rfl) rfl

/-- The first mode of each row at which the row's largest weight stands. -/
def pick (w : FVec F S2048x64 .f32) : IVec S2048x1 32 :=
  asCol (multiReductionI .minsi [1] S2048
    (select (cmpf .oeq w (wide (asCol (multiReduction .maximumf [1] S2048 w 0xFF800000#32 reduces_S2048x64_S2048 (.inl rfl) rfl)))) lane
      (broadcast S2048x64 64#32)) 2147483647#32 reduces_S2048x64_S2048 rfl)

/-- One at the picked mode, zero elsewhere. -/
def mark (w : FVec F S2048x64 .f32) : FVec F S2048x64 .f32 :=
  sitofp .f32 (extui 32 (cmpi .eq lane (wide (pick w))) natLt_1_32)

/-- A coordinate's distance from the marked mode's. -/
def away (X h : FVec F S2048x64 .f32) : FVec F S2048x64 .f32 := subf X (wide (asCol (rowSum (mulf h X))))

/-- Whether a mode ends nearer the marked mode than the row's threshold. -/
def near (X Y : FVec F S2048x64 .f32) (th : FVec F S2048x1 .f32) (h : FVec F S2048x64 .f32) : IVec S2048x64 1 :=
  cmpf .olt (sqrt (addf (mulf (away X h) (away X h)) (mulf (away Y h) (away Y h)))) (wide th)

/-- One at the modes that are not near. -/
def far (p : IVec S2048x64 1) : FVec F S2048x64 .f32 :=
  subf (broadcast S2048x64 (Scalar.ofBits .f32 0x3F800000#32)) (sitofp .f32 (extui 32 p natLt_1_32))

/-- The weights after a suppression: the marked mode struck out, the others scaled by how far they are. -/
def damp (w h q : FVec F S2048x64 .f32) : FVec F S2048x64 .f32 :=
  select (cmpf .ogt h (broadcast S2048x64 (Scalar.ofBits .f32 0x00000000#32))) (broadcast S2048x64 (Scalar.ofBits .f32 0xBF800000#32))
    (mulf w (addf (mulf q (broadcast S2048x64 (Scalar.ofBits .f32 0x3F7D70A4#32))) (broadcast S2048x64 (Scalar.ofBits .f32 0x3C23D70A#32))))

/-- One step: pick, and suppress what is near. -/
def next (X Y : FVec F S2048x64 .f32) (th : FVec F S2048x1 .f32) (w : FVec F S2048x64 .f32) : FVec F S2048x64 .f32 :=
  damp w (mark w) (far (near X Y th (mark w)))

/-- The weights after `k` steps. -/
def weights (X Y : FVec F S2048x64 .f32) (th : FVec F S2048x1 .f32) (w : FVec F S2048x64 .f32) : ℕ → FVec F S2048x64 .f32
  | 0 => w
  | k + 1 => next X Y th (weights X Y th w k)

/-- The weight the picked mode had at the start. -/
def gain (w₀ w : FVec F S2048x64 .f32) : FVec F S2048 .f32 := rowSum (mulf (mark w) w₀)

/-- Six columns side by side. -/
def six {α : Type} (c : ℕ → S2048.Idx → α) : S2048x6.Idx → α :=
  concatenate S2048x6 1 [⟨S2048x1, asCol (c 0)⟩, ⟨S2048x1, asCol (c 1)⟩, ⟨S2048x1, asCol (c 2)⟩, ⟨S2048x1, asCol (c 3)⟩, ⟨S2048x1, asCol (c 4)⟩, ⟨S2048x1, asCol (c 5)⟩]
    concatenates_S2048x1_S2048x1_S2048x1_S2048x1_S2048x1_S2048x1_S2048x6_d1

/-- A row's number set beside each of its six picks. -/
def wide6 {α : Type} (x : S2048.Idx → α) : S2048x6.Idx → α := broadcastTo S2048x6 (asCol x) broadcasts_S2048x1_S2048x6

/-- Each row's sum over its picks. -/
def rowSum6 (x : FVec F S2048x6 .f32) : FVec F S2048 .f32 :=
  multiReduction .add [1] S2048 x 0x00000000#32 reduces_S2048x6_S2048 (.inl rfl) rfl

/-- Twice the logarithms of the picks' shares. -/
def logits (s : FVec F S2048x6 .f32) : FVec F S2048x6 .f32 :=
  divf (log (divf s (wide6 (rowSum6 s)))) (broadcast S2048x6 (Scalar.ofBits .f32 0x3F000000#32))

/-- The exponentials of numbers taken from their row's largest. -/
def expo (l : FVec F S2048x6 .f32) : FVec F S2048x6 .f32 :=
  exp (subf l (wide6 (multiReduction .maximumf [1] S2048 l 0xFF800000#32 reduces_S2048x6_S2048 (.inl rfl) rfl)))

/-- The scores of the six picks from their starting weights. -/
def share6 (s : FVec F S2048x6 .f32) : FVec F S2048x6 .f32 :=
  divf (expo (logits s)) (wide6 (rowSum6 (expo (logits s))))

/-- The picks as positions among all rows' modes. -/
def flat (p : IVec S2048x6 32) : IVec S2048x6 32 :=
  addi (muli (iota .tc S2048x6 32 [0] iota_S2048x6_d0_w32) (broadcast S2048x6 64#32)) p

/-! ## The printed values are these -/

section
variable (v0 : Vec F S2048x64 .f32) (v2 : Vec F S2048x1x64 .f32) (X Y w w₀ : FVec F S2048x64 .f32) (th : FVec F S2048x1 .f32)

theorem pay7_eq : k0_pay7 v0 = pick (k0_pay5 v0) := rfl
theorem pay8_eq : k0_pay8 v0 = mark (k0_pay5 v0) := rfl
theorem pay9_eq : k0_pay9 v0 v2 = rowSum (mulf (mark (k0_pay5 v0)) (k0_pay3 v2)) := rfl

theorem pay10_eq : k0_pay10 X Y w th (mark w) (rowSum (mulf (mark w) X)) = next X Y th w := rfl
theorem pay13_eq : k0_pay13 X Y w th lane (mark w) (rowSum (mulf (mark w) X)) = pick (next X Y th w) := rfl
theorem pay14_eq : k0_pay14 X Y w th lane (mark w) (rowSum (mulf (mark w) X)) = mark (next X Y th w) := rfl
theorem pay15_eq : k0_pay15 X Y w th lane (mark w) (rowSum (mulf (mark w) X)) = asCol (rowSum (mulf (mark (next X Y th w)) X)) := rfl
theorem pay16_eq : k0_pay16 X Y w th lane (mark w) (rowSum (mulf (mark w) X)) = asCol (rowSum (mulf (mark (next X Y th w)) Y)) := rfl
theorem pay11_eq : k0_pay11 w₀ (mark w) = gain w₀ w := rfl

theorem pay17_eq : k0_pay17 X Y th w (mark w) (asCol (rowSum (mulf (mark w) X))) (asCol (rowSum (mulf (mark w) Y))) = next X Y th w := rfl
theorem pay20_eq : k0_pay20 X Y th lane w (mark w) (asCol (rowSum (mulf (mark w) X))) (asCol (rowSum (mulf (mark w) Y))) = pick (next X Y th w) := rfl
theorem pay21_eq : k0_pay21 X Y th lane w (mark w) (asCol (rowSum (mulf (mark w) X))) (asCol (rowSum (mulf (mark w) Y))) = mark (next X Y th w) := rfl
theorem pay22_eq : k0_pay22 X Y th lane w (mark w) (asCol (rowSum (mulf (mark w) X))) (asCol (rowSum (mulf (mark w) Y))) = away Y (mark (next X Y th w)) := rfl
theorem pay23_eq : k0_pay23 X Y th lane w (mark w) (asCol (rowSum (mulf (mark w) X))) (asCol (rowSum (mulf (mark w) Y)))
    = mulf (away X (mark (next X Y th w))) (away X (mark (next X Y th w))) := rfl
theorem pay18_eq : k0_pay18 w₀ (mark w) = gain w₀ w := rfl

theorem pay24_eq : k0_pay24 th w (mark w) (away Y (mark w)) (mulf (away X (mark w)) (away X (mark w))) = next X Y th w := rfl
theorem pay27_eq : k0_pay27 th lane w (mark w) (away Y (mark w)) (mulf (away X (mark w)) (away X (mark w))) = pick (next X Y th w) := rfl
theorem pay28_eq : k0_pay28 th lane w (mark w) (away Y (mark w)) (mulf (away X (mark w)) (away X (mark w))) = mark (next X Y th w) := rfl
theorem pay29_eq : k0_pay29 X Y th lane w (mark w) (away Y (mark w)) (mulf (away X (mark w)) (away X (mark w)))
    = near X Y th (mark (next X Y th w)) := rfl
theorem pay25_eq : k0_pay25 w₀ (mark w) = gain w₀ w := rfl

theorem pay30_eq : k0_pay30 w (mark w) (near X Y th (mark w)) = next X Y th w := rfl
theorem pay33_eq : k0_pay33 lane w (mark w) (near X Y th (mark w)) = pick (next X Y th w) := rfl
theorem pay34_eq : k0_pay34 lane w (mark w) (near X Y th (mark w)) = mark (next X Y th w) := rfl
theorem pay35_eq : k0_pay35 X Y th lane w (mark w) (near X Y th (mark w)) = far (near X Y th (mark (next X Y th w))) := rfl
theorem pay31_eq : k0_pay31 w₀ (mark w) = gain w₀ w := rfl

theorem pay38_eq : k0_pay38 lane w (mark w) (far (near X Y th (mark w))) = shapeCast S2048 (pick (next X Y th w)) shapeCasts_S2048x1_S2048 := rfl
theorem pay39_eq (c : ℕ → FVec F S2048 .f32) (h4 : c 4 = gain w₀ w) (h5 : c 5 = gain w₀ (next X Y th w)) :
    k0_pay39 w₀ lane (c 0) (c 1) (c 2) w (c 3) (mark w) (far (near X Y th (mark w))) = expo (logits (six c)) := by
  unfold six; rw [h4, h5]; rfl
theorem pay40_eq (a b c d : FVec F S2048 .f32) (q : FVec F S2048x64 .f32) :
    k0_pay40 w₀ lane a b c w d (mark w) q = rowSum6 (k0_pay39 w₀ lane a b c w d (mark w) q) := rfl
theorem pay1_eq (s : FVec F S2048x6 .f32) (t : FVec F S2048 .f32) : k0_pay1 s t = divf s (wide6 t) := rfl
theorem pay2_eq (c : ℕ → IVec S2048 32) : k0_pay2 (c 0) (c 1) (c 2) (c 3) (c 4) (c 5) = flat (six c) := rfl
end

/-! ## What the body stores -/

variable (v0 : Vec F S2048x64 .f32) (v2 v4 : Vec F S2048x1x64 .f32) (v6 : Vec F S2048x3 .f32)

/-- The weights of the run after `k` steps, from the four values the body reads. -/
def wt (k : ℕ) : FVec F S2048x64 .f32 := weights (k0_pay3 v2) (k0_pay4 v4) (k0_pay6 v6) (k0_pay5 v0) k

/-- The scores the body stores. -/
def storedScores : FVec F S2048x6 .f32 := share6 (six fun k => gain (k0_pay5 v0) (wt v0 v2 v4 v6 k))

/-- The positions the body stores. -/
def storedPicks : IVec S2048x6 32 := flat (six fun k => shapeCast S2048 (pick (wt v0 v2 v4 v6 k)) shapeCasts_S2048x1_S2048)

end Cert.Proof.K

end
-- ==== Proof.Setup.lean ====
/-
  The launch's set-up: the resource algebra, the buffers and semaphores of a tile, and what the handshakes carry.
-/
module

public import proofs.«01_k».proof.Proof.Base

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type} [FloatOps F]

theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- The component the copies' counters live in. -/
abbrev EC : UEmb Counters 𝕄 := countersEmb

/-! ## The buffers -/

/-- The arrays the kernel on the tiles reads and writes, as locations of device `d`. -/
abbrev aLoc (d : Dev nD) : Loc nD τ sig := (SparseCore.T d).loc main_v0
abbrev bLoc (d : Dev nD) : Loc nD τ sig := (SparseCore.T d).loc main_v8
abbrev o9Loc (d : Dev nD) : Loc nD τ sig := (SparseCore.T d).loc main_v9_0
abbrev o10Loc (d : Dev nD) : Loc nD τ sig := (SparseCore.T d).loc main_v9_1
abbrev o11Loc (d : Dev nD) : Loc nD τ sig := (SparseCore.T d).loc main_v9_2

abbrev aM : Memref sig .scVector .hbm S32x64x64x320 .f32 := Memref.whole main_v0_scv
abbrev bM : Memref sig .scVector .hbm S12288 .i32 := Memref.whole main_v8_scv
abbrev o9M : Memref sig .scVector .hbm S32x80x768 .f32 := Memref.whole main_v9_0_scv
abbrev o10M : Memref sig .scVector .hbm S32x80x384 .f32 := Memref.whole main_v9_1_scv
abbrev o11M : Memref sig .scVector .hbm S32x80x384 .f32 := Memref.whole main_v9_2_scv
/-- A tile's scratch: the list of cells, the rows fetched, and the three vectors written out each time step. -/
abbrev xM : Memref sig .scVector .vmem S384 .i32 := Memref.whole cc1_scratch0
abbrev rM : Memref sig .scVector .vmem S384x320 .f32 := Memref.whole cc1_scratch1
abbrev s9M : Memref sig .scVector .vmem S768 .f32 := Memref.whole cc1_scratch2
abbrev s10M : Memref sig .scVector .vmem S384 .f32 := Memref.whole cc1_scratch3
abbrev s11M : Memref sig .scVector .vmem S384 .f32 := Memref.whole cc1_scratch4

abbrev cV (i : grid1.Coords) : Fin τ.nSC := (i 0).castLE hcore1
abbrev jV (i : grid1.Coords) : Fin τ.nSub := (i 1).castLE hsub1

/-- The tile whose coordinates are the core `c` and the subcore `s`. -/
def coordsV (c : Fin 2) (s : Fin 16) : grid1.Coords := fun
  | 0 => c
  | 1 => s
  | ⟨_ + 2, h⟩ => absurd h (Nat.not_lt.2 (Nat.le_add_left _ _))

/-- The slab of tile `w` in each of the three results. -/
def slab9 (w : Fin 32) : Finset S32x80x768.Idx := Finset.univ.filter fun y => (y 0).val = w.val
def slab10 (w : Fin 32) : Finset S32x80x384.Idx := Finset.univ.filter fun y => (y 0).val = w.val

/-! ## What the handshakes carry -/

variable (A : S32x64x64x320.Idx → Elt F .f32) (B : S12288.Idx → BitVec 32)

/-- What tile `w` is handed: a read share of each of the two arrays it reads, and its slab of each result. -/
def GO (d : Dev nD) (w : Fin 32) : sProp 𝕄 :=
  iprop((aLoc d ↦{shareTok fullShare 32 w} (A : Buf (Elt F) (aLoc d))) ∗ (bLoc d ↦{shareTok fullShare 32 w} (B : Buf (Elt F) (bLoc d)))
    ∗ (∃ f, o9Loc d ↦[slab9 w]{fullShare} f) ∗ (∃ f, o10Loc d ↦[slab10 w]{fullShare} f) ∗ (∃ f, o11Loc d ↦[slab10 w]{fullShare} f))
/-- What it hands back: its slab of each result, at the gathered values. -/
def TD (d : Dev nD) (w : Fin 32) : sProp 𝕄 :=
  iprop((o9Loc d ↦[slab9 w]{fullShare} (O9 A B : Buf (Elt F) (o9Loc d))) ∗ (o10Loc d ↦[slab10 w]{fullShare} (O10 A B : Buf (Elt F) (o10Loc d)))
    ∗ (o11Loc d ↦[slab10 w]{fullShare} (O11 A B : Buf (Elt F) (o11Loc d))))

instance GO_storable (d : Dev nD) (w : Fin 32) : BI.Storable (upEmb : UEmb _ 𝕄) (GO A B d w) := by unfold GO; infer_instance
instance TD_storable (d : Dev nD) (w : Fin 32) : BI.Storable (upEmb : UEmb _ 𝕄) (TD A B d w) := by unfold TD; infer_instance

abbrev wOf (c : Fin 2) (s : Fin 16) : Fin 32 := wid (coordsV c s)

def P : (K (F := F)).Pay (nD := nD) (Val := Elt F) (Name := ℕ) (U := UU) where
  st := fun q d c => match q with | 0 => bigSep Finset.univ fun s : Fin 16 => GO A B d (wOf c s)
  dn := fun q d c => match q with | 0 => bigSep Finset.univ fun s : Fin 16 => TD A B d (wOf c s)
  go := fun q d c s => match q with | 0 => GO A B d (wOf c s)
  td := fun q d c s => match q with | 0 => TD A B d (wOf c s)
  x := fun _ _ => iprop(emp)

instance P_storable : (P A B).IsStorable where
  st q d c := match q with
    | 0 => (inferInstance : BI.Storable (upEmb : UEmb _ 𝕄) (bigSep Finset.univ fun s : Fin 16 => GO A B d (wOf c s)))
  dn q d c := match q with
    | 0 => (inferInstance : BI.Storable (upEmb : UEmb _ 𝕄) (bigSep Finset.univ fun s : Fin 16 => TD A B d (wOf c s)))
  go q d c s := match q with | 0 => (inferInstance : BI.Storable (upEmb : UEmb _ 𝕄) (GO A B d (wOf c s)))
  td q d c s := match q with | 0 => (inferInstance : BI.Storable (upEmb : UEmb _ 𝕄) (TD A B d (wOf c s)))

/-! ## A tile's own semaphores and buffers -/

/-- Semaphore `sm` of the tile at `i`. -/
abbrev cellD (d : Dev nD) (i : grid1.Coords) (sm : DmaSem sig) : GSem nD τ sig := (V d (cV i) (jV i), .dma sm)

omit [FloatOps F] in
/-- The tile's semaphores: the five the kernel uses, at zero, and the rest, dropped. -/
theorem ownSems0_V (d : Dev nD) (i : grid1.Coords) :
    (ownSems0 (V d (cV i) (jV i)) : sProp 𝕄)
      = iprop(semVal (cellD d i cc1_scoped0.sem) 0
          ∗ semVal (cellD d i cc1_scratch5.sem) 0
          ∗ semVal (cellD d i cc1_scoped1.sem) 0
          ∗ semVal (cellD d i cc1_scoped2.sem) 0
          ∗ semVal (cellD d i cc1_scoped3.sem) 0
          ∗ bigSep ((((((ownCells (V d (cV i) (jV i))).erase (cellD d i cc1_scoped0.sem)).erase (cellD d i cc1_scratch5.sem)).erase (cellD d i cc1_scoped1.sem)).erase (cellD d i cc1_scoped2.sem)).erase (cellD d i cc1_scoped3.sem))
              fun g => semVal g 0) := by
  have hm : ∀ sm : DmaSem sig, (SemLoc.dma sm : SemLoc sig).isScoped .scVector = true → cellD d i sm ∈ ownCells (V d (cV i) (jV i)) :=
    fun sm h => (mem_ownCells (g := cellD d i sm)).mpr ⟨rfl, h⟩
  have hne : ∀ a b : DmaSem sig, a ≠ b → cellD d i a ≠ cellD d i b := fun a b h e => h (SemLoc.dma.inj (Prod.mk.inj e).2)
  unfold SparseCore.Cfg.ownSems0
  rw [SparseCore.bigSep_erase' (hm cc1_scoped0.sem (by decide)),
    SparseCore.bigSep_erase' (Finset.mem_erase.mpr ⟨hne _ _ (show (cc1_scratch5.sem : DmaSem sig) ≠ cc1_scoped0.sem by decide), hm cc1_scratch5.sem (by decide)⟩),
    SparseCore.bigSep_erase' (Finset.mem_erase.mpr ⟨hne _ _ (show (cc1_scoped1.sem : DmaSem sig) ≠ cc1_scratch5.sem by decide), Finset.mem_erase.mpr ⟨hne _ _ (show (cc1_scoped1.sem : DmaSem sig) ≠ cc1_scoped0.sem by decide), hm cc1_scoped1.sem (by decide)⟩⟩),
    SparseCore.bigSep_erase' (Finset.mem_erase.mpr ⟨hne _ _ (show (cc1_scoped2.sem : DmaSem sig) ≠ cc1_scoped1.sem by decide), Finset.mem_erase.mpr ⟨hne _ _ (show (cc1_scoped2.sem : DmaSem sig) ≠ cc1_scratch5.sem by decide), Finset.mem_erase.mpr ⟨hne _ _ (show (cc1_scoped2.sem : DmaSem sig) ≠ cc1_scoped0.sem by decide), hm cc1_scoped2.sem (by decide)⟩⟩⟩),
    SparseCore.bigSep_erase' (Finset.mem_erase.mpr ⟨hne _ _ (show (cc1_scoped3.sem : DmaSem sig) ≠ cc1_scoped2.sem by decide), Finset.mem_erase.mpr ⟨hne _ _ (show (cc1_scoped3.sem : DmaSem sig) ≠ cc1_scoped1.sem by decide), Finset.mem_erase.mpr ⟨hne _ _ (show (cc1_scoped3.sem : DmaSem sig) ≠ cc1_scratch5.sem by decide), Finset.mem_erase.mpr ⟨hne _ _ (show (cc1_scoped3.sem : DmaSem sig) ≠ cc1_scoped0.sem by decide), hm cc1_scoped3.sem (by decide)⟩⟩⟩⟩)]

omit [FloatOps F] in
/-- The tile's buffers: the five scratch buffers the kernel uses, at some contents, and the rest. -/
theorem ownBufs_V (d : Dev nD) (i : grid1.Coords) :
    (ownBufs (V d (cV i) (jV i)) : sProp 𝕄)
      = iprop((∃ f, (V d (cV i) (jV i)).loc cc1_scratch0 ↦{fullShare} f)
          ∗ (∃ f, (V d (cV i) (jV i)).loc cc1_scratch1 ↦{fullShare} f)
          ∗ (∃ f, (V d (cV i) (jV i)).loc cc1_scratch2 ↦{fullShare} f)
          ∗ (∃ f, (V d (cV i) (jV i)).loc cc1_scratch3 ↦{fullShare} f)
          ∗ (∃ f, (V d (cV i) (jV i)).loc cc1_scratch4 ↦{fullShare} f)
          ∗ bigSep ((((((ownRefs (τ := τ) (.scVector (cV i) (jV i))).erase ((Proc.scVector (cV i) (jV i)).devRef cc1_scratch0)).erase ((Proc.scVector (cV i) (jV i)).devRef cc1_scratch1)).erase ((Proc.scVector (cV i) (jV i)).devRef cc1_scratch2)).erase ((Proc.scVector (cV i) (jV i)).devRef cc1_scratch3)).erase ((Proc.scVector (cV i) (jV i)).devRef cc1_scratch4))
              fun b => iprop(∃ f, ((d, b) : Loc nD τ sig) ↦{fullShare} f)) := by
  have hm : ∀ b : Fin 5, (Proc.scVector (cV i) (jV i)).devRef (⟨.vmem, b, rfl⟩ : Ref sig .scVector) ∈ ownRefs (τ := τ) (.scVector (cV i) (jV i)) :=
    fun b => SparseCore.Cfg.mem_ownRefs_of_owner (p := Proc.scVector (cV i) (jV i)) (b := (Proc.scVector (cV i) (jV i)).devRef (⟨.vmem, b, rfl⟩ : Ref sig .scVector)) rfl
  have hne : ∀ a b : Ref sig .scVector, a ≠ b → (Proc.scVector (cV i) (jV i)).devRef a ≠ (Proc.scVector (cV i) (jV i)).devRef b :=
    fun a b h e => h (Proc.devRef_injective _ e)
  unfold SparseCore.Cfg.ownBufs
  refine (SparseCore.bigSep_erase' (hm 0)).trans ?_
  rw [SparseCore.bigSep_erase' (Finset.mem_erase.mpr ⟨hne _ _ (show (cc1_scratch1 : Ref sig .scVector) ≠ cc1_scratch0 by decide), hm 1⟩),
    SparseCore.bigSep_erase' (Finset.mem_erase.mpr ⟨hne _ _ (show (cc1_scratch2 : Ref sig .scVector) ≠ cc1_scratch1 by decide), Finset.mem_erase.mpr ⟨hne _ _ (show (cc1_scratch2 : Ref sig .scVector) ≠ cc1_scratch0 by decide), hm 2⟩⟩),
    SparseCore.bigSep_erase' (Finset.mem_erase.mpr ⟨hne _ _ (show (cc1_scratch3 : Ref sig .scVector) ≠ cc1_scratch2 by decide), Finset.mem_erase.mpr ⟨hne _ _ (show (cc1_scratch3 : Ref sig .scVector) ≠ cc1_scratch1 by decide), Finset.mem_erase.mpr ⟨hne _ _ (show (cc1_scratch3 : Ref sig .scVector) ≠ cc1_scratch0 by decide), hm 3⟩⟩⟩),
    SparseCore.bigSep_erase' (Finset.mem_erase.mpr ⟨hne _ _ (show (cc1_scratch4 : Ref sig .scVector) ≠ cc1_scratch3 by decide), Finset.mem_erase.mpr ⟨hne _ _ (show (cc1_scratch4 : Ref sig .scVector) ≠ cc1_scratch2 by decide), Finset.mem_erase.mpr ⟨hne _ _ (show (cc1_scratch4 : Ref sig .scVector) ≠ cc1_scratch1 by decide), Finset.mem_erase.mpr ⟨hne _ _ (show (cc1_scratch4 : Ref sig .scVector) ≠ cc1_scratch0 by decide), hm 4⟩⟩⟩⟩)]

end Cert.Proof.K

end
-- ==== Proof.Body.lean ====
/-
  The kernel on the matrix core run: from its five buffers held whole to the scores and the positions stored.
-/
module

public import proofs.«01_k».proof.Proof.Nms
public import proofs.«01_k».proof.Proof.Setup
public import Idealize.ShloMosaic.Lib.VecWindow

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok pending Batch)
open Idealize.ShloMosaic.Tactic

variable {F : FTy → Type} [FloatOps F]

local notation "𝕄" => MT nD τ sig (HIx 1) (Elt F) ℕ UU ℕ

/-- A buffer's contents on core `c`, and the buffer held whole at them. -/
abbrev Bf (c : Dev nD) {sp : Space} {S : Shape} {e : EltTy} (M : Memref sig .tc sp S e) : Type := Buf (Elt F) (M.view.loc (T c : Thread nD τ))
abbrev pt (c : Dev nD) {sp : Space} {S : Shape} {e : EltTy} (M : Memref sig .tc sp S e) (f : Bf (F := F) c M) : sProp 𝕄 :=
  M.view.loc (T c : Thread nD τ) ↦{fullShare} f

section
variable (c : Dev nD)
  (M0 : Memref sig .tc .vmem S2048x64 .f32) (h0 : M0.IsWhole) (M1 : Memref sig .tc .vmem S2048x3 .f32) (h1 : M1.IsWhole)
  (M2 : Memref sig .tc .vmem S2048x2x64 .f32) (h2 : M2.IsWhole) (M3 : Memref sig .tc .vmem S2048x6 .f32) (h3 : M3.IsWhole)
  (M4 : Memref sig .tc .vmem S2048x6 .i32) (h4 : M4.IsWhole)
  (f0 : Bf (F := F) c M0) (f1 : Bf (F := F) c M1) (f2 : Bf (F := F) c M2)

/-- The four values the body reads. -/
abbrev rdW : Vec F S2048x64 .f32 :=
  M0.view.readAt (Elt F) (Rect.unit (s := S2048x64) ![0, 0] S2048x64.size inb_S2048x64_S2048x64_0_0).toLoadRect f0
abbrev rdX : Vec F S2048x1x64 .f32 :=
  M2.view.readAt (Elt F) (Rect.unit (s := S2048x2x64) ![0, 0, 0] S2048x1x64.size inb_S2048x2x64_S2048x1x64_0_0_0).toLoadRect f2
abbrev rdY : Vec F S2048x1x64 .f32 :=
  M2.view.readAt (Elt F) (Rect.unit (s := S2048x2x64) ![0, 1, 0] S2048x1x64.size inb_S2048x2x64_S2048x1x64_0_1_0).toLoadRect f2
abbrev rdT : Vec F S2048x3 .f32 :=
  M1.view.readAt (Elt F) (Rect.unit (s := S2048x3) ![0, 0] S2048x3.size inb_S2048x3_S2048x3_0_0).toLoadRect f1

/-- The body leaves its inputs and stores the two results. -/
theorem nms_run (f3 : Bf (F := F) c M3) (f4 : Bf (F := F) c M4) (E : Set ℕ) (Q : PUnit → sProp 𝕄) :
    iprop(pt c M0 f0 ∗ pt c M1 f1 ∗ pt c M2 f2 ∗ pt c M3 f3 ∗ pt c M4 f4
        ∗ (∀ w3 : Bf (F := F) c M3, ∀ w4 : Bf (F := F) c M4,
            iprop(⌜M3.view.read (Elt F) w3 = storedScores (rdW c M0 f0) (rdX c M2 f2) (rdY c M2 f2) (rdT c M1 f1)⌝
              ∗ ⌜M4.view.read (Elt F) w4 = storedPicks (rdW c M0 f0) (rdX c M2 f2) (rdY c M2 f2) (rdT c M1 f1)⌝
              ∗ pt c M0 f0 ∗ pt c M1 f1 ∗ pt c M2 f2 ∗ pt c M3 w3 ∗ pt c M4 w4) -∗ Q ⟨⟩))
      ⊢ wp frame (wpE (defs₀ (F := F)) 𝒱₀ (T c : Thread nD τ) none) E (cc0__nms_body M0 h0 M1 h1 M2 h2 M3 h3 M4 h4) Q := by
  rw [cc0__nms_body_eq_skeleton]
  unfold cc0__nms_body_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  iintro ⟨H0, H1, H2, H3, H4, Hk⟩
  sl_exec
  sl_step
  iapply Hk
  isplitr; swap
  · isplitr; swap
    · isplitl [H0]; · iexact H0
      isplitl [H1]; · iexact H1
      isplitl [H2]; · iexact H2
      isplitl [H3]; · iexact H3
      iexact H4
    · ipureintro
      rw [View.read_writes_full]
      unfold rdW rdX rdY rdT
      generalize View.readAt (Elt F) M0.view _ f0 = v0
      generalize View.readAt (Elt F) M1.view _ f1 = v6
      generalize View.readAt (Elt F) M2.view (Rect.unit ![0, 0, 0] _ _).toLoadRect f2 = v2
      generalize View.readAt (Elt F) M2.view (Rect.unit ![0, 1, 0] _ _).toLoadRect f2 = v4
      simp only [show nms_run.sl.v27 = lane from rfl, pay7_eq, pay8_eq, pay9_eq, pay10_eq, pay11_eq, pay13_eq, pay14_eq, pay15_eq, pay16_eq,
      pay17_eq, pay18_eq, pay20_eq, pay21_eq, pay22_eq, pay23_eq, pay24_eq, pay25_eq, pay27_eq, pay28_eq, pay29_eq, pay30_eq, pay31_eq, pay33_eq, pay34_eq,
      pay35_eq, pay38_eq, pay40_eq, pay1_eq]
      exact pay2_eq fun k => shapeCast S2048 (pick (wt v0 v2 v4 v6 k)) shapeCasts_S2048x1_S2048
  · ipureintro
    rw [View.read_writes_full]
    unfold rdW rdX rdY rdT
    generalize View.readAt (Elt F) M0.view _ f0 = v0
    generalize View.readAt (Elt F) M1.view _ f1 = v6
    generalize View.readAt (Elt F) M2.view (Rect.unit ![0, 0, 0] _ _).toLoadRect f2 = v2
    generalize View.readAt (Elt F) M2.view (Rect.unit ![0, 1, 0] _ _).toLoadRect f2 = v4
    simp only [show nms_run.sl.v27 = lane from rfl, pay7_eq, pay8_eq, pay9_eq, pay10_eq, pay11_eq, pay13_eq, pay14_eq, pay15_eq, pay16_eq,
      pay17_eq, pay18_eq, pay20_eq, pay21_eq, pay22_eq, pay23_eq, pay24_eq, pay25_eq, pay27_eq, pay28_eq, pay29_eq, pay30_eq, pay31_eq, pay33_eq, pay34_eq,
      pay35_eq, pay38_eq, pay40_eq, pay1_eq]
    have h := pay39_eq (k0_pay3 v2) (k0_pay4 v4) (wt v0 v2 v4 v6 4) (k0_pay5 v0) (k0_pay6 v6) (fun k => gain (k0_pay5 v0) (wt v0 v2 v4 v6 k)) rfl rfl
    unfold storedScores share6
    rw [← h]
    simp only [wt, weights]

end
end Cert.Proof.K

end
-- ==== Proof.Region.lean ====
/-
  The kernel on the matrix core as a region of the host's program: entered from any contents of the buffers, left with
  its two results written.
-/
module

public import proofs.«01_k».proof.Proof.Body
public import Idealize.ShloMosaic.Lib.Pipeline.RegionsLoop

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok pending Batch)
open Idealize.ShloMosaic.Tactic

open Idealize.ShloMosaic.Pipeline (Dat BodyObligation)

variable {F : FTy → Type} [FloatOps F]

local notation "𝕄" => MT nD τ sig (HIx 1) (Elt F) ℕ UU ℕ

/-- The contents of every buffer the host names, on each core. -/
abbrev Vals (F : FTy → Type) : Type := (c : Dev nD) → (b : Ref sig .tc) → Buf (Elt F) ((T c : Thread nD τ).loc b)

variable (V : Vals F)

/-- The inputs' blocks as they are fetched. -/
abbrev stg0 (c : Dev nD) : FVec F S2048x64 .f32 := (win0_0.blk t0_0).view.read (Elt F) (V c main_v5)
abbrev stg1 (c : Dev nD) : FVec F S2048x3 .f32 := (win0_1.blk t0_0).view.read (Elt F) (V c main_v6)
abbrev stg2 (c : Dev nD) : FVec F S2048x2x64 .f32 := (win0_2.blk t0_0).view.read (Elt F) (V c main_v4)

/-- The results the body stores over the fetched blocks. -/
abbrev outScores (c : Dev nD) : FVec F S2048x6 .f32 :=
  storedScores (rdW c (stage0_0 0) (stg0 V c)) (rdX c (stage0_2 0) (stg2 V c)) (rdY c (stage0_2 0) (stg2 V c)) (rdT c (stage0_1 0) (stg1 V c))
abbrev outPicks (c : Dev nD) : IVec S2048x6 32 :=
  storedPicks (rdW c (stage0_0 0) (stg0 V c)) (rdX c (stage0_2 0) (stg2 V c)) (rdY c (stage0_2 0) (stg2 V c)) (rdT c (stage0_1 0) (stg1 V c))

/-- The scoped buffers no window stages. -/
abbrev Φc (c : Dev nD) : sProp 𝕄 := Pipeline.scopedRest (Ix := HIx 1) (Name := ℕ) (U := UU) (Lvl := ℕ) (Val := Elt F) spec0 c

/-- The region's proof data: the arrays at `V`, the buffers after the body, what the core owes throughout, and that what
    its waits have recorded is at the lowest level. -/
def dat (c : Dev nD) : Dat τ (Elt F) (HIx 1) ℕ UU ℕ cfg0 c where
  A w := V c (Pipeline.arrRef spec0 w)
  after w _ := match w with
    | ⟨0, _⟩ => stg0 V c
    | ⟨1, _⟩ => stg1 V c
    | ⟨2, _⟩ => stg2 V c
    | ⟨3, _⟩ => outScores V c
    | ⟨4, _⟩ => outPicks V c
  Φ _ := Φc c
  q _ := fullShare
  owed _ := (K (F := F)).Otc c 0
  recorded _ := {p | (K (F := F)).lev (T c, p.1) p.2 ≤ 0}

/-- The one pipeline's parameters and data. -/
abbrev adm (p : Fin 1) : (pcfgs (F := F) p).Adm := (cfgs p).toPCfg_adm
def pdats : (p : Fin 1) → (c : Dev nD) → Dat τ (Elt F) (HIx 1) ℕ UU ℕ (Pipeline.pin (pcfgs (F := F)) adm p) c
  | ⟨0, _⟩ => fun c => dat V c

theorem before_in (c : Dev nD) (w : Fin cfg0.W) (h : (cfg0.win w).fetch t0_0 = true) (d : (cfg0.win w).block.Idx → Elt F (cfg0.win w).elt) :
    (dat V c).before w t0_0 d = (dat V c).after w t0_0 := by
  unfold Dat.before; rw [if_pos h]
  fin_cases w
  · rfl
  · rfl
  · rfl
  · exact absurd h (by decide)
  · exact absurd h (by decide)

/-- The body's obligation at the region's one point. -/
theorem body_obligation (c : Dev nD) : BodyObligation (dat V c) (defs₀ (F := F)) 𝒱₀ none Set.univ := fun t => by
  obtain rfl := fin_N0 t
  rw [bigSep_W0, bigSep_W0]
  simp only [owns_whole_eq]
  rw [show (dat V c).Φ t0_0.castSucc = Φc c from rfl, show (dat V c).Φ t0_0.succ = Φc c from rfl,
    show (dat V c).owesAt none t0_0.succ = (dat V c).owesAt none t0_0.castSucc from rfl]
  iintro ⟨HΦ, Howes, ⟨%d0, %f0, %hf0, H0⟩, ⟨%d1, %f1, %hf1, H1⟩, ⟨%d2, %f2, %hf2, H2⟩, ⟨%d3, %f3, -, H3⟩, ⟨%d4, %f4, -, H4⟩⟩
  rw [before_in V c 0 (fetch0_0 _)] at hf0
  rw [before_in V c 1 (fetch0_1 _)] at hf1
  rw [before_in V c 2 (fetch0_2 _)] at hf2
  subst hf0 hf1 hf2
  iapply (nms_run c (stage0_0 0) (hstage0_0 0) (stage0_1 0) (hstage0_1 0) (stage0_2 0) (hstage0_2 0) (stage0_3 0) (hstage0_3 0) (stage0_4 0) (hstage0_4 0)
    (stg0 V c) (stg1 V c) (stg2 V c) f3 f4 Set.univ _)
  isplitl [H0]; · iexact H0
  isplitl [H1]; · iexact H1
  isplitl [H2]; · iexact H2
  isplitl [H3]; · iexact H3
  isplitl [H4]; · iexact H4
  iintro %w3 %w4 ⟨%h3, %h4, H0, H1, H2, H3, H4⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]; exact h3
  iexists _; isplitr; swap; (· iexact H4); ipureintro; dsimp only [dat]; exact h4

/-- The results' arrays after the region. -/
def scoresOut (c : Dev nD) : Buf (Elt F) ((T c : Thread nD τ).loc main_v7_0) := (dat V c).arrAt 3 cfg0.N
def picksOut (c : Dev nD) : Buf (Elt F) ((T c : Thread nD τ).loc main_v7_1) := (dat V c).arrAt 4 cfg0.N

/-- Nothing the core has waited for lies above the lowest level, and it owes its later calls. -/
abbrev calm (c : Dev nD) : sProp 𝕄 :=
  iprop(∃ W, ⌜(K (F := F)).WBelow (T c) W 0⌝ ∗ owes (T c : Thread nD τ) ((K (F := F)).Otc c 0) W)

/-- A core's later calls are none of them owed at the index of a wait of its own. -/
theorem Otc_none (c : Dev nD) (g : GSem nD τ sig) : (K (F := F)).Otc (N := 1) c 0 g none = 0 := by
  by_contra h
  have h1 := SparseCore.Cfg.lev_of_Otc_pos (K := K (F := F)) (Nat.pos_of_ne_zero h)
  rw [(K (F := F)).lev_none] at h1
  exact absurd h1 (by omega)

variable (Vp : Vals F)

set_option backward.isDefEq.respectTransparency.types false in
/-- The region, over every buffer of the host at `V` and what rides along. -/
def reg (R : Dev nD → sProp 𝕄) (h3 : ∀ c, Vp c main_v7_0 = scoresOut V c) (h4 : ∀ c, Vp c main_v7_1 = picksOut V c)
    (hne : ∀ c (b : Ref sig .tc), b ≠ main_v7_0 → b ≠ main_v7_1 → Vp c b = V c b) :
    Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ 0 c fun w s t => (K (F := F)).mayWait_none _ (Otc_none c)
  pre c := iprop(unscopedBufs c (V c) ∗ R c ∗ calm c)
  post c := iprop(unscopedBufs c (Vp c) ∗ R c ∗ calm c)
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hne c main_v5 (by decide) (by decide)).symm
        · exact ((pdats V 0 c).arrAt_in 1 rfl _).trans (hne c main_v6 (by decide) (by decide)).symm
        · exact ((pdats V 0 c).arrAt_in 2 rfl _).trans (hne c main_v4 (by decide) (by decide)).symm
        · exact (h3 c).symm
        · exact (h4 c).symm)
      (fun b hb => hne c b (fun h => hb (h ▸ Finset.mem_image.mpr ⟨3, Finset.mem_univ _, rfl⟩)) fun h => hb (h ▸ Finset.mem_image.mpr ⟨4, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro p hp
      rcases hW hp with h | ⟨w, s, h⟩
      · exact h
      · rw [h]; exact Nat.le_of_eq ((K (F := F)).lev_none _)
    iexact HO

end Cert.Proof.K

end
-- ==== Proof.Issue.lean ====
/-
  The tile's first part: for each of its 384 cells it issues a copy of that cell's 320 values into a row of its scratch.
-/
module

public import proofs.«01_k».proof.Proof.Setup

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok pending Batch)
open Idealize.ShloMosaic.Tactic

variable {F : FTy → Type} [FloatOps F]

local notation "𝕄" => MT nD τ sig (HIx 1) (Elt F) ℕ UU ℕ

/-! ## The rows the copies move -/

/-- Row at `off` of the scratch, as the program slices it. -/
abbrev rowM (off : Fin 2 → ℕ) (h : ∀ a, off a + S1x320.size a ≤ S384x320.size a) : Memref sig .scVector .vmem S320 .f32 :=
  (rM.slice (Rect.unit (s := S384x320) off S1x320.size h) (fun _ => rfl)).squeeze S320 squeezes_S1x320_S320
/-- The cell at `off` of the array read, as the program slices it. -/
abbrev srcM (off : Fin 4 → ℕ) (h : ∀ a, off a + S1x1x1x320.size a ≤ S32x64x64x320.size a) : Memref sig .scVector .hbm S320 .f32 :=
  (aM.slice (Rect.unit (s := S32x64x64x320) off S1x1x1x320.size h) (fun _ => rfl)).squeeze S320 squeezes_S1x1x1x320_S320

/-- Row `n` of the scratch. -/
def rowSet (n : Fin 384) : Finset S384x320.Idx := Finset.univ.filter fun p => (p 0).val = n.val

omit [FloatOps F] in
theorem rowM_emb (off : Fin 2 → ℕ) (h) (n : Fin 384) (ho : off = ![n.val, 0]) (j : S320.Idx) :
    (rowM off h).view.emb j = (ix2 (n0 := 384) (n1 := 320) n (j 0) : S384x320.Idx) := by
  subst ho
  show (Rect.unit (s := S384x320) ![n.val, 0] S1x320.size h).emb (Shape.reshapeEquiv _ j) = _
  rw [resh2]
  refine ext2 ?_ ?_
  · rw [Rect.emb_apply]; show n.val + 1 * 0 = n.val; simp
  · rw [Rect.emb_apply]; show 0 + 1 * (j 0).val = (j 0).val; simp

omit [FloatOps F] in
theorem rowM_set (off : Fin 2 → ℕ) (h) (n : Fin 384) (ho : off = ![n.val, 0]) : (rowM off h).view.set = rowSet n := by
  ext p
  constructor
  · intro hp
    obtain ⟨j, -, e⟩ := Finset.mem_map.mp hp
    rw [rowM_emb off h n ho] at e
    subst e
    exact Finset.mem_filter.mpr ⟨Finset.mem_univ _, rfl⟩
  · intro hp
    have h0 : (p 0).val = n.val := (Finset.mem_filter.mp hp).2
    have : (rowM off h).view.emb (ix1 (n0 := 320) (p 1)) = p := by
      rw [rowM_emb off h n ho]
      exact ext2 h0.symm rfl
    rw [← this]
    exact View.emb_mem_set _ _

omit [FloatOps F] in
theorem srcM_emb (w : Fin 32) (f : BitVec 32) (off : Fin 4 → ℕ) (h)
    (ho : off = ![w.val, (hiW f).toNat, (loW f).toNat, 0]) (j : S320.Idx) :
    (srcM off h).view.emb j = (cellIx w f (j 0) : S32x64x64x320.Idx) := by
  subst ho
  show (Rect.unit (s := S32x64x64x320) _ S1x1x1x320.size h).emb (Shape.reshapeEquiv _ j) = _
  rw [resh4]
  funext a
  apply Fin.ext
  rw [Rect.emb_apply]
  match a with
  | 0 => show w.val + 1 * 0 = w.val; simp
  | 1 => show (hiW f).toNat + 1 * 0 = (hiW f).toNat; simp
  | 2 => show (loW f).toNat + 1 * 0 = (loW f).toNat; simp
  | 3 => show 0 + 1 * (j 0).val = (j 0).val; simp

variable (A : S32x64x64x320.Idx → Elt F .f32) (B : S12288.Idx → BitVec 32) (d : Dev nD) (i : grid1.Coords)

/-- What copy `n` leaves: row `n` of the scratch at its cell's values. -/
def RowD (n : Fin 384) : sProp 𝕄 :=
  iprop((V d (cV i) (jV i)).loc cc1_scratch1 ↦[rowSet n]{fullShare} (T8 A B (wid i) : Buf (Elt F) ((V d (cV i) (jV i)).loc cc1_scratch1)))

instance RowD_storable (n : Fin 384) : BI.Storable (upEmb : UEmb _ 𝕄) (RowD A B d i n) := by unfold RowD; infer_instance

/-- The bytes one row's copy moves. -/
abbrev NR : ℕ := (rM : Memref sig .scVector .vmem S384x320 .f32).view.ref.dmaCredit S320 .f32

theorem NR_pos : 0 < NR := sig.dmaCredit_pos _ _ _ _ _ (by decide)

/-- What the tile's list of cells holds. -/
def XI (w : Fin 32) : S384.Idx → BitVec 32 := fun p => B (listIx w (p 0))

/-- The state between copies: the list, the rows and the read shares not yet used, and the copies issued so far. -/
def Iss (fd : S384x320.Idx → Elt F .f32) (n : ℕ) : sProp 𝕄 :=
  iprop(((V d (cV i) (jV i)).loc cc1_scratch0 ↦{fullShare} (XI B (wid i) : Buf (Elt F) ((V d (cV i) (jV i)).loc cc1_scratch0)))
    ∗ (bigSep (pending n) fun k : Fin 384 => (V d (cV i) (jV i)).loc cc1_scratch1 ↦[rowSet k]{fullShare} (fd : Buf (Elt F) ((V d (cV i) (jV i)).loc cc1_scratch1)))
    ∗ (bigSep (pending n) fun k : Fin 384 => (V d (cV i) (jV i)).loc main_v0_scv ↦{shareTok (shareTok fullShare 32 (wid i)) 384 k} (A : Buf (Elt F) ((V d (cV i) (jV i)).loc main_v0_scv)))
    ∗ Batch EC (V d (cV i) (jV i)) (.dma cc1_scratch5.sem) (none : HIx 1) NR (RowD A B d i) n 0)

/-- One copy: the cell word `n` of the list names, into row `n`. -/
theorem issue_step {α : Type} {Q : α → sProp 𝕄} (fd : S384x320.Idx → Elt F .f32) (n : Fin 384)
    (offD : Fin 2 → ℕ) (hD) (offS : Fin 4 → ℕ) (hS)
    (hoD : offD = ![n.val, 0])
    (hoS : offS = ![(wid i).val, (hiW (B (listIx (wid i) n))).toNat, (loW (B (listIx (wid i) n))).toNat, 0])
    {h1 h2 h3} {k : PUnit → Prog (TpuEff nD τ sig (Elt F) Λ₀ (V d (cV i) (jV i)).2) α} :
    Iss A B d i fd n.val
      ⊢ iprop((Iss A B d i fd (n.val + 1) -∗ wp frame (wpE (defs₀ (F := F)) 𝒱₀ (V d (cV i) (jV i)) none) Set.univ (k ⟨⟩) Q)
          -∗ wp frame (wpE (defs₀ (F := F)) 𝒱₀ (V d (cV i) (jV i)) none) Set.univ
              (.op (.enqueueDma (srcM offS hS) (.here (rowM offD hD)) (.dma cc1_scratch5.sem) h1 h2 h3) k) Q) := by
  have hs1 := Transfers.bigSep_pending_step (fun k : Fin 384 => ((V d (cV i) (jV i)).loc cc1_scratch1 ↦[rowSet k]{fullShare} (fd : Buf (Elt F) ((V d (cV i) (jV i)).loc cc1_scratch1)) : sProp 𝕄)) n.val n.isLt
  have hs2 := Transfers.bigSep_pending_step (fun k : Fin 384 => ((V d (cV i) (jV i)).loc main_v0_scv ↦{shareTok (shareTok fullShare 32 (wid i)) 384 k} (A : Buf (Elt F) ((V d (cV i) (jV i)).loc main_v0_scv)) : sProp 𝕄)) n.val n.isLt
  unfold Iss
  rw [hs1, hs2]
  iintro ⟨Hx, ⟨Hr, Hrs⟩, ⟨Ha, Has⟩, HB⟩ Hk
  ihave Ha' := (pointsTo_split_subset (ℓ := (V d (cV i) (jV i)).loc main_v0_scv) (Finset.subset_univ (srcM offS hS).view.set)).1 $$ Ha
  icases Ha' with ⟨Ha, -⟩
  iapply (Transfers.wp_dmaBatch EC 𝒱₀ (V d (cV i) (jV i)) none (q := shareTok (shareTok fullShare 32 (wid i)) 384 n) (src := srcM offS hS) (dst := rowM offD hD) (fs := (A : Buf (Elt F) ((V d (cV i) (jV i)).loc main_v0_scv)))
    (fd := (fd : Buf (Elt F) ((V d (cV i) (jV i)).loc cc1_scratch1))) (Sd := rowSet n) (D := RowD A B d i)
    (none : HIx 1) NR rfl (rowM_set offD hD n hoD).subset n.isLt (Nat.zero_le _) ?hd) $$ [Ha Hr HB]
  case hd =>
    iintro ⟨Hr, -⟩
    unfold RowD
    iapply (Entails.of_eq (pointsTo_congr ?hc)) $$ Hr
    case hc =>
      intro p hp
      have h0 : (p 0).val = n.val := (Finset.mem_filter.mp hp).2
      have he : (rowM offD hD).view.emb (ix1 (n0 := 320) (p 1)) = p := by
        rw [rowM_emb offD hD n hoD]
        exact ext2 h0.symm rfl
      have hw := View.write_emb_of_mem (v := (rowM offD hD).view) (Val := Elt F) (fd : Buf (Elt F) ((V d (cV i) (jV i)).loc cc1_scratch1))
        ((srcM offS hS).view.read (Elt F) (A : Buf (Elt F) ((V d (cV i) (jV i)).loc main_v0_scv))) (Finset.mem_univ (ix1 (n0 := 320) (p 1)))
      rw [he] at hw
      refine hw.trans ?_
      refine (cast_eq _ _).trans ?_
      refine (View.read_apply _ _).trans ?_
      refine (cast_eq _ _).trans ?_
      rw [srcM_emb (wid i) _ offS hS hoS]
      show A (cellIx (wid i) (B (listIx (wid i) n)) (p 1)) = A (cellIx (wid i) (B (listIx (wid i) (p 0))) (p 1))
      rw [show (p 0 : Fin 384) = n from Fin.ext h0]
  · isplitl [Ha]; · iexact Ha
    isplitl [Hr]; · iexact Hr
    iexact HB
  iintro HB
  iapply Hk
  isplitl [Hx]; · iexact Hx
  isplitl [Hrs]; · iexact Hrs
  isplitl [Has]; · iexact Has
  iexact HB

end Cert.Proof.K

end
-- ==== Proof.Loops.lean ====
/-
  The loops that issue a tile's row copies and wait for them.
-/
module

public import proofs.«01_k».proof.Proof.Issue

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok pending Batch)
open Idealize.ShloMosaic.Tactic

variable {F : FTy → Type} [FloatOps F]

local notation "𝕄" => MT nD τ sig (HIx 1) (Elt F) ℕ UU ℕ

theorem off4_eq (i : grid1.Coords) (v : BitVec 32) : k1_off4 i v = ![(wid i).val, (hiW v).toNat, (loW v).toNat, 0] := by
  have h : k1_off4 i v 0 = (wid i).val := congrFun (k1_off37_eq i) 0
  funext a
  match a with
  | 0 => exact h
  | 1 => rfl
  | 2 => rfl
  | 3 => rfl

/-- The offsets a cell's word gives are inside the array, whatever the word. -/
theorem chk_ok (i : grid1.Coords) (v : BitVec 32) : k1_chk1 i v := by
  intro a
  rw [off4_eq]
  have hw := (wid i).isLt
  have h1 := hiW_lt v
  have h2 := loW_lt v
  match a with
  | 0 => show (wid i).val + 1 ≤ 32; omega
  | 1 => show (hiW v).toNat + 1 ≤ 64; omega
  | 2 => show (loW v).toNat + 1 ≤ 64; omega
  | 3 => show 0 + 320 ≤ 320; omega

theorem rowOff_val : ∀ (t : Fin 24) (c : Fin 16), k1_off5 t (BitVec.ofNat 32 c.val) 0 = 16 * t.val + c.val := by decide

theorem rowOff_eq (t : Fin k1_t1_loop.trips) (c : Fin 16) : k1_off5 t (BitVec.ofNat 32 c.val) = ![16 * t.val + c.val, 0] := by
  funext a
  match a with
  | 0 => exact rowOff_val t c
  | 1 => rfl

variable (A : S32x64x64x320.Idx → Elt F .f32) (B : S12288.Idx → BitVec 32) (d : Dev nD) (i : grid1.Coords)

/-- The row lane `c` of trip `t` handles. -/
def nOf (t : Fin 24) (c : Fin 16) : Fin 384 := ⟨16 * t.val + c.val, by have := t.isLt; have := c.isLt; omega⟩

/-- The sixteen words trip `t` loads off the list. -/
abbrev words (w : Fin 32) (t : Fin k1_t1_loop.trips) : Vec F S16 .i32 :=
  (xM : Memref sig .scVector .vmem S384 .i32).view.readAt (Elt F) (Rect.unit (s := S384) (k1_off2 t) S16.size (k1_off2_inb t)).toLoadRect (XI B w)

omit [FloatOps F] in
theorem lane_word (w : Fin 32) (t : Fin k1_t1_loop.trips) (c : Fin 16) (h) (hp) :
    extractAt ![0] (extractStridedSlice S1 ![c.val] (words (F := F) B w t) h) hp = B (listIx w (nOf t c)) := by
  show B (listIx w _) = _
  congr 2
  apply Fin.ext
  show (k1_off2 t) 0 + 1 * (c.val + 0) = 16 * t.val + c.val
  rw [k1_off2_eq]
  show 16 * t.val + 1 * (c.val + 0) = _
  omega

/-- One lane of one trip: its side condition, then its copy. -/
theorem lane_step {α : Type} {Q : α → sProp 𝕄} (fd : S384x320.Idx → Elt F .f32) (t : Fin k1_t1_loop.trips) (c : Fin 16) (v : BitVec 32)
    (hv : v = B (listIx (wid i) (nOf t c))) (hD) (hS)
    {h1 h2 h3} {k : PUnit → Prog (TpuEff nD τ sig (Elt F) Λ₀ (V d (cV i) (jV i)).2) α} :
    Iss A B d i fd (16 * t.val + c.val)
      ⊢ iprop((Iss A B d i fd (16 * t.val + c.val + 1) -∗ wp frame (wpE (defs₀ (F := F)) 𝒱₀ (V d (cV i) (jV i)) none) Set.univ (k ⟨⟩) Q)
          -∗ wp frame (wpE (defs₀ (F := F)) 𝒱₀ (V d (cV i) (jV i)) none) Set.univ
              (.op (.enqueueDma (srcM (k1_off4 i v) hS) (.here (rowM (k1_off5 t (BitVec.ofNat 32 c.val)) hD)) (.dma cc1_scratch5.sem) h1 h2 h3) k) Q) := by
  subst hv
  exact issue_step A B d i fd (nOf t c) _ hD _ hS (rowOff_eq t c) (off4_eq i _)

theorem Iss_eq (fd : S384x320.Idx → Elt F .f32) (n : ℕ) : Iss A B d i fd n =
    iprop(((V d (cV i) (jV i)).loc cc1_scratch0 ↦{fullShare} (XI B (wid i) : Buf (Elt F) ((V d (cV i) (jV i)).loc cc1_scratch0)))
    ∗ (bigSep (pending n) fun k : Fin 384 => (V d (cV i) (jV i)).loc cc1_scratch1 ↦[rowSet k]{fullShare} (fd : Buf (Elt F) ((V d (cV i) (jV i)).loc cc1_scratch1)))
    ∗ (bigSep (pending n) fun k : Fin 384 => (V d (cV i) (jV i)).loc main_v0_scv ↦{shareTok (shareTok fullShare 32 (wid i)) 384 k} (A : Buf (Elt F) ((V d (cV i) (jV i)).loc main_v0_scv)))
    ∗ Batch EC (V d (cV i) (jV i)) (.dma cc1_scratch5.sem) (none : HIx 1) NR (RowD A B d i) n 0) := rfl

set_option maxHeartbeats 4000000 in
/-- One trip of the issuing loop: sixteen copies more. -/
theorem t1_trip (fd : S384x320.Idx → Elt F .f32) (t : Fin k1_t1_loop.trips) (u : Unit) :
    Iss A B d i fd (16 * t.val)
      ⊢ wp frame (wpE (defs₀ (F := F)) 𝒱₀ (V d (cV i) (jV i)) none) Set.univ
          (k1_t1_body i aM (Memref.isWhole_whole _) bM (Memref.isWhole_whole _) o9M (Memref.isWhole_whole _) o10M (Memref.isWhole_whole _) o11M (Memref.isWhole_whole _)
            xM (Memref.isWhole_whole _) rM (Memref.isWhole_whole _) s9M (Memref.isWhole_whole _) s10M (Memref.isWhole_whole _) s11M (Memref.isWhole_whole _)
            cc1_scratch5 cc1_scoped0 cc1_scoped1 cc1_scoped2 cc1_scoped3 t u)
          fun _ => Iss A B d i fd (16 * (t.val + 1)) := by
  have hmono : Iss A B d i fd (16 * t.val + 15 + 1) ⊢ Iss A B d i fd (16 * (t.val + 1)) :=
    Entails.of_eq (by rw [show 16 * t.val + 15 + 1 = 16 * (t.val + 1) by omega])
  simp only [k1_t1_body, k1_part1_eq_skeleton, k1_part2_eq_skeleton, k1_part3_eq_skeleton, k1_part4_eq_skeleton,
    k1_part5_eq_skeleton, k1_part6_eq_skeleton, k1_part7_eq_skeleton]
  unfold k1_part1_skel k1_part2_skel k1_part3_skel k1_part4_skel k1_part5_skel k1_part6_skel k1_part7_skel
  simp only [Prog.lift, Prog.bind_op, Prog.bind_ret, Prog.pure_eq_ret]
  rw [show Iss A B d i fd (16 * t.val) = Iss A B d i fd (16 * t.val + (0 : Fin 16).val) from rfl, Iss_eq A B d i fd (16 * t.val + (0 : Fin 16).val)]
  iintro H
  icases H with ⟨Hx, Hr, Ha, HB⟩
  iapply (wp_load 𝒱₀ (V d (cV i) (jV i)) none Set.univ (m := xM) (S := Finset.univ) (Finset.subset_univ _)) $$ Hx; iintro Hx
  ihave H := (Entails.of_eq (Iss_eq A B d i fd (16 * t.val + (0 : Fin 16).val)).symm) $$ [Hx Hr Ha HB]
  · isplitl [Hx]; · iexact Hx
    isplitl [Hr]; · iexact Hr
    isplitl [Ha]; · iexact Ha
    iexact HB
  rw [wp_assume_of (P := k1_chk1 i _) _ _ _ _ (chk_ok i _)]
  iapply (lane_step A B d i fd t 0 _ (lane_word B (wid i) t 0 _ _) _ _) $$ H; iintro H
  rw [wp_assume_of (P := k1_chk2 i _) _ _ _ _ (chk_ok i _)]
  iapply (lane_step A B d i fd t 1 _ (lane_word B (wid i) t 1 _ _) _ _) $$ H; iintro H
  rw [wp_assume_of (P := k1_chk3 i _) _ _ _ _ (chk_ok i _)]
  iapply (lane_step A B d i fd t 2 _ (lane_word B (wid i) t 2 _ _) _ _) $$ H; iintro H
  rw [wp_assume_of (P := k1_chk4 i _) _ _ _ _ (chk_ok i _)]
  iapply (lane_step A B d i fd t 3 _ (lane_word B (wid i) t 3 _ _) _ _) $$ H; iintro H
  rw [wp_assume_of (P := k1_chk5 i _) _ _ _ _ (chk_ok i _)]
  iapply (lane_step A B d i fd t 4 _ (lane_word B (wid i) t 4 _ _) _ _) $$ H; iintro H
  rw [wp_assume_of (P := k1_chk6 i _) _ _ _ _ (chk_ok i _)]
  iapply (lane_step A B d i fd t 5 _ (lane_word B (wid i) t 5 _ _) _ _) $$ H; iintro H
  rw [wp_assume_of (P := k1_chk7 i _) _ _ _ _ (chk_ok i _)]
  iapply (lane_step A B d i fd t 6 _ (lane_word B (wid i) t 6 _ _) _ _) $$ H; iintro H
  rw [wp_assume_of (P := k1_chk8 i _) _ _ _ _ (chk_ok i _)]
  iapply (lane_step A B d i fd t 7 _ (lane_word B (wid i) t 7 _ _) _ _) $$ H; iintro H
  rw [wp_assume_of (P := k1_chk9 i _) _ _ _ _ (chk_ok i _)]
  iapply (lane_step A B d i fd t 8 _ (lane_word B (wid i) t 8 _ _) _ _) $$ H; iintro H
  rw [wp_assume_of (P := k1_chk10 i _) _ _ _ _ (chk_ok i _)]
  iapply (lane_step A B d i fd t 9 _ (lane_word B (wid i) t 9 _ _) _ _) $$ H; iintro H
  rw [wp_assume_of (P := k1_chk11 i _) _ _ _ _ (chk_ok i _)]
  iapply (lane_step A B d i fd t 10 _ (lane_word B (wid i) t 10 _ _) _ _) $$ H; iintro H
  rw [wp_assume_of (P := k1_chk12 i _) _ _ _ _ (chk_ok i _)]
  iapply (lane_step A B d i fd t 11 _ (lane_word B (wid i) t 11 _ _) _ _) $$ H; iintro H
  rw [wp_assume_of (P := k1_chk13 i _) _ _ _ _ (chk_ok i _)]
  iapply (lane_step A B d i fd t 12 _ (lane_word B (wid i) t 12 _ _) _ _) $$ H; iintro H
  rw [wp_assume_of (P := k1_chk14 i _) _ _ _ _ (chk_ok i _)]
  iapply (lane_step A B d i fd t 13 _ (lane_word B (wid i) t 13 _ _) _ _) $$ H; iintro H
  rw [wp_assume_of (P := k1_chk15 i _) _ _ _ _ (chk_ok i _)]
  iapply (lane_step A B d i fd t 14 _ (lane_word B (wid i) t 14 _ _) _ _) $$ H; iintro H
  rw [wp_assume_of (P := k1_chk16 i _) _ _ _ _ (chk_ok i _)]
  iapply (lane_step A B d i fd t 15 _ (lane_word B (wid i) t 15 _ _) _ _) $$ H; iintro H
  rw [wp_ret]; imodintro
  iapply hmono $$ H
  all_goals decide

/-- One trip of the waiting loop: one copy's worth more consumed. -/
theorem t2_trip (O : CellTallies nD τ sig (HIx 1)) (hO : ∀ g, O g none = 0) (W : Waits sig (HIx 1)) (t : Fin k1_t2_loop.trips) (u : Unit) :
    iprop(levAts (K (F := F)).L (K (F := F)).lev ∗ Batch EC (V d (cV i) (jV i)) (.dma cc1_scratch5.sem) (none : HIx 1) NR (RowD A B d i) 384 (t.val * NR)
        ∗ ∃ W', ⌜∀ p ∈ W', p ∈ W ∨ p.2 = none⌝ ∗ owes (V d (cV i) (jV i)) O W')
      ⊢ wp frame (wpE (defs₀ (F := F)) 𝒱₀ (V d (cV i) (jV i)) none) Set.univ
          (k1_t2_body i aM (Memref.isWhole_whole _) bM (Memref.isWhole_whole _) o9M (Memref.isWhole_whole _) o10M (Memref.isWhole_whole _) o11M (Memref.isWhole_whole _)
            xM (Memref.isWhole_whole _) rM (Memref.isWhole_whole _) s9M (Memref.isWhole_whole _) s10M (Memref.isWhole_whole _) s11M (Memref.isWhole_whole _)
            cc1_scratch5 cc1_scoped0 cc1_scoped1 cc1_scoped2 cc1_scoped3 t u)
          fun _ => iprop(levAts (K (F := F)).L (K (F := F)).lev ∗ Batch EC (V d (cV i) (jV i)) (.dma cc1_scratch5.sem) (none : HIx 1) NR (RowD A B d i) 384 ((t.val + 1) * NR)
            ∗ ∃ W', ⌜∀ p ∈ W', p ∈ W ∨ p.2 = none⌝ ∗ owes (V d (cV i) (jV i)) O W') := by
  have ht : t.val < 384 := t.isLt
  have hle : (t.val + 1) * NR ≤ NR * 384 := by rw [Nat.mul_comm NR]; exact Nat.mul_le_mul_right _ ht
  simp only [k1_t2_body, Prog.lift, Prog.bind_op, Prog.bind_ret, Prog.pure_eq_ret]
  iintro ⟨#Hlv, HB, ⟨%W', %hW', HO⟩⟩
  iapply (Transfers.wp_waitBatchMulO EC 𝒱₀ (V d (cV i) (jV i)) none (none : HIx 1) (N := NR) 1 (Nat.one_mul _).symm (D := RowD A B d i) (j := 384) (u := t.val * NR)
    (by rw [← Nat.add_mul]; exact hle) (O := O) (W := W')) $$ [HB HO]
  · isplitl [HB]; · iexact HB
    isplitl [HO]; · iexact HO
    iapply ((K (F := F)).mayWait_none (SemLoc.dma cc1_scratch5.sem) hO); iexact Hlv
  iintro ⟨HB, HO⟩
  rw [wp_ret]; imodintro
  isplitr; · iexact Hlv
  isplitl [HB]; · rw [Nat.add_mul]; iexact HB
  iexists _
  isplitr
  rotate_left
  · iexact HO
  · ipureintro
    intro p hp
    rcases Finset.mem_insert.mp hp with h | h
    · exact .inr (by rw [h])
    · exact hW' p h

end Cert.Proof.K

end
-- ==== Proof.Gather.lean ====
/-
  The tile's second part: for each time step it picks the rows' coordinates, headings and speeds out of its scratch and
  copies the three vectors to its slab of the results.
-/
module

public import proofs.«01_k».proof.Proof.Loops

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok pending Batch)
open Idealize.ShloMosaic.Tactic

variable {F : FTy → Type} [FloatOps F]

local notation "𝕄" => MT nD τ sig (HIx 1) (Elt F) ℕ UU ℕ

variable (A : S32x64x64x320.Idx → Elt F .f32) (B : S12288.Idx → BitVec 32) (d : Dev nD) (i : grid1.Coords)

abbrev thrV (d : Dev nD) (i : grid1.Coords) : Thread nD τ := V d (cV i) (jV i)

/-- The fetched rows, held whole. -/
abbrev rPts : sProp 𝕄 := (thrV d i).loc cc1_scratch1 ↦{fullShare} (T8 A B (wid i) : Buf (Elt F) ((thrV d i).loc cc1_scratch1))

/-- A scratch vector whose first `16 g` entries are `val`'s. -/
def Upto {n : ℕ} (M : Memref sig .scVector .vmem ⟨1, ![n]⟩ .f32) (val : (⟨1, ![n]⟩ : Shape).Idx → Elt F .f32) (k : ℕ) : sProp 𝕄 :=
  iprop(∃ f : Buf (Elt F) (M.view.loc (thrV d i)), ⌜∀ p : (⟨1, ![n]⟩ : Shape).Idx, (p 0).val < 16 * k → M.view.read (Elt F) f p = val p⌝
    ∗ M.view.loc (thrV d i) ↦{fullShare} f)

/-- One gather of sixteen entries into a scratch vector. -/
theorem gather_store {n : ℕ} (M : Memref sig .scVector .vmem ⟨1, ![n]⟩ .f32) (val : (⟨1, ![n]⟩ : Shape).Idx → Elt F .f32) (g : ℕ)
    (off : Fin 1 → ℕ) (inb) (hoff : off 0 = 16 * g) (idxs : Fin 2 → IVec S16 32) (h : ∀ a x, (idxs a x).toNat < S384x320.size a)
    (hval : ∀ x : S16.Idx, ∀ p : (⟨1, ![n]⟩ : Shape).Idx, (p 0).val = 16 * g + (x 0).val → T8 A B (wid i) (idxAt idxs h x) = val p)
    {α : Type} {Q : α → sProp 𝕄} {hl hl2 hs1 hs2} {k : PUnit → Prog (TpuEff nD τ sig (Elt F) Λ₀ (thrV d i).2) α} :
    iprop(rPts A B d i ∗ Upto d i M val g)
      ⊢ iprop((iprop(rPts A B d i ∗ Upto d i M val (g + 1)) -∗ wp frame (wpE (defs₀ (F := F)) 𝒱₀ (thrV d i) none) Set.univ (k ⟨⟩) Q)
          -∗ wp frame (wpE (defs₀ (F := F)) 𝒱₀ (thrV d i) none) Set.univ
              (SparseCore.vectorLoadIdx rM idxs h hl >>= fun v =>
                .op (.load M (Rect.unit (s := ⟨1, ![n]⟩) off S16.size inb).toLoadRect hl2) fun _ =>
                .op (.store M (Rect.unit (s := ⟨1, ![n]⟩) off S16.size inb) v Finset.univ hs1 hs2) k) Q) := by
  unfold Upto
  iintro ⟨Hr, %f, %hf, Hm⟩ Hk
  iapply (SparseCore.wp_vectorLoadIdx 𝒱₀ (thrV d i) none Set.univ (base := rM) (S := Finset.univ) (q := fullShare)
    (f := (T8 A B (wid i) : Buf (Elt F) ((thrV d i).loc cc1_scratch1))) (Finset.subset_univ _)) $$ Hr; iintro Hr
  iapply (wp_load 𝒱₀ (thrV d i) none Set.univ (m := M) (S := Finset.univ) (Finset.subset_univ _)) $$ Hm; iintro Hm
  iapply (wp_store 𝒱₀ (thrV d i) none Set.univ (m := M) (r := Rect.unit (s := ⟨1, ![n]⟩) off S16.size inb) (S := Finset.univ) (Mk := Finset.univ) (Finset.subset_univ _)) $$ Hm; iintro Hm
  iapply Hk
  isplitl [Hr]; · iexact Hr
  iexists _
  isplitr
  rotate_left
  · iexact Hm
  · ipureintro
    refine store16 M.view f off inb g hoff _ val ?_ hf
    intro x p hp
    rw [← hval x p hp]
    show (rM.access (Rect.whole S384x320)).read (Elt F) (T8 A B (wid i) : Buf (Elt F) ((thrV d i).loc cc1_scratch1)) (idxAt idxs h x) = _
    refine (View.read_apply _ _).trans ((cast_eq _ _).trans ?_)
    show T8 A B (wid i) ((Rect.whole S384x320).emb (idxAt idxs h x)) = _
    rw [Rect.emb_whole_apply]

/-! ## The indices gathered -/

abbrev vIota : IVec S16 32 := iota .scVector S16 32 [0] iota_S16_d0_w32_scVector

theorem pay18_val : ∀ (t : Fin 48) (x : Fin 16), (k1_pay18 vIota t (ix1 x)).toNat = (16 * t.val + x.val) / 2 := by decide +kernel
theorem pay17_mod : ∀ (t : Fin 48) (x : Fin 16), (Scalar.andi (k1_pay17 vIota t (ix1 x)) 1#32).toNat = (16 * t.val + x.val) % 2 := by decide +kernel
theorem pay20_val : ∀ (t : Fin 24) (x : Fin 16), (k1_pay20 vIota t (ix1 x)).toNat = 16 * t.val + x.val := by decide +kernel
/-- Four times the time step, as a word. -/
abbrev t4w (t : Fin k1_t3_loop.trips) : BitVec 32 := Scalar.muli (Scalar.addi 0#32 (Scalar.muli (Scf.iv 0#32 1#32 t) 1#32)) 4#32
theorem t4w_val : ∀ t : Fin 80, (t4w t).toNat = 4 * t.val := by decide +kernel

theorem addW (a b : BitVec 32) (h : a.toNat + b.toNat < 2 ^ 32) : (Scalar.addi a b).toNat = a.toNat + b.toNat := by
  show (a + b).toNat = _
  rw [BitVec.toNat_add, Nat.mod_eq_of_lt h]

theorem pay19_val (t3 : Fin k1_t3_loop.trips) (t : Fin 48) (x : Fin 16) :
    (k1_pay19 vIota 0#32 1#32 t3 t (ix1 x)).toNat = 4 * t3.val + (16 * t.val + x.val) % 2 := by
  have h1 := t4w_val t3
  have h2 := pay17_mod t x
  have h3 : t3.val < 80 := t3.isLt
  show (Scalar.addi (t4w t3) (Scalar.andi (k1_pay17 vIota t (ix1 x)) 1#32)).toNat = _
  rw [addW _ _ (by rw [h1, h2]; omega), h1, h2]

theorem t4w_add (t3 : Fin k1_t3_loop.trips) (c : BitVec 32) (hc : c.toNat < 4) : (Scalar.addi (t4w t3) c).toNat = 4 * t3.val + c.toNat := by
  have h1 := t4w_val t3
  have h3 : t3.val < 80 := t3.isLt
  rw [addW _ _ (by rw [h1]; omega), h1]

theorem chk17_ok (t3 : Fin k1_t3_loop.trips) (t : Fin k1_t4_loop.trips) : k1_chk17 (k1_pay18 vIota t) (k1_pay19 vIota 0#32 1#32 t3 t) := by
  intro a x
  have ht : t.val < 48 := t.isLt
  have h3 : t3.val < 80 := t3.isLt
  obtain ⟨x, rfl⟩ : ∃ x0 : Fin 16, x = ix1 x0 := ⟨x 0, eq_ix1 x⟩
  have hx : x.val < 16 := x.isLt
  match a with
  | 0 => show (k1_pay18 vIota t (ix1 x)).toNat < 384; rw [pay18_val t x]; omega
  | 1 => show (k1_pay19 vIota 0#32 1#32 t3 t (ix1 x)).toNat < 320; rw [pay19_val t3 t x]; omega

theorem chk18_ok (t3 : Fin k1_t3_loop.trips) (t : Fin k1_t5_loop.trips) (c : BitVec 32) (hc : c.toNat < 4) :
    k1_chk18 (k1_pay20 vIota t) (broadcast S16 (Scalar.addi (t4w t3) c)) := by
  intro a x
  have ht : t.val < 24 := t.isLt
  have h3 : t3.val < 80 := t3.isLt
  obtain ⟨x, rfl⟩ : ∃ x0 : Fin 16, x = ix1 x0 := ⟨x 0, eq_ix1 x⟩
  have hx : x.val < 16 := x.isLt
  match a with
  | 0 => show (k1_pay20 vIota t (ix1 x)).toNat < 384; rw [pay20_val t x]; omega
  | 1 => show (Scalar.addi (t4w t3) c).toNat < 320; rw [t4w_add t3 c hc]; omega

/-- What the three scratch vectors hold at time step `t`. -/
def W9 (t : Fin 80) : S768.Idx → Elt F .f32 := fun p => O9 A B (ix3 (wid i) t (p 0))
def W10 (t : Fin 80) : S384.Idx → Elt F .f32 := fun p => O10 A B (ix3 (wid i) t (p 0))
def W11 (t : Fin 80) : S384.Idx → Elt F .f32 := fun p => O11 A B (ix3 (wid i) t (p 0))

theorem t4_trip (t3 : Fin k1_t3_loop.trips) (t : Fin k1_t4_loop.trips) (u : Unit) :
    iprop(rPts A B d i ∗ Upto d i s9M (W9 A B i t3) t.val)
      ⊢ wp frame (wpE (defs₀ (F := F)) 𝒱₀ (thrV d i) none) Set.univ
          (k1_t4_body i aM (Memref.isWhole_whole _) bM (Memref.isWhole_whole _) o9M (Memref.isWhole_whole _) o10M (Memref.isWhole_whole _) o11M (Memref.isWhole_whole _)
            xM (Memref.isWhole_whole _) rM (Memref.isWhole_whole _) s9M (Memref.isWhole_whole _) s10M (Memref.isWhole_whole _) s11M (Memref.isWhole_whole _)
            cc1_scratch5 cc1_scoped0 cc1_scoped1 cc1_scoped2 cc1_scoped3 vIota 0#32 1#32 t3 t u)
          fun _ => iprop(rPts A B d i ∗ Upto d i s9M (W9 A B i t3) (t.val + 1)) := by
  simp only [k1_t4_body, Prog.lift, Prog.bind_op, Prog.bind_ret, Prog.pure_eq_ret]
  rw [wp_assume_of (P := k1_chk17 _ _) _ _ _ _ (chk17_ok t3 t)]
  iintro H
  iapply (gather_store A B d i s9M (W9 A B i t3) t.val (k1_off38 t) _ (congrFun (k1_off38_eq t) 0) _ _ ?hv) $$ H
  case hv =>
    intro x p hp
    obtain ⟨x, rfl⟩ : ∃ x0 : Fin 16, x = ix1 x0 := ⟨x 0, eq_ix1 x⟩
    have e1 := pay18_val t x
    have e2 := pay19_val t3 t x
    have hp' : (p 0).val = 16 * t.val + x.val := hp
    show T8 A B (wid i) _ = T8 A B (wid i) _
    congr 1
    refine ext2 ?_ ?_
    · exact e1.trans (by rw [← hp']; rfl)
    · exact e2.trans (by rw [← hp']; rfl)
  iintro H
  rw [wp_ret]; imodintro
  iexact H

theorem t5_trip (t3 : Fin k1_t3_loop.trips) (t : Fin k1_t5_loop.trips) (u : Unit) :
    iprop(rPts A B d i ∗ Upto d i s10M (W10 A B i t3) t.val ∗ Upto d i s11M (W11 A B i t3) t.val)
      ⊢ wp frame (wpE (defs₀ (F := F)) 𝒱₀ (thrV d i) none) Set.univ
          (k1_t5_body i aM (Memref.isWhole_whole _) bM (Memref.isWhole_whole _) o9M (Memref.isWhole_whole _) o10M (Memref.isWhole_whole _) o11M (Memref.isWhole_whole _)
            xM (Memref.isWhole_whole _) rM (Memref.isWhole_whole _) s9M (Memref.isWhole_whole _) s10M (Memref.isWhole_whole _) s11M (Memref.isWhole_whole _)
            cc1_scratch5 cc1_scoped0 cc1_scoped1 cc1_scoped2 cc1_scoped3 vIota 0#32 1#32 t3 (t4w t3) t u)
          fun _ => iprop(rPts A B d i ∗ Upto d i s10M (W10 A B i t3) (t.val + 1) ∗ Upto d i s11M (W11 A B i t3) (t.val + 1)) := by
  simp only [k1_t5_body, Prog.lift, Prog.bind_op, Prog.bind_ret, Prog.pure_eq_ret]
  rw [wp_assume_of (P := k1_chk18 _ _) _ _ _ _ (chk18_ok t3 t 2#32 (by decide))]
  iintro ⟨Hr, H10, H11⟩
  iapply (gather_store A B d i s10M (W10 A B i t3) t.val (k1_off39 t) _ (congrFun (k1_off39_eq t) 0) _ _ ?hv) $$ [Hr H10]
  case hv =>
    intro x p hp
    obtain ⟨x, rfl⟩ : ∃ x0 : Fin 16, x = ix1 x0 := ⟨x 0, eq_ix1 x⟩
    have e1 := pay20_val t x
    have e2 := t4w_add t3 2#32 (by decide)
    have hp' : (p 0).val = 16 * t.val + x.val := hp
    show T8 A B (wid i) _ = T8 A B (wid i) _
    congr 1
    refine ext2 ?_ ?_
    · exact e1.trans hp'.symm
    · exact e2
  · isplitl [Hr]; · iexact Hr
    iexact H10
  iintro ⟨Hr, H10⟩
  rw [wp_assume_of (P := k1_chk19 _ _) _ _ _ _ (chk18_ok t3 t 3#32 (by decide))]
  iapply (gather_store A B d i s11M (W11 A B i t3) t.val (k1_off40 t) _ (congrFun (k1_off40_eq t) 0) _ _ ?hv) $$ [Hr H11]
  case hv =>
    intro x p hp
    obtain ⟨x, rfl⟩ : ∃ x0 : Fin 16, x = ix1 x0 := ⟨x 0, eq_ix1 x⟩
    have e1 := pay20_val t x
    have e2 := t4w_add t3 3#32 (by decide)
    have hp' : (p 0).val = 16 * t.val + x.val := hp
    show T8 A B (wid i) _ = T8 A B (wid i) _
    congr 1
    refine ext2 ?_ ?_
    · exact e1.trans hp'.symm
    · exact e2
  · isplitl [Hr]; · iexact Hr
    iexact H11
  iintro ⟨Hr, H11⟩
  rw [wp_ret]; imodintro
  isplitl [Hr]; · iexact Hr
  isplitl [H10] <;> iassumption

end Cert.Proof.K

end
-- ==== Proof.Out.lean ====
/-
  The three copies of a time step, and the tile's whole run.
-/
module

public import proofs.«01_k».proof.Proof.Gather

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok pending Batch)
open Idealize.ShloMosaic.Tactic

variable {F : FTy → Type} [FloatOps F]

local notation "𝕄" => MT nD τ sig (HIx 1) (Elt F) ℕ UU ℕ

variable (A : S32x64x64x320.Idx → Elt F .f32) (B : S12288.Idx → BitVec 32) (d : Dev nD) (i : grid1.Coords)

/-- What a tile owes, and the waits it has recorded: those of `W`, and waits of its own. -/
def Owe (O : CellTallies nD τ sig (HIx 1)) (W : Waits sig (HIx 1)) : sProp 𝕄 :=
  iprop(∃ W', ⌜∀ p ∈ W', p ∈ W ∨ p.2 = none⌝ ∗ owes (thrV d i) O W')

/-- A result's slab whose first `t` time steps are `val`'s. -/
def Slab {n : ℕ} (M : Memref sig .scVector .hbm ⟨3, ![32, 80, n]⟩ .f32) (val : (⟨3, ![32, 80, n]⟩ : Shape).Idx → Elt F .f32) (t : ℕ) : sProp 𝕄 :=
  iprop(∃ f : Buf (Elt F) (M.view.loc (thrV d i)),
    ⌜∀ y : (⟨3, ![32, 80, n]⟩ : Shape).Idx, (y 0).val = (wid i).val → (y 1).val < t → M.view.read (Elt F) f y = val y⌝
    ∗ M.view.loc (thrV d i) ↦[M.view.setOn (Finset.univ.filter fun y => (y 0).val = (wid i).val)]{fullShare} f)

/-- The part at `off` of a result, as the program slices it. -/
abbrev outM {n : ℕ} (R : Memref sig .scVector .hbm ⟨3, ![32, 80, n]⟩ .f32) (off : Fin 3 → ℕ)
    (inb : ∀ a, off a + (⟨3, ![1, 1, n]⟩ : Shape).size a ≤ (⟨3, ![32, 80, n]⟩ : Shape).size a)
    (hsq : (⟨3, ![1, 1, n]⟩ : Shape).Squeezes ⟨1, ![n]⟩) : Memref sig .scVector .hbm ⟨1, ![n]⟩ .f32 :=
  (R.slice (Rect.unit (s := ⟨3, ![32, 80, n]⟩) off (⟨3, ![1, 1, n]⟩ : Shape).size inb) (fun _ => rfl)).squeeze ⟨1, ![n]⟩ hsq

theorem outM_emb {n : ℕ} (R : Memref sig .scVector .hbm ⟨3, ![32, 80, n]⟩ .f32) (t : Fin 80) (off : Fin 3 → ℕ) (inb)
    (hoff : off = ![(wid i).val, t.val, 0]) (hsq) (j : (⟨1, ![n]⟩ : Shape).Idx) :
    (outM R off inb hsq).view.emb j = R.view.emb (ix3 (n0 := 32) (n1 := 80) (n2 := n) (wid i) t (j 0)) := by
  subst hoff
  show R.view.emb ((Rect.unit (s := ⟨3, ![32, 80, n]⟩) ![(wid i).val, t.val, 0] (⟨3, ![1, 1, n]⟩ : Shape).size inb).emb (Shape.reshapeEquiv _ j)) = _
  rw [resh3]
  congr 1
  funext a
  apply Fin.ext
  rw [Rect.emb_apply]
  match a with
  | 0 => show (wid i).val + 1 * 0 = (wid i).val; simp
  | 1 => show t.val + 1 * 0 = t.val; simp
  | 2 => show 0 + 1 * (j 0).val = (j 0).val; simp

theorem outM_set {n : ℕ} (R : Memref sig .scVector .hbm ⟨3, ![32, 80, n]⟩ .f32) (t : Fin 80) (off : Fin 3 → ℕ) (inb)
    (hoff : off = ![(wid i).val, t.val, 0]) (hsq) :
    (outM R off inb hsq).view.set ⊆ R.view.setOn (Finset.univ.filter fun y => (y 0).val = (wid i).val) := by
  intro p hp
  obtain ⟨j, -, rfl⟩ := Finset.mem_map.mp hp
  exact Finset.mem_map.mpr ⟨_, Finset.mem_filter.mpr ⟨Finset.mem_univ _, rfl⟩, (outM_emb i R t off inb hoff hsq j).symm⟩

/-- One time step's copy of a full scratch vector into the slab: issued, then waited for. -/
theorem copy_out {n : ℕ} (M : Memref sig .scVector .vmem ⟨1, ![n]⟩ .f32) (R : Memref sig .scVector .hbm ⟨3, ![32, 80, n]⟩ .f32)
    (hset : M.view.set = Finset.univ)
    (val : (⟨3, ![32, 80, n]⟩ : Shape).Idx → Elt F .f32) (t : Fin 80) (k : ℕ) (hk : n ≤ 16 * k) (hn : 0 < n)
    (off : Fin 3 → ℕ) (inb) (hoff : off = ![(wid i).val, t.val, 0]) (hsq : (⟨3, ![1, 1, n]⟩ : Shape).Squeezes ⟨1, ![n]⟩)
    (sem : DmaSem sig) (O : CellTallies nD τ sig (HIx 1)) (hO : ∀ g, O g none = 0) (W : Waits sig (HIx 1))
    {α : Type} {Q : α → sProp 𝕄} {h1 h2 h3 h4 h5} {kk : PUnit → Prog (TpuEff nD τ sig (Elt F) Λ₀ (thrV d i).2) α} :
    iprop(levAts (K (F := F)).L (K (F := F)).lev ∗ Upto d i M (fun p => val (ix3 (wid i) t (p 0))) k ∗ Slab d i R val t.val
        ∗ semVal (cellD d i sem) 0 ∗ Owe d i O W)
      ⊢ iprop((iprop(Upto d i M (fun p => val (ix3 (wid i) t (p 0))) 0 ∗ Slab d i R val (t.val + 1) ∗ semVal (cellD d i sem) 0 ∗ Owe d i O W)
            -∗ wp frame (wpE (defs₀ (F := F)) 𝒱₀ (thrV d i) none) Set.univ (kk ⟨⟩) Q)
          -∗ wp frame (wpE (defs₀ (F := F)) 𝒱₀ (thrV d i) none) Set.univ
              (.op (.enqueueDma M (.here (outM R off inb hsq))
                (.dma sem) h1 h2 h3) fun _ =>
               .op (.waitDma2 sem M (outM R off inb hsq) h4 h5) kk) Q) := by
  have hemb := outM_emb i R t off inb hoff hsq
  have hsub := outM_set i R t off inb hoff hsq
  unfold Upto Slab Owe
  iintro ⟨#Hlv, ⟨%g, %hg, Hm⟩, ⟨%f, %hf, Hd⟩, Hsem, ⟨%W', %hW', HO⟩⟩ Hk
  iapply (Transfers.wp_dmaLocal EC 𝒱₀ (thrV d i) none (src := M) (dst := outM R off inb hsq) (fs := g) (q := fullShare) (fd := f)
    (Sd := R.view.setOn (Finset.univ.filter fun y => (y 0).val = (wid i).val)) (none : HIx 1) _ rfl
    (View.dmaCredit_pos _ (by show 0 < (⟨1, ![n]⟩ : Shape).numel; rw [Shape.numel]; simpa using hn)) hsub) $$ [Hm Hd Hsem]
  · isplitl [Hm]; · rw [hset]; iexact Hm
    isplitl [Hd]; · iexact Hd
    iexact Hsem
  iintro HF
  iapply (Transfers.wp_waitLocalO EC 𝒱₀ (thrV d i) none (none : HIx 1) rfl (O := O) (W := W')) $$ [HF HO]
  · isplitl [HF]; · iexact HF
    isplitl [HO]; · iexact HO
    iapply ((K (F := F)).mayWait_none (SemLoc.dma sem) hO); iexact Hlv
  iintro ⟨⟨Hd, Hm⟩, Hsem, HO⟩
  iapply Hk
  isplitl [Hm]
  · iexists g
    isplitr
    · ipureintro; intro p hp; omega
    · rw [hset]; iexact Hm
  isplitl [Hd]
  · iexists _
    isplitr
    rotate_left
    · iexact Hd
    · ipureintro
      intro y hy0 hy1
      by_cases ht : (y 1).val = t.val
      · have hy : y = ix3 (n0 := 32) (n1 := 80) (n2 := n) (wid i) t (y 2) := by
          funext a
          apply Fin.ext
          match a with
          | 0 => exact hy0
          | 1 => exact ht
          | 2 => rfl
        have he := hemb (ix1 (n0 := n) (y 2))
        have hw := View.write_emb_of_mem (v := (outM R off inb hsq).view) (Val := Elt F)
          f (M.view.read (Elt F) g) (Finset.mem_univ (ix1 (n0 := n) (y 2)))
        rw [he] at hw
        rw [View.read_apply]
        conv_lhs => rw [hy]
        refine (congrArg _ hw).trans ?_
        rw [cast_cast, cast_eq, hg _ (by have : (y 2).val < n := (y 2).isLt; show (y 2).val < 16 * k; omega)]
        conv_rhs => rw [hy]
        rfl
      · rw [View.read_apply, View.write_of_not_mem, ← View.read_apply]
        · exact hf y hy0 (by omega)
        · intro hmem
          obtain ⟨j, -, e⟩ := Finset.mem_map.mp hmem
          rw [hemb j] at e
          have := R.view.emb.injective e
          exact ht (by rw [← this]; rfl)
  isplitl [Hsem]; · iexact Hsem
  iexists _
  isplitr
  rotate_left
  · iexact HO
  · ipureintro
    intro p hp
    rcases Finset.mem_insert.mp hp with h | h
    · exact .inr (by rw [h])
    · exact hW' p h

/-- A full scratch vector can be refilled from nothing known. -/
theorem upto_weaken {n : ℕ} (M : Memref sig .scVector .vmem ⟨1, ![n]⟩ .f32) (val val' : (⟨1, ![n]⟩ : Shape).Idx → Elt F .f32) (k : ℕ) :
    Upto d i M val k ⊢ Upto d i M val' 0 := by
  unfold Upto
  iintro ⟨%f, -, Hm⟩
  iexists f
  isplitr
  · ipureintro; intro p hp; omega
  · iexact Hm

/-- What the tile holds between time steps. -/
def Step (O : CellTallies nD τ sig (HIx 1)) (W : Waits sig (HIx 1)) (t : ℕ) : sProp 𝕄 :=
  iprop(levAts (K (F := F)).L (K (F := F)).lev ∗ rPts A B d i ∗ (∃ v, Upto d i s9M v 0) ∗ (∃ v, Upto d i s10M v 0) ∗ (∃ v, Upto d i s11M v 0)
    ∗ Slab d i o9M (O9 A B) t ∗ Slab d i o10M (O10 A B) t ∗ Slab d i o11M (O11 A B) t
    ∗ semVal (cellD d i cc1_scoped1.sem) 0 ∗ semVal (cellD d i cc1_scoped2.sem) 0 ∗ semVal (cellD d i cc1_scoped3.sem) 0 ∗ Owe d i O W)

theorem t3_trip (O : CellTallies nD τ sig (HIx 1)) (hO : ∀ g, O g none = 0) (W : Waits sig (HIx 1)) (t : Fin k1_t3_loop.trips) (u : Unit) :
    Step A B d i O W t.val
      ⊢ wp frame (wpE (defs₀ (F := F)) 𝒱₀ (thrV d i) none) Set.univ
          (k1_t3_body i aM (Memref.isWhole_whole _) bM (Memref.isWhole_whole _) o9M (Memref.isWhole_whole _) o10M (Memref.isWhole_whole _) o11M (Memref.isWhole_whole _)
            xM (Memref.isWhole_whole _) rM (Memref.isWhole_whole _) s9M (Memref.isWhole_whole _) s10M (Memref.isWhole_whole _) s11M (Memref.isWhole_whole _)
            cc1_scratch5 cc1_scoped0 cc1_scoped1 cc1_scoped2 cc1_scoped3 vIota t u)
          fun _ => Step A B d i O W (t.val + 1) := by
  simp only [k1_t3_body, k1_part8_eq_skeleton]
  unfold k1_part8_skel Step
  simp only [Prog.lift, Prog.bind_op, Prog.bind_ret, Prog.pure_eq_ret, bind_assoc]
  iintro ⟨#Hlv, Hr, ⟨%v9, H9⟩, ⟨%v10, H10⟩, ⟨%v11, H11⟩, Ho9, Ho10, Ho11, Hs1, Hs2, Hs3, HO⟩
  ihave H9 := (upto_weaken d i s9M v9 (W9 A B i t) 0) $$ H9
  ihave H10 := (upto_weaken d i s10M v10 (W10 A B i t) 0) $$ H10
  ihave H11 := (upto_weaken d i s11M v11 (W11 A B i t) 0) $$ H11
  iapply (Scf.wp_for_bind frame _ _ _ _ _ k1_t4_ok _ _ (fun g _ => iprop(rPts A B d i ∗ Upto d i s9M (W9 A B i t) g)) (fun g u => t4_trip A B d i t g u)) $$ [Hr H9]
  · isplitl [Hr] <;> iassumption
  iintro %_ ⟨Hr, H9⟩
  iapply (Scf.wp_for_bind frame _ _ _ _ _ k1_t5_ok _ _ (fun g _ => iprop(rPts A B d i ∗ Upto d i s10M (W10 A B i t) g ∗ Upto d i s11M (W11 A B i t) g)) (fun g u => t5_trip A B d i t g u)) $$ [Hr H10 H11]
  · isplitl [Hr]; · iexact Hr
    isplitl [H10] <;> iassumption
  iintro %_ ⟨Hr, H10, H11⟩
  iapply (copy_out d i s9M o9M (View.set_whole _) (O9 A B) t 48 (by decide) (by decide) _ _ (k1_off41_eq i t) squeezes_S1x1x768_S768 cc1_scoped1.sem O hO W) $$ [H9 Ho9 Hs1 HO]
  · isplitr; · iexact Hlv
    isplitl [H9]; · iexact H9
    isplitl [Ho9]; · iexact Ho9
    isplitl [Hs1]; · iexact Hs1
    iexact HO
  iintro ⟨H9, Ho9, Hs1, HO⟩
  iapply (copy_out d i s10M o10M (View.set_whole _) (O10 A B) t 24 (by decide) (by decide) _ _ (k1_off42_eq i t) squeezes_S1x1x384_S384 cc1_scoped2.sem O hO W) $$ [H10 Ho10 Hs2 HO]
  · isplitr; · iexact Hlv
    isplitl [H10]; · iexact H10
    isplitl [Ho10]; · iexact Ho10
    isplitl [Hs2]; · iexact Hs2
    iexact HO
  iintro ⟨H10, Ho10, Hs2, HO⟩
  iapply (copy_out d i s11M o11M (View.set_whole _) (O11 A B) t 24 (by decide) (by decide) _ _ (k1_off42_eq i t) squeezes_S1x1x384_S384 cc1_scoped3.sem O hO W) $$ [H11 Ho11 Hs3 HO]
  · isplitr; · iexact Hlv
    isplitl [H11]; · iexact H11
    isplitl [Ho11]; · iexact Ho11
    isplitl [Hs3]; · iexact Hs3
    iexact HO
  iintro ⟨H11, Ho11, Hs3, HO⟩
  rw [wp_ret]; imodintro
  isplitr; · iexact Hlv
  isplitl [Hr]; · iexact Hr
  isplitl [H9]; · iexists _; iexact H9
  isplitl [H10]; · iexists _; iexact H10
  isplitl [H11]; · iexists _; iexact H11
  isplitl [Ho9]; · iexact Ho9
  isplitl [Ho10]; · iexact Ho10
  isplitl [Ho11]; · iexact Ho11
  isplitl [Hs1]; · iexact Hs1
  isplitl [Hs2]; · iexact Hs2
  isplitl [Hs3]; · iexact Hs3
  iexact HO

end Cert.Proof.K

end
-- ==== Proof.Tile.lean ====
/-
  A tile's whole run: from its shares and its slabs to its slabs at the gathered values.
-/
module

public import proofs.«01_k».proof.Proof.Out

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok pending Batch)
open Idealize.ShloMosaic.Tactic

variable {F : FTy → Type} [FloatOps F]

local notation "𝕄" => MT nD τ sig (HIx 1) (Elt F) ℕ UU ℕ

variable (A : S32x64x64x320.Idx → Elt F .f32) (B : S12288.Idx → BitVec 32) (d : Dev nD) (i : grid1.Coords)

/-- The tile's part of the list of cells, as the program slices it. -/
abbrev listM (i : grid1.Coords) : Memref sig .scVector .hbm S384 .i32 :=
  bM.slice (Rect.unit (s := S12288) (k1_off1 i) S384.size (k1_off1_inb i)) (fun _ => rfl)

/-- What the first copy lands in the list's scratch. -/
theorem list_lands (f : Buf (Elt F) ((thrV d i).loc cc1_scratch0)) :
    (xM : Memref sig .scVector .vmem S384 .i32).view.write (Elt F) f ((listM i).view.read (Elt F) (B : Buf (Elt F) ((thrV d i).loc main_v8_scv))) Finset.univ
      = (XI B (wid i) : Buf (Elt F) ((thrV d i).loc cc1_scratch0)) := by
  refine (View.write_whole_univ _ _ _).trans ?_
  funext p
  refine (View.read_apply _ _).trans ((cast_eq _ _).trans ?_)
  show B ((Rect.unit (s := S12288) (k1_off1 i) S384.size (k1_off1_inb i)).emb p) = B (listIx (wid i) (p 0))
  congr 1
  apply Shape.idx1_ext
  rw [Rect.emb_apply]
  show k1_off1 i 0 + 1 * (p 0).val = 384 * (2 * (i 1).val + (i 0).val) + (p 0).val
  rw [k1_off1_eq]
  show 768 * (i 1).val + 384 * (i 0).val + 1 * (p 0).val = _
  omega

theorem rows_cover : (Finset.univ : Finset (Fin 384)).biUnion rowSet = Finset.univ := by
  ext p
  simp only [Finset.mem_biUnion, Finset.mem_univ, true_and, iff_true]
  exact ⟨p 0, Finset.mem_filter.mpr ⟨Finset.mem_univ _, rfl⟩⟩

theorem rows_disjoint : ∀ a ∈ (Finset.univ : Finset (Fin 384)), ∀ b ∈ (Finset.univ : Finset (Fin 384)), a ≠ b → Disjoint (rowSet a) (rowSet b) := by
  intro a _ b _ hab
  refine Finset.disjoint_left.mpr fun p ha hb => hab (Fin.ext ?_)
  exact (Finset.mem_filter.mp ha).2.symm.trans (Finset.mem_filter.mp hb).2

/-- The scratch of rows, held whole, is its rows held one by one. -/
theorem rows_split (f : Buf (Elt F) ((thrV d i).loc cc1_scratch1)) :
    ((thrV d i).loc cc1_scratch1 ↦{fullShare} f : sProp 𝕄)
      = bigSep Finset.univ fun k : Fin 384 => (thrV d i).loc cc1_scratch1 ↦[rowSet k]{fullShare} f :=
  (show ((thrV d i).loc cc1_scratch1 ↦{fullShare} f : sProp 𝕄) = ((thrV d i).loc cc1_scratch1 ↦[(Finset.univ : Finset (Fin 384)).biUnion rowSet]{fullShare} f) by
    rw [rows_cover]).trans (pointsTo_biUnion (ℓ := (thrV d i).loc cc1_scratch1) Finset.univ rowSet rows_disjoint)

theorem setOn_whole (b : Ref sig .scVector) (s : Finset b.ty.shape.Idx) : (View.whole b).setOn s = s := by
  show s.map (Function.Embedding.refl _) = s
  exact Finset.map_refl

/-- Nothing of a slab is known at first. -/
theorem slab_start {n : ℕ} (M : Memref sig .scVector .hbm ⟨3, ![32, 80, n]⟩ .f32) (val : (⟨3, ![32, 80, n]⟩ : Shape).Idx → Elt F .f32)
    (f : Buf (Elt F) (M.view.loc (thrV d i))) :
    (M.view.loc (thrV d i) ↦[M.view.setOn (Finset.univ.filter fun y => (y 0).val = (wid i).val)]{fullShare} f : sProp 𝕄) ⊢ Slab d i M val 0 := by
  unfold Slab
  iintro H
  iexists f
  isplitr
  · ipureintro; intro y _ h; omega
  · iexact H

/-- After the last time step all of the slab is known. -/
theorem slab_end {n : ℕ} (M : Memref sig .scVector .hbm ⟨3, ![32, 80, n]⟩ .f32) (val : (⟨3, ![32, 80, n]⟩ : Shape).Idx → Elt F .f32)
    (g : Buf (Elt F) (M.view.loc (thrV d i))) (hg : ∀ y, M.view.read (Elt F) g y = val y) :
    Slab d i M val 80
      ⊢ (M.view.loc (thrV d i) ↦[M.view.setOn (Finset.univ.filter fun y => (y 0).val = (wid i).val)]{fullShare} g : sProp 𝕄) := by
  unfold Slab
  iintro ⟨%f, %hf, H⟩
  iapply (Entails.of_eq (pointsTo_congr ?h)) $$ H
  case h =>
    intro p hp
    obtain ⟨y, hy, rfl⟩ := Finset.mem_map.mp hp
    have h1 := hf y (Finset.mem_filter.mp hy).2 (y 1).isLt
    rw [← hg y, View.read_apply, View.read_apply] at h1
    exact (cast_inj _).mp h1

set_option maxHeartbeats 4000000 in
/-- One tile's run. -/
theorem tile_body (hF : (K (F := F)).Facts) (O : CellTallies nD τ sig (HIx 1)) (W : Waits sig (HIx 1)) (hO : ∀ g, O g none = 0) :
    iprop(levAts (K (F := F)).L (K (F := F)).lev ∗ emp ∗ GO A B d (wid i)
        ∗ scopedBufs (thrV d i) ∗ scopedSems0 (thrV d i) ∗ owes (thrV d i) O W)
      ⊢ wp frame (wpE (defs₀ (F := F)) 𝒱₀ (thrV d i) none) Set.univ
          (cc1_gk i aM (Memref.isWhole_whole _) bM (Memref.isWhole_whole _) o9M (Memref.isWhole_whole _) o10M (Memref.isWhole_whole _) o11M (Memref.isWhole_whole _)
            xM (Memref.isWhole_whole _) rM (Memref.isWhole_whole _) s9M (Memref.isWhole_whole _) s10M (Memref.isWhole_whole _) s11M (Memref.isWhole_whole _)
            cc1_scratch5 cc1_scoped0 cc1_scoped1 cc1_scoped2 cc1_scoped3)
          fun _ => iprop(TD A B d (wid i) ∗ scopedBufs (thrV d i) ∗ scopedSems0 (thrV d i)
            ∗ ∃ W', ⌜∀ p ∈ W', p ∈ W ∨ p.2 = none⌝ ∗ owes (thrV d i) O W') := by
  simp only [cc1_gk_eq_skeleton]
  unfold cc1_gk_skel
  simp only [Prog.lift, Prog.bind_op, Prog.bind_ret, Prog.pure_eq_ret]
  rw [(K (F := F)).scopedBufs_V hF d (cV i) (jV i), SparseCore.Cfg.scopedSems0_V (Val := Elt F) d (cV i) (jV i), ownSems0_V, ownBufs_V]
  unfold GO
  iintro ⟨#Hlv, -, ⟨Ha, Hb, ⟨%f9, Ho9⟩, ⟨%f10, Ho10⟩, ⟨%f11, Ho11⟩⟩, ⟨⟨%fx, Hx⟩, ⟨%fr, Hr⟩, ⟨%g9, H9⟩, ⟨%g10, H10⟩, ⟨%g11, H11⟩, Hbufs⟩,
    ⟨Hs0, Hs, Hs1, Hs2, Hs3, Hsems⟩, HO⟩
  -- the list of cells
  ihave Hb := (pointsTo_split_subset (ℓ := (thrV d i).loc main_v8_scv) (Finset.subset_univ (listM i).view.set)).1 $$ Hb
  icases Hb with ⟨Hb, -⟩
  iapply (Transfers.wp_dmaLocal EC 𝒱₀ (thrV d i) none (src := listM i) (dst := xM) (fs := (B : Buf (Elt F) ((thrV d i).loc main_v8_scv)))
    (q := shareTok fullShare 32 (wid i)) (fd := fx) (Sd := Finset.univ) (none : HIx 1) _ rfl (View.dmaCredit_pos _ (by decide)) (Finset.subset_univ _)) $$ [Hb Hx Hs0]
  · isplitl [Hb]; · iexact Hb
    isplitl [Hx]; · iexact Hx
    iexact Hs0
  iintro HF
  iapply (Transfers.wp_waitLocalO EC 𝒱₀ (thrV d i) none (none : HIx 1) rfl (O := O) (W := W)) $$ [HF HO]
  · isplitl [HF]; · iexact HF
    isplitl [HO]; · iexact HO
    iapply ((K (F := F)).mayWait_none (SemLoc.dma cc1_scoped0.sem) hO); iexact Hlv
  iintro ⟨⟨Hx, -⟩, Hs0, HO⟩
  ihave Hx := (Entails.of_eq (congrArg (fun g : Buf (Elt F) ((thrV d i).loc cc1_scratch0) => ((thrV d i).loc cc1_scratch0 ↦{fullShare} g : sProp 𝕄)) (list_lands B d i fx))) $$ Hx
  -- the row copies
  ihave Ha := (Transfers.pointsTo_toks_split (ℓ := (thrV d i).loc main_v0_scv) (S := Finset.univ) (shareTok fullShare 32 (wid i)) 384) $$ Ha
  icases Ha with ⟨-, Ha⟩
  ihave Hr := (Entails.of_eq (rows_split d i fr)) $$ Hr
  imod (Transfers.batch_alloc' EC (c := thrV d i) (none : HIx 1) NR (RowD A B d i)) $$ Hs with HB
  ihave HI := (show _ ⊢ Iss A B d i fr 0 from by
    rw [Iss_eq, ← Transfers.bigSep_pending_zero, ← Transfers.bigSep_pending_zero]) $$ [Hx Hr Ha HB]
  · isplitl [Hx]; · iexact Hx
    isplitl [Hr]; · iexact Hr
    isplitl [Ha]; · iexact Ha
    iexact HB
  iapply (Scf.wp_for_bind frame _ _ _ _ _ k1_t1_ok _ _ (fun g _ => Iss A B d i fr (16 * g)) (fun t u => t1_trip A B d i fr t u)) $$ HI
  iintro %_ HI
  ihave HI := (show Iss A B d i fr (16 * k1_t1_loop.trips) ⊢ _ from Entails.of_eq ((congrArg (Iss A B d i fr) (show 16 * k1_t1_loop.trips = 384 by decide)).trans (Iss_eq A B d i fr 384))) $$ HI
  icases HI with ⟨Hx, -, -, HB⟩
  -- their waits
  iapply (Scf.wp_for_bind frame _ _ _ _ _ k1_t2_ok _ _ (fun g _ => iprop(levAts (K (F := F)).L (K (F := F)).lev
      ∗ Batch EC (thrV d i) (.dma cc1_scratch5.sem) (none : HIx 1) NR (RowD A B d i) 384 (g * NR)
      ∗ ∃ W', ⌜∀ p ∈ W', p ∈ W ∨ p.2 = none⌝ ∗ owes (thrV d i) O W')) (fun t u => t2_trip A B d i O hO W t u)) $$ [HB HO]
  · isplitr; · iexact Hlv
    isplitl [HB]; · rw [Nat.zero_mul]; iexact HB
    iexists _
    isplitr
    rotate_left
    · iexact HO
    · ipureintro
      intro p hp
      rcases Finset.mem_insert.mp hp with h | h
      · exact .inr (by rw [h])
      · exact .inl h
  iintro %_ ⟨-, HB, HO⟩
  ihave HB := (show Batch EC (thrV d i) (.dma cc1_scratch5.sem) (none : HIx 1) NR (RowD A B d i) 384 (k1_t2_loop.trips * NR)
      ⊢ Batch EC (thrV d i) (.dma cc1_scratch5.sem) (none : HIx 1) NR (RowD A B d i) 384 (NR * 384) from
    Entails.of_eq (by rw [Nat.mul_comm]; rfl)) $$ HB
  imod (Transfers.batch_collect' EC (thrV d i) NR_pos) $$ HB with ⟨Hr, Hs⟩
  ihave Hr := (show bigSep Finset.univ (RowD A B d i) ⊢ rPts A B d i from Entails.of_eq (rows_split d i _).symm) $$ Hr
  -- the time steps
  ihave Ho9 := (show (o9Loc d ↦[slab9 (wid i)]{fullShare} f9 : sProp 𝕄) ⊢ Slab d i o9M (O9 A B) 0 from
    (Entails.of_eq (by rw [setOn_whole]; rfl)).trans (slab_start d i o9M (O9 A B) f9)) $$ Ho9
  ihave Ho10 := (show (o10Loc d ↦[slab10 (wid i)]{fullShare} f10 : sProp 𝕄) ⊢ Slab d i o10M (O10 A B) 0 from
    (Entails.of_eq (by rw [setOn_whole]; rfl)).trans (slab_start d i o10M (O10 A B) f10)) $$ Ho10
  ihave Ho11 := (show (o11Loc d ↦[slab10 (wid i)]{fullShare} f11 : sProp 𝕄) ⊢ Slab d i o11M (O11 A B) 0 from
    (Entails.of_eq (by rw [setOn_whole]; rfl)).trans (slab_start d i o11M (O11 A B) f11)) $$ Ho11
  iapply (Scf.wp_for_bind frame _ _ _ _ _ k1_t3_ok _ _ (fun g _ => Step A B d i O W g) (fun t u => t3_trip A B d i O hO W t u)) $$ [Hr H9 H10 H11 Ho9 Ho10 Ho11 Hs1 Hs2 Hs3 HO]
  · unfold Step
    isplitr; · iexact Hlv
    isplitl [Hr]; · iexact Hr
    isplitl [H9]
    · iexists (fun p => g9 p); unfold Upto; iexists g9; isplitr
      · ipureintro; intro p hp; omega
      · iexact H9
    isplitl [H10]
    · iexists (fun p => g10 p); unfold Upto; iexists g10; isplitr
      · ipureintro; intro p hp; omega
      · iexact H10
    isplitl [H11]
    · iexists (fun p => g11 p); unfold Upto; iexists g11; isplitr
      · ipureintro; intro p hp; omega
      · iexact H11
    isplitl [Ho9]; · iexact Ho9
    isplitl [Ho10]; · iexact Ho10
    isplitl [Ho11]; · iexact Ho11
    isplitl [Hs1]; · iexact Hs1
    isplitl [Hs2]; · iexact Hs2
    isplitl [Hs3]; · iexact Hs3
    unfold Owe; iexact HO
  iintro %_ HS
  ihave HS := (show Step A B d i O W k1_t3_loop.trips ⊢ Step A B d i O W 80 from Entails.of_eq (congrArg (Step A B d i O W) (show k1_t3_loop.trips = 80 by decide))) $$ HS
  unfold Step
  icases HS with ⟨-, Hr, ⟨%v9, H9⟩, ⟨%v10, H10⟩, ⟨%v11, H11⟩, Ho9, Ho10, Ho11, Hs1, Hs2, Hs3, HO⟩
  unfold Upto
  icases H9 with ⟨%h9, -, H9⟩
  icases H10 with ⟨%h10, -, H10⟩
  icases H11 with ⟨%h11, -, H11⟩
  rw [wp_ret]; imodintro
  unfold TD
  isplitl [Ho9 Ho10 Ho11]
  · isplitl [Ho9]
    · iapply ((slab_end d i o9M (O9 A B) (O9 A B : Buf (Elt F) (o9Loc d)) (fun _ => rfl)).trans (Entails.of_eq (by rw [setOn_whole]; rfl))) $$ Ho9
    isplitl [Ho10]
    · iapply ((slab_end d i o10M (O10 A B) (O10 A B : Buf (Elt F) (o10Loc d)) (fun _ => rfl)).trans (Entails.of_eq (by rw [setOn_whole]; rfl))) $$ Ho10
    · iapply ((slab_end d i o11M (O11 A B) (O11 A B : Buf (Elt F) (o11Loc d)) (fun _ => rfl)).trans (Entails.of_eq (by rw [setOn_whole]; rfl))) $$ Ho11
  isplitl [Hx Hr H9 H10 H11 Hbufs]
  · isplitl [Hx]; · iexists _; iexact Hx
    isplitl [Hr]; · iexists _; iexact Hr
    isplitl [H9]; · iexists _; iexact H9
    isplitl [H10]; · iexists _; iexact H10
    isplitl [H11]; · iexists _; iexact H11
    iexact Hbufs
  isplitl [Hs0 Hs Hs1 Hs2 Hs3 Hsems]
  · isplitl [Hs0]; · iexact Hs0
    isplitl [Hs]; · iexact Hs
    isplitl [Hs1]; · iexact Hs1
    isplitl [Hs2]; · iexact Hs2
    isplitl [Hs3]; · iexact Hs3
    iexact Hsems
  unfold Owe
  iexact HO

end Cert.Proof.K

end
-- ==== Proof.Launch.lean ====
/-
  The launch: each tile's obligation, the split of a core's work among its tiles, and the ghost state everything
  starts from.
-/
module

public import proofs.«01_k».proof.Proof.Region
public import proofs.«01_k».proof.Proof.Tile

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok pending Batch)
open Idealize.ShloMosaic.Tactic

variable {F : FTy → Type} [FloatOps F]

local notation "𝕄" => MT nD τ sig (HIx 1) (Elt F) ℕ UU ℕ

variable (A : S32x64x64x320.Idx → Elt F .f32) (B : S12288.Idx → BitVec 32)

/-- The body the table gives a tile. -/
theorem defs₀_tile (c : Fin τ.nSC) (s : Fin τ.nSub) :
    defs₀ (F := F) (.scVector c s) 1 ()
      = SparseCore.onTile hcore1 hsub1 (fun c s => cc1_gk (coordsV c s)
          aM (Memref.isWhole_whole _) bM (Memref.isWhole_whole _) o9M (Memref.isWhole_whole _) o10M (Memref.isWhole_whole _) o11M (Memref.isWhole_whole _)
          xM (Memref.isWhole_whole _) rM (Memref.isWhole_whole _) s9M (Memref.isWhole_whole _) s10M (Memref.isWhole_whole _) s11M (Memref.isWhole_whole _)
          cc1_scratch5 cc1_scoped0 cc1_scoped1 cc1_scoped2 cc1_scoped3) ⟨⟩ c s := rfl

omit [FloatOps F] in
theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

/-- Each tile's run, as the launch asks for it. -/
theorem tileObl (hF : (K (F := F)).Facts) : (K (F := F)).TileObl (D (F := F)) 𝒱 (P A B) v₀ 0 := by
  intro d c i O W hO _ _
  simp only [show (P A B).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_tile]; simp only [SparseCore.onTile, hc, and_self, ↓reduceDIte]
  exact (tile_body A B d (coordsV ⟨_, hc.1⟩ ⟨_, hc.2⟩) hF O W hO).trans (wp_mono frame _ _ fun _ => obl_post)

omit [FloatOps F] in
theorem bigSep_tiles [FloatOps F] (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core's work is its sixteen tiles' work. -/
theorem vecSplit : (K (F := F)).VecSplit' (P A B) 0 := by
  intro d c
  show (bigSep Finset.univ fun s : Fin 16 => GO A B d (wOf c s)) ⊢ |={Set.univ}=> iprop(
      (bigSep Finset.univ fun i : Fin ((K (F := F)).nSub 0) => GO A B d (wOf c (Fin.cast nSub_zero i)))
      ∗ ((bigSep Finset.univ fun i : Fin ((K (F := F)).nSub 0) => TD A B d (wOf c (Fin.cast nSub_zero i)))
          -∗ (bigSep Finset.univ fun s : Fin 16 => TD A B d (wOf c s))))
  rw [bigSep_tiles (F := F) (fun s => GO A B d (wOf c s)), bigSep_tiles (F := F) (fun s => TD A B d (wOf c s))]
  iintro H; imodintro
  isplitl [H]; · iexact H
  iintro H; iexact H

/-! ## The ghost state at launch -/

/-- The pipelines' cells and tokens, and the handshakes'. -/
def u₀ : UU := (initOf (K (F := F)).hsCells (K (F := F)).hsToks,
  (initOf (Pipeline.cells (nD := nD) (τ := τ) (Pipeline.pin (pcfgs (F := F)) adm) cellOf_inj) (Pipeline.launchToks (Pipeline.pin (pcfgs (F := F)) adm) cellOf_inj), 1))

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

/-- What each core is given beside the launch's own: its pipeline's ghost state. -/
def GH (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GH (F := F) d)
        ∗ bigSep Finset.univ fun thr : Thread nD τ => bigSep Finset.univ fun q : Fin 1 => (P A B).x q thr) := by
  unfold u₀
  iintro Hu
  ihave H := (ownU_split _ _) $$ Hu
  icases H with ⟨HH, HK⟩
  imod (Pipeline.fund_ghost (Pipeline.pin (pcfgs (F := F)) adm) (EP (F := F)) cellOf_inj) $$ HK with ⟨Hc, Ht⟩
  imodintro
  isplitl [HH]; · iexact HH
  isplitl [Hc Ht]
  · unfold GH
    rw [bigSep_sep']
    isplitl [Hc]
    · iapply (Entails.of_eq (bigSep_congr (Φ := fun d : Dev nD => bigSep Finset.univ fun p : Fin 1 => Pipeline.cellsGhost (Pipeline.pin (pcfgs (F := F)) adm) (EP (F := F)) p d)
        fun d _ => bigSep_univ_of_subsingleton (0 : Fin 1))); iexact Hc
    · iapply (Entails.of_eq (bigSep_congr (Φ := fun d : Dev nD => bigSep Finset.univ fun p : Fin 1 => (Pipeline.toksInit (Pipeline.pin (pcfgs (F := F)) adm) (EP (F := F)) p d : sProp 𝕄))
        fun d _ => bigSep_univ_of_subsingleton (0 : Fin 1))); iexact Ht
  · rw [show (fun thr : Thread nD τ => bigSep Finset.univ fun q : Fin 1 => (P A B).x q thr) = fun _ => (iprop(emp) : sProp 𝕄) from
      funext fun thr => bigSep_univ_of_subsingleton (0 : Fin 1), bigSep_emp']
    iempintro

/-! ## The arrays dealt to the tiles -/

/-- The tiles, one per core and subcore. -/
def tilesEquiv : Fin 2 × Fin 16 ≃ Fin 32 where
  toFun p := wOf p.1 p.2
  invFun w := (⟨w.val % 2, by omega⟩, ⟨w.val / 2, by omega⟩)
  left_inv p := by
    obtain ⟨c, s⟩ := p
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

omit [FloatOps F] in
theorem bigSep_wOf (Φ : Fin 32 → sProp 𝕄) :
    (bigSep Finset.univ fun c : Fin 2 => bigSep Finset.univ fun s : Fin 16 => Φ (wOf c s)) = bigSep Finset.univ Φ := by
  rw [bigSep_univ_equiv tilesEquiv Φ, bigSep_univ_prod]; rfl

theorem slab9_disjoint : ∀ a ∈ (Finset.univ : Finset (Fin 32)), ∀ b ∈ (Finset.univ : Finset (Fin 32)), a ≠ b → Disjoint (slab9 a) (slab9 b) :=
  fun a _ b _ h => Finset.disjoint_left.mpr fun y ha hb => h (Fin.ext ((Finset.mem_filter.mp ha).2.symm.trans (Finset.mem_filter.mp hb).2))
theorem slab9_cover : (Finset.univ : Finset (Fin 32)).biUnion slab9 = Finset.univ :=
  Finset.eq_univ_of_forall fun y => Finset.mem_biUnion.mpr ⟨y 0, Finset.mem_univ _, Finset.mem_filter.mpr ⟨Finset.mem_univ _, rfl⟩⟩
theorem slab10_disjoint : ∀ a ∈ (Finset.univ : Finset (Fin 32)), ∀ b ∈ (Finset.univ : Finset (Fin 32)), a ≠ b → Disjoint (slab10 a) (slab10 b) :=
  fun a _ b _ h => Finset.disjoint_left.mpr fun y ha hb => h (Fin.ext ((Finset.mem_filter.mp ha).2.symm.trans (Finset.mem_filter.mp hb).2))
theorem slab10_cover : (Finset.univ : Finset (Fin 32)).biUnion slab10 = Finset.univ :=
  Finset.eq_univ_of_forall fun y => Finset.mem_biUnion.mpr ⟨y 0, Finset.mem_univ _, Finset.mem_filter.mpr ⟨Finset.mem_univ _, rfl⟩⟩

omit [FloatOps F] in
theorem slabs (ℓ : Loc nD τ sig) (slab : Fin 32 → Finset (Idx ℓ)) (hd : ∀ a ∈ (Finset.univ : Finset (Fin 32)), ∀ b ∈ (Finset.univ : Finset (Fin 32)), a ≠ b → Disjoint (slab a) (slab b))
    (hc : (Finset.univ : Finset (Fin 32)).biUnion slab = Finset.univ) (f : Buf (Elt F) ℓ) :
    (ℓ ↦{fullShare} f : sProp 𝕄) = bigSep Finset.univ fun w : Fin 32 => ℓ ↦[slab w]{fullShare} f := by
  rw [← pointsTo_biUnion Finset.univ (ℓ := ℓ) slab hd, hc]

omit [FloatOps F] in
theorem some_slab (ℓ : Loc nD τ sig) (slab : Fin 32 → Finset (Idx ℓ)) (f : Buf (Elt F) ℓ) :
    (bigSep Finset.univ fun w : Fin 32 => (ℓ ↦[slab w]{fullShare} f : sProp 𝕄)) ⊢ bigSep Finset.univ fun w : Fin 32 => iprop(∃ f, ℓ ↦[slab w]{fullShare} f) :=
  bigSep_mono fun w _ => show (ℓ ↦[slab w]{fullShare} f : sProp 𝕄) ⊢ iprop(∃ f, ℓ ↦[slab w]{fullShare} f) by iintro H; iexists f; iexact H

/-- The two arrays read and the three results, whole, are the work of all the tiles. -/
theorem deal (d : Dev nD) (f9 : Buf (Elt F) (o9Loc d)) (f10 : Buf (Elt F) (o10Loc d)) (f11 : Buf (Elt F) (o11Loc d)) :
    iprop((aLoc d ↦{fullShare} (A : Buf (Elt F) (aLoc d))) ∗ (bLoc d ↦{fullShare} (B : Buf (Elt F) (bLoc d)))
        ∗ (o9Loc d ↦{fullShare} f9) ∗ (o10Loc d ↦{fullShare} f10) ∗ (o11Loc d ↦{fullShare} f11))
      ⊢ (bigSep Finset.univ fun c : Fin ((K (F := F)).nCore 0) => (P A B).st 0 d c : sProp 𝕄) := by
  refine BI.Entails.trans ?_ (Entails.of_eq (bigSep_wOf (F := F) (fun w => GO A B d w)).symm)
  unfold GO
  rw [bigSep_sep', bigSep_sep', bigSep_sep', bigSep_sep', slabs (o9Loc d) slab9 slab9_disjoint slab9_cover,
    slabs (o10Loc d) slab10 slab10_disjoint slab10_cover, slabs (o11Loc d) slab10 slab10_disjoint slab10_cover]
  show (iprop(_ ∗ _) : sProp 𝕄) ⊢ iprop(_ ∗ _)
  iintro ⟨Ha, Hb, H9, H10, H11⟩
  isplitl [Ha]
  · ihave H := (Transfers.pointsTo_toks_split fullShare 32) $$ Ha
    icases H with ⟨-, H⟩; iexact H
  isplitl [Hb]
  · ihave H := (Transfers.pointsTo_toks_split fullShare 32) $$ Hb
    icases H with ⟨-, H⟩; iexact H
  isplitl [H9]; · iapply (some_slab (o9Loc d) slab9 f9); iexact H9
  isplitl [H10]; · iapply (some_slab (o10Loc d) slab10 f10); iexact H10
  iapply (some_slab (o11Loc d) slab10 f11); iexact H11

/-- What all the tiles hand back is the three results whole. -/
theorem gathered (d : Dev nD) :
    (bigSep Finset.univ fun c : Fin ((K (F := F)).nCore 0) => (P A B).dn 0 d c : sProp 𝕄)
      ⊢ iprop((o9Loc d ↦{fullShare} (O9 A B : Buf (Elt F) (o9Loc d))) ∗ (o10Loc d ↦{fullShare} (O10 A B : Buf (Elt F) (o10Loc d)))
        ∗ (o11Loc d ↦{fullShare} (O11 A B : Buf (Elt F) (o11Loc d)))) := by
  refine BI.Entails.trans (Entails.of_eq (bigSep_wOf (F := F) (fun w => TD A B d w))) ?_
  unfold TD
  rw [bigSep_sep', bigSep_sep', ← slabs (o9Loc d) slab9 slab9_disjoint slab9_cover,
    ← slabs (o10Loc d) slab10 slab10_disjoint slab10_cover, ← slabs (o11Loc d) slab10 slab10_disjoint slab10_cover]
  exact BI.Entails.refl _

end Cert.Proof.K

end
-- ==== Proof.Main.lean ====
/-
  The program's run: the host's operations, the kernel on the matrix core, the kernel on the tiles, and what every
  buffer the proof speaks of holds at the end.
-/
module

public import proofs.«01_k».proof.Proof.Launch

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok pending Batch)
open Idealize.ShloMosaic.Tactic

open Idealize.ShloMosaic.StableHlo (held)

variable {F : FTy → Type} [FloatOps F]

local notation "𝕄" => MT nD τ sig (HIx 1) (Elt F) ℕ UU ℕ

/-! ## The host's operations and the contents they leave -/

/-- The operations before the kernel on the matrix core, between the two kernels, and after. -/
def ops₁ : List (HloOp τ sig (Elt F)) :=
  [StableHlo.reshape main_arg2 main_v0 (rfl : (.f32 : EltTy) = .f32) shapeCasts_S32x64x64x80x4_S32x64x64x320,
   StableHlo.unary main_arg2 main_v1 ((extractStridedSlice S32x64x64x1x2 ![0, 0, 0, 79, 0] · slices_S32x64x64x80x4_S32x64x64x1x2_0_0_0_79_0) : (⟨S32x64x64x80x4, .f32⟩ : BufTy).Contents (Elt F) → (⟨S32x64x64x1x2, .f32⟩ : BufTy).Contents (Elt F)),
   StableHlo.reshape main_v1 main_v2 (rfl : (.f32 : EltTy) = .f32) shapeCasts_S32x64x64x1x2_S32x64x64x2,
   StableHlo.unary main_v2 main_v3 ((transpose S32x64x2x64 [0, 1, 3, 2] · transposes_S32x64x64x2_S32x64x2x64_0_1_3_2) : (⟨S32x64x64x2, .f32⟩ : BufTy).Contents (Elt F) → (⟨S32x64x2x64, .f32⟩ : BufTy).Contents (Elt F)),
   StableHlo.reshape main_v3 main_v4 (rfl : (.f32 : EltTy) = .f32) shapeCasts_S32x64x2x64_S2048x2x64,
   StableHlo.reshape main_arg1 main_v5 (rfl : (.f32 : EltTy) = .f32) shapeCasts_S32x64x64_S2048x64,
   StableHlo.reshape main_arg3 main_v6 (rfl : (.f32 : EltTy) = .f32) shapeCasts_S32x64x3_S2048x3]
def ops₂ : List (HloOp τ sig (Elt F)) :=
  [StableHlo.reshape main_v7_1 main_v8 (rfl : (.i32 : EltTy) = .i32) shapeCasts_S2048x6_S12288]
def ops₃ : List (HloOp τ sig (Elt F)) :=
  [StableHlo.reshape main_v9_0 main_v10 (rfl : (.f32 : EltTy) = .f32) shapeCasts_S32x80x768_S32x80x64x6x2,
   StableHlo.reshape main_v9_1 main_v11 (rfl : (.f32 : EltTy) = .f32) shapeCasts_S32x80x384_S32x80x64x6x1,
   StableHlo.reshape main_v9_2 main_v12 (rfl : (.f32 : EltTy) = .f32) shapeCasts_S32x80x384_S32x80x64x6x1,
   StableHlo.unary main_arg0 main_v13 (broadcastInDim S32x1x64 ![0, 2] bcast_S32x64_S32x1x64_0_2 : (⟨S32x64, .i1⟩ : BufTy).Contents (Elt F) → (⟨S32x1x64, .i1⟩ : BufTy).Contents (Elt F)),
   StableHlo.unary main_v13 main_v14 (broadcastInDim S32x80x64 ![0, 1, 2] bcast_S32x1x64_S32x80x64_0_1_2 : (⟨S32x1x64, .i1⟩ : BufTy).Contents (Elt F) → (⟨S32x80x64, .i1⟩ : BufTy).Contents (Elt F)),
   StableHlo.reshape main_v7_0 main_v15 (rfl : (.f32 : EltTy) = .f32) shapeCasts_S2048x6_S32x64x6]

/-- A buffer of the host's, as a buffer of the device. -/
abbrev hb (b : Ref sig .tc) : DevRef τ sig := Proc.devRef .tc b

/-- The buffers the host names. -/
def ucRefs : Finset (DevRef τ sig) := (StableHlo.tcRefs τ sig).filter fun b => ¬ b.isScoped
/-- The two arrays the tiles read, given up to them for good. -/
def readRefs : Finset (DevRef τ sig) := {hb main_v0, hb main_v8}
/-- The three results of the tiles. -/
def outRefs : Finset (DevRef τ sig) := {hb main_v9_0, hb main_v9_1, hb main_v9_2}

variable (m : (ℓ : Loc nD τ sig) → Buf (Elt F) ℓ) (ρ : Dev nD → PrngReg)

def W₀ (d : Dev nD) : Valuation τ sig (Elt F) := fun b => m (d, b)
def W₁ (d : Dev nD) : Valuation τ sig (Elt F) := StableHlo.after ops₁ (W₀ m d)
/-- The contents as the region takes and leaves them. -/
def VV (d : Dev nD) (b : Ref sig .tc) : Buf (Elt F) ((T d : Thread nD τ).loc b) := W₁ m d (hb b)
def W₂ (d : Dev nD) : Valuation τ sig (Elt F) :=
  Function.update (Function.update (W₁ m d) (hb main_v7_0) (scoresOut (VV m) d)) (hb main_v7_1) (picksOut (VV m) d)
def W₃ (d : Dev nD) : Valuation τ sig (Elt F) := StableHlo.after ops₂ (W₂ m d)
/-- The arrays the tiles read. -/
def AA : S32x64x64x320.Idx → Elt F .f32 := W₃ m 0 (hb main_v0)
def BB : S12288.Idx → BitVec 32 := W₃ m 0 (hb main_v8)
def W₄ (d : Dev nD) : Valuation τ sig (Elt F) :=
  Function.update (Function.update (Function.update (W₃ m d) (hb main_v9_0) (O9 (AA m) (BB m))) (hb main_v9_1) (O10 (AA m) (BB m))) (hb main_v9_2) (O11 (AA m) (BB m))
def W₅ (d : Dev nD) : Valuation τ sig (Elt F) := StableHlo.after ops₃ (W₄ m d)

/-! ## The run of the host's program -/

omit [FloatOps F] in
theorem unscopedBufs_held (d : Dev nD) (W : Valuation τ sig (Elt F)) :
    (unscopedBufs d (fun b => W (hb b)) : sProp 𝕄) = held (T d : Thread nD τ) ucRefs W := by
  unfold unscopedBufs StableHlo.held ucRefs StableHlo.tcRefs
  rw [Finset.filter_map, bigSep_map]; rfl

/-- What is held at the end: every buffer of the host's but those given up to the tiles. -/
def FIN (d : Dev nD) : sProp 𝕄 := held (T d : Thread nD τ) (ucRefs \ readRefs) (W₅ m d)

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem bufs₁ : ∀ op ∈ ops₁ (F := F), op.bufs ⊆ ucRefs := by
  intro op h; simp only [ops₁, List.mem_cons, List.not_mem_nil, or_false] at h
  rcases h with rfl | rfl | rfl | rfl | rfl | rfl | rfl <;> first | exact sub_ucRefs _ (StableHlo.unary_bufs_sub ..) | exact sub_ucRefs _ (StableHlo.reshape_bufs_sub ..)
theorem bufs₂ : ∀ op ∈ ops₂ (F := F), op.bufs ⊆ ucRefs := by
  intro op h; simp only [ops₂, List.mem_cons, List.not_mem_nil, or_false] at h
  rcases h with rfl; exact sub_ucRefs _ (StableHlo.reshape_bufs_sub ..)
theorem bufs₃ : ∀ op ∈ ops₃ (F := F), op.bufs ⊆ ucRefs \ readRefs := by
  intro op h; simp only [ops₃, List.mem_cons, List.not_mem_nil, or_false] at h
  rcases h with rfl | rfl | rfl | rfl | rfl | rfl <;>
    refine Finset.subset_sdiff.mpr ⟨?_, ?_⟩
  all_goals first
    | exact sub_ucRefs _ (StableHlo.unary_bufs_sub ..)
    | exact sub_ucRefs _ (StableHlo.reshape_bufs_sub ..)
    | (show Disjoint ({_, _} : Finset (DevRef τ sig)) readRefs; decide)
theorem fresh₁ : ∀ op ∈ ops₁ (F := F), op.fresh = ∅ := by intro op h; simp only [ops₁, List.mem_cons, List.not_mem_nil, or_false] at h; rcases h with rfl | rfl | rfl | rfl | rfl | rfl | rfl <;> rfl
theorem fresh₂ : ∀ op ∈ ops₂ (F := F), op.fresh = ∅ := by intro op h; simp only [ops₂, List.mem_cons, List.not_mem_nil, or_false] at h; rcases h with rfl; rfl
theorem fresh₃ : ∀ op ∈ ops₃ (F := F), op.fresh = ∅ := by intro op h; simp only [ops₃, List.mem_cons, List.not_mem_nil, or_false] at h; rcases h with rfl | rfl | rfl | rfl | rfl | rfl <;> rfl

/-- The program as its lines of operations and its two calls. -/
theorem main_eq (d : Dev nD) : main (F := F) d
    = (StableHlo.seq ops₁ >>= fun _ => SparseCore.liftProg (Prog.lift (.customCall (Pipeline.entry 0) ())) >>= fun _ => StableHlo.seq ops₂ >>= fun _ =>
        (K (F := F)).run d 0 >>= fun _ => StableHlo.seq ops₃ >>= fun _ => pure ⟨⟩) := rfl

/-- The region's obligations at the contents it is entered with. -/
def theReg : Pipeline.RegionSeg (pcfgs (F := F)) adm (pdats (VV m)) none defs₀ 𝒱₀ (K (F := F)).L (K (F := F)).lev 0 :=
  reg (VV m) (fun d b => W₂ m d (hb b)) (fun _ => iprop(emp))
    (fun d => (Function.update_of_ne (show hb main_v7_0 ≠ hb main_v7_1 by decide) ..).trans (Function.update_self ..))
    (fun d => Function.update_self ..)
    (fun d b h3 h4 => (Function.update_of_ne (fun h => h4 (Proc.devRef_injective _ h)) ..).trans (Function.update_of_ne (fun h => h3 (Proc.devRef_injective _ h)) ..))

omit [FloatOps F] in
theorem held_readRefs (d : Dev nD) (W : Valuation τ sig (Elt F)) :
    (held (T d : Thread nD τ) readRefs W : sProp 𝕄) = iprop((aLoc d ↦{fullShare} W (hb main_v0)) ∗ (bLoc d ↦{fullShare} W (hb main_v8))) := by
  unfold StableHlo.held readRefs
  rw [SparseCore.bigSep_insert' (by decide), bigSep_singleton]
omit [FloatOps F] in
theorem held_outRefs (d : Dev nD) (W : Valuation τ sig (Elt F)) :
    (held (T d : Thread nD τ) outRefs W : sProp 𝕄)
      = iprop((o9Loc d ↦{fullShare} W (hb main_v9_0)) ∗ (o10Loc d ↦{fullShare} W (hb main_v9_1)) ∗ (o11Loc d ↦{fullShare} W (hb main_v9_2))) := by
  unfold StableHlo.held outRefs
  rw [SparseCore.bigSep_insert' (by decide), SparseCore.bigSep_insert' (by decide), bigSep_singleton]

theorem theReg_pre (d : Dev nD) : (theReg m).pre d = iprop(held (T d : Thread nD τ) ucRefs (W₁ m d) ∗ emp ∗ calm d) := by
  show iprop(unscopedBufs d (fun b => W₁ m d (hb b)) ∗ emp ∗ calm d) = _
  rw [unscopedBufs_held]
theorem theReg_post (d : Dev nD) : (theReg m).post d = iprop(held (T d : Thread nD τ) ucRefs (W₂ m d) ∗ emp ∗ calm d) := by
  show iprop(unscopedBufs d (fun b => W₂ m d (hb b)) ∗ emp ∗ calm d) = _
  rw [unscopedBufs_held]

/-- The region on a core, over every buffer of the host's. -/
theorem region_run [∀ e, Nonempty (Elt F e)] (d : Dev nD) (Q : PUnit → sProp 𝕄) :
    iprop((boundary (T d : Thread nD τ) ∗ held (T d : Thread nD τ) ucRefs (W₂ m d) ∗ calm d -∗ Q ⟨⟩)
        ∗ boundary (T d : Thread nD τ) ∗ held (T d : Thread nD τ) ucRefs (W₁ m d) ∗ calm d ∗ levAts (K (F := F)).L (K (F := F)).lev ∗ GH (F := F) d)
      ⊢ wp frame (wpE (D (F := F)) 𝒱 (T d : Thread nD τ) none) Set.univ (Prog.lift (.customCall (Pipeline.entry 0) ())) Q := by
  refine BI.Entails.trans ?_ (Pipeline.RegionSeg.wp (pcfgs (F := F)) adm (pdats (VV m)) none cellOf_inj (EP (F := F)) defs₀ 𝒱₀ (K (F := F)).L (K (F := F)).lev (theReg m) d none
    (fun u hu => by cases hu) (fun x => .ret x) Q)
  rw [theReg_pre, theReg_post]
  unfold GH
  show (iprop(_ ∗ _) : sProp 𝕄) ⊢ _
  iintro ⟨Hk, Hb, Hu, HO, Hlev, Hc, Ht⟩
  isplitl [Hk]
  · iintro ⟨Hb, Hu, -, HO⟩
    rw [wp_ret]; imodintro
    iapply Hk
    isplitl [Hb]; · iexact Hb
    isplitl [Hu] <;> iassumption
  isplitl [Hb]; · iexact Hb
  isplitl [Hu HO]
  · isplitl [Hu]; · iexact Hu
    isplitr; · iempintro
    iexact HO
  isplitl [Hlev]; · iexact Hlev
  isplitl [Hc] <;> iassumption

end Cert.Proof.K

end
-- ==== Proof.Run.lean ====
/-
  The program's run, from the launch to the contents of every buffer at the end.
-/
module

public import proofs.«01_k».proof.Proof.Main

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok pending Batch)
open Idealize.ShloMosaic.Tactic

open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-- The results of the tiles put back among the buffers held. -/
theorem out_held (d : Dev nD) :
    iprop(((o9Loc d ↦{fullShare} (O9 (AA m) (BB m) : Buf (Elt F) (o9Loc d))) ∗ (o10Loc d ↦{fullShare} (O10 (AA m) (BB m) : Buf (Elt F) (o10Loc d)))
        ∗ (o11Loc d ↦{fullShare} (O11 (AA m) (BB m) : Buf (Elt F) (o11Loc d)))) ∗ held (T d : Thread nD τ) ((ucRefs \ readRefs) \ outRefs) (W₃ m d))
      = (held (T d : Thread nD τ) (ucRefs \ readRefs) (W₄ m d) : sProp 𝕄) := by
  rw [StableHlo.held_sub_split (T d : Thread nD τ) (show outRefs ⊆ ucRefs \ readRefs by decide) (W₄ m d), held_outRefs]
  have e9 : W₄ m d (hb main_v9_0) = O9 (AA m) (BB m) :=
    (Function.update_of_ne (show hb main_v9_0 ≠ hb main_v9_2 by decide) ..).trans ((Function.update_of_ne (show hb main_v9_0 ≠ hb main_v9_1 by decide) ..).trans (Function.update_self ..))
  have e10 : W₄ m d (hb main_v9_1) = O10 (AA m) (BB m) :=
    (Function.update_of_ne (show hb main_v9_1 ≠ hb main_v9_2 by decide) ..).trans (Function.update_self ..)
  have e11 : W₄ m d (hb main_v9_2) = O11 (AA m) (BB m) := Function.update_self ..
  rw [e9, e10, e11]
  refine congrArg _ (StableHlo.held_congr _ fun b hb' => ?_)
  have h := (Finset.mem_sdiff.mp hb').2
  have hne : ∀ r : DevRef τ sig, r ∈ outRefs → b ≠ r := fun r hr e => h (e ▸ hr)
  exact ((Function.update_of_ne (hne _ (by decide)) ..).trans ((Function.update_of_ne (hne _ (by decide)) ..).trans (Function.update_of_ne (hne _ (by decide)) ..))).symm

theorem W₁_eq (d : Dev nD) : StableHlo.after ops₁ (W₀ m d) = W₁ m d := rfl
theorem W₃_eq (d : Dev nD) : StableHlo.after ops₂ (W₂ m d) = W₃ m d := rfl
theorem W₅_eq (d : Dev nD) : StableHlo.after ops₃ (W₄ m d) = W₅ m d := rfl
theorem AA_eq : W₃ m 0 (hb main_v0) = AA m := rfl
theorem BB_eq : W₃ m 0 (hb main_v8) = BB m := rfl

/-- The tiles' run, over every buffer of the host's. -/
theorem tiles_run [∀ e, Nonempty (Elt F e)] (κ : GSem nD τ sig → ℕ) (Q : PUnit → sProp 𝕄) :
    iprop((K (F := F)).ctx EH (P (AA m) (BB m)) κ ∗ (K (F := F)).tcSt EH 0 0 ∗ held (T (0 : Dev nD) : Thread nD τ) ucRefs (W₃ m 0)
        ∗ ((K (F := F)).tcSt EH 0 1 ∗ held (T (0 : Dev nD) : Thread nD τ) (ucRefs \ readRefs) (W₄ m 0) -∗ Q ⟨⟩))
      ⊢ wp frame (wpE ((K (F := F)).defs (D (F := F))) 𝒱 (T (0 : Dev nD) : Thread nD τ) none) Set.univ ((K (F := F)).run 0 0) Q := by
  rw [StableHlo.held_sub_split (T (0 : Dev nD) : Thread nD τ) (show readRefs ⊆ ucRefs by decide) (W₃ m 0),
    StableHlo.held_sub_split (T (0 : Dev nD) : Thread nD τ) (show outRefs ⊆ ucRefs \ readRefs by decide) (W₃ m 0), held_readRefs, held_outRefs, AA_eq, BB_eq]
  iintro ⟨#Hctx, Hst, ⟨⟨Ha, Hb8⟩, ⟨H9, H10, H11⟩, Hu⟩, Hk⟩
  iapply ((K (F := F)).wp_run (D (F := F)) 𝒱 (EH := EH) (P := P (AA m) (BB m)) κ 0 0)
  isplitr; · iexact Hctx
  isplitl [Hst]; · iexact Hst
  isplitl [Ha Hb8 H9 H10 H11]
  · iapply (deal (AA m) (BB m) 0 _ _ _)
    isplitl [Ha]; · iexact Ha
    isplitl [Hb8]; · iexact Hb8
    isplitl [H9]; · iexact H9
    isplitl [H10]; · iexact H10
    iexact H11
  iintro ⟨Hst, Hdn⟩
  ihave Ho := (gathered (AA m) (BB m) 0) $$ Hdn
  iapply Hk
  isplitl [Hst]; · iexact Hst
  iapply (Entails.of_eq (out_held m 0))
  isplitl [Ho] <;> iassumption

set_option backward.isDefEq.respectTransparency.types false in
/-- A line of the host's operations, over a set of buffers that holds all of theirs. -/
theorem line_run (d : Dev nD) (S : Finset (DevRef τ sig)) (ops : List (HloOp τ sig (Elt F))) (hS : ∀ op ∈ ops, op.bufs ⊆ S) (hf : ∀ op ∈ ops, op.fresh = ∅)
    (V : Valuation τ sig (Elt F)) (Q : PUnit → sProp 𝕄) :
    iprop((boundary (T d : Thread nD τ) ∗ held (T d : Thread nD τ) S (StableHlo.after ops V) -∗ Q ⟨⟩)
        ∗ boundary (T d : Thread nD τ) ∗ held (T d : Thread nD τ) S V)
      ⊢ wp frame (wpE ((K (F := F)).defs (D (F := F))) 𝒱 (T d : Thread nD τ) none) Set.univ (StableHlo.seq ops) Q := by
  have h := StableHlo.wp_seq (defs := (K (F := F)).defs (D (F := F))) 𝒱 none Set.univ d S (fun x => pure x) (K := Q) ops hS hf V
  rw [bind_pure] at h
  iintro ⟨Hk, H⟩
  iapply h $$ H
  iintro H
  rw [wp_pure]; imodintro
  iapply Hk; iexact H

end Cert.Proof.K

end
-- ==== Proof.Whole.lean ====
/-
  The program from the launch to its end: every buffer the proof speaks of, at its computed contents.
-/
module

public import proofs.«01_k».proof.Proof.Run

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok pending Batch)
open Idealize.ShloMosaic.Tactic

open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-- The buffers as the launch hands them. -/
theorem launch_held (d : Dev nD) : (unscopedBufs d (fun b => m ((SparseCore.T d : Thread nD τ).loc b)) : sProp 𝕄) = held (SparseCore.T d : Thread nD τ) ucRefs (W₀ m d) :=
  unscopedBufs_held d (W₀ m d)

/-- The host's program on a core. -/
theorem hmain [∀ e, Nonempty (Elt F e)] (κ : GSem nD τ sig → ℕ) (d : Dev nD) :
    iprop((K (F := F)).ctx EH (P (AA m) (BB m)) κ ∗ (K (F := F)).tcSt EH d 0 ∗ (K (F := F)).tcRes m ρ d ∗ GH d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain rfl : d = 0 := Subsingleton.elim _ _
  unfold SparseCore.Cfg.tcRes SparseCore.Cfg.tcEnd
  rewrite [main_eq]
  iintro ⟨#Hctx, Hst, ⟨Hb, Hu, Hts, -⟩, Hg⟩
  ihave Hu := (Entails.of_eq (launch_held m 0)) $$ Hu
  ihave #Hlev := ((K (F := F)).ctx_levAts κ) $$ Hctx
  rewrite [wp_bind]
  iapply (line_run 0 ucRefs ops₁ bufs₁ fresh₁ (W₀ m 0) _)
  isplitr [Hb Hu]
  swap
  · isplitl [Hb] <;> iassumption
  rewrite [W₁_eq]
  iintro ⟨Hb, Hu⟩
  rewrite [wp_bind]
  iapply ((K (F := F)).wp_liftProg (D (F := F)) 𝒱 (T (0 : Dev nD)) Set.univ none _ _)
  unfold SparseCore.Cfg.tcSt
  icases Hst with ⟨⟨%W, %hW, HO⟩, Hat, Hrd, Hrs, Htoks⟩
  iapply (region_run m 0 _)
  isplitr [Hb Hu HO Hg]
  swap
  · isplitl [Hb]; · iexact Hb
    isplitl [Hu]; · iexact Hu
    isplitl [HO]
    · iexists W; isplitr; · ipureintro; exact hW
      iexact HO
    isplitr; · iexact Hlev
    iexact Hg
  iintro ⟨Hb, Hu, %W', %hW', HO⟩
  rewrite [wp_bind]
  iapply (line_run 0 ucRefs ops₂ bufs₂ fresh₂ (W₂ m 0) _)
  isplitr [Hb Hu]
  swap
  · isplitl [Hb] <;> iassumption
  rewrite [W₃_eq]
  iintro ⟨Hb, Hu⟩
  rewrite [wp_bind]
  iapply (tiles_run m κ _)
  isplitr; · iexact Hctx
  isplitl [HO Hat Hrd Hrs Htoks]
  · unfold SparseCore.Cfg.tcSt
    isplitl [HO]
    · iexists W'; isplitr; · ipureintro; exact hW'
      iexact HO
    isplitl [Hat]; · iexact Hat
    isplitl [Hrd]; · iexact Hrd
    isplitl [Hrs]; · iexact Hrs
    iexact Htoks
  isplitl [Hu]; · iexact Hu
  iintro ⟨Hst, Hu⟩
  rewrite [wp_bind]
  iapply (line_run 0 (ucRefs \ readRefs) ops₃ bufs₃ fresh₃ (W₄ m 0) _)
  isplitr [Hb Hu]
  swap
  · isplitl [Hb] <;> iassumption
  rewrite [W₅_eq]
  iintro ⟨Hb, Hu⟩
  rewrite [wp_pure]; imodintro
  isplitl [Hst]; · unfold SparseCore.Cfg.tcSt; iexact Hst
  isplitl [Hu]; · unfold FIN; iexact Hu
  isplitl [Hb] <;> iassumption

/-- What the final memory is known to hold. -/
def fq (d : Dev nD) (s' : Phys nD τ sig (Elt F)) : Prop := ∀ b ∈ ucRefs \ readRefs, s'.mem.mem (d, b) = W₅ m d b

theorem hfin (d : Dev nD) (s' : Phys nD τ sig (Elt F)) : iprop(FIN m d ∗ SI s') ⊢ (⌜fq m d s'⌝ : sProp 𝕄) := by
  unfold FIN StableHlo.held
  iintro ⟨H, HSI⟩
  iapply (SI_pointsTo_bufs_agree (qs := fun _ => fullShare) (ucRefs \ readRefs))
  isplitl [HSI] <;> iassumption

/-- The program's run: every buffer of the host's but the two the tiles read ends at its computed contents, and every
    semaphore at zero. -/
def QC : PUnit × MemSt nD τ sig (Elt F) → Prop := fun r => (∀ d : Dev nD, ∀ b ∈ ucRefs \ readRefs, r.2.mem (d, b) = W₅ m d b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (AA m) (BB m)) (A := ∅) facts v₀
    (fun q hq => match q with | 0 => nomatch hq)
    (fun q _ => match q with | 0 => tileObl (AA m) (BB m) facts)
    (fun q _ => match q with | 0 => SparseCore.Cfg.VecSplit.of_plain (vecSplit (AA m) (BB m)))
    m ρ main (fun d => GH d) (FIN m) (u₀ (F := F)) (sep_elim_left.trans (hu₀ (AA m) (BB m))) (hmain m ρ) (fq m) (hfin m) (QC m) (fun _ h hz => ⟨h, hz⟩)

end Cert.Proof.K

end
-- ==== Proof.Frames.lean ====
/-
  The frames of the kernel program: its arguments end as they began and every semaphore at zero.
-/
module

public import proofs.«01_k».proof.Defs
public import proofs.«01_k».proof.Proof.Gen.Kernel
public import proofs.«01_k».proof.Proof.Whole

@[expose] public section

noncomputable section

namespace Cert.Proof.K

open Cert.KernelIdeal Cert.KernelIdeal.Gen
open Idealize.ShloMosaic Idealize.SL.Sem

variable {F : FTy → Type} [FloatOps F]

variable (m : (ℓ : Loc nD τ sig) → Buf (Elt F) ℓ)

/-- The buffers that no operation of the program writes: its arguments. -/
def argRefs : Finset (DevRef τ sig) := {hb main_arg0, hb main_arg1, hb main_arg2, hb main_arg3}

theorem kept₁ (b : DevRef τ sig) (hb' : b ∈ argRefs) : ∀ op ∈ (ops₁ : List (HloOp τ sig (Elt F))), b ∉ op.writes := by
  intro op ho
  have key : ∀ y : Ref sig .tc, (∀ b ∈ argRefs, b ≠ hb y) → b ∉ ({hb y} : Finset (DevRef τ sig)) :=
    fun y hy h => hy b hb' (Finset.mem_singleton.1 h)
  simp only [ops₁, List.mem_cons, List.not_mem_nil, or_false] at ho
  rcases ho with rfl | rfl | rfl | rfl | rfl | rfl | rfl <;> exact key _ (by decide)

theorem kept₂ (b : DevRef τ sig) (hb' : b ∈ argRefs) : ∀ op ∈ (ops₂ : List (HloOp τ sig (Elt F))), b ∉ op.writes := by
  intro op ho
  have key : ∀ y : Ref sig .tc, (∀ b ∈ argRefs, b ≠ hb y) → b ∉ ({hb y} : Finset (DevRef τ sig)) :=
    fun y hy h => hy b hb' (Finset.mem_singleton.1 h)
  simp only [ops₂, List.mem_cons, List.not_mem_nil, or_false] at ho
  subst ho
  exact key _ (by decide)

theorem kept₃ (b : DevRef τ sig) (hb' : b ∈ argRefs) : ∀ op ∈ (ops₃ : List (HloOp τ sig (Elt F))), b ∉ op.writes := by
  intro op ho
  have key : ∀ y : Ref sig .tc, (∀ b ∈ argRefs, b ≠ hb y) → b ∉ ({hb y} : Finset (DevRef τ sig)) :=
    fun y hy h => hy b hb' (Finset.mem_singleton.1 h)
  simp only [ops₃, List.mem_cons, List.not_mem_nil, or_false] at ho
  rcases ho with rfl | rfl | rfl | rfl | rfl | rfl <;> exact key _ (by decide)

/-- An argument's contents at the end are its contents at the start. -/
theorem args_kept (d : Dev nD) (b : DevRef τ sig) (h : b ∈ argRefs) : W₅ m d b = m (d, b) := by
  have ne : ∀ y : DevRef τ sig, y ∉ argRefs → b ≠ y := fun y hy he => hy (he ▸ h)
  rw [W₅, StableHlo.after_of_forall_not_mem _ _ (kept₃ b h), W₄, Function.update_of_ne (ne _ (by decide)), Function.update_of_ne (ne _ (by decide)),
    Function.update_of_ne (ne _ (by decide)), W₃, StableHlo.after_of_forall_not_mem _ _ (kept₂ b h), W₂, Function.update_of_ne (ne _ (by decide)),
    Function.update_of_ne (ne _ (by decide)), W₁, StableHlo.after_of_forall_not_mem _ _ (kept₁ b h), W₀]

theorem arg_end {r : PUnit × MemSt nD τ sig (Elt F)} (h : QC m r) (d : Dev nD) (b : DevRef τ sig) (hb' : b ∈ argRefs) :
    r.2.mem (d, b) = m (d, b) :=
  (h.1 d b ((by decide : argRefs ⊆ ucRefs \ readRefs) hb')).trans (args_kept m d b hb')

/-- Over any values of the floats: the arguments end as they began, and every semaphore at zero. -/
theorem frame_any [∀ e, Nonempty (Elt F e)] (ρ : Dev nD → PrngReg) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run Cert.KernelIdeal.defs _ _).mono (fun _ h => ⟨fun c => ⟨arg_end m h c (hb main_arg0) (by decide), arg_end m h c (hb main_arg1) (by decide),
    arg_end m h c (hb main_arg2) (by decide), arg_end m h c (hb main_arg3) (by decide)⟩, h.2⟩) (run_main m ρ)

/-- The frame of the kernel over the extended reals. -/
theorem frame_ideal : Cert.quiescent_KernelIdeal := fun m ρ _ => frame_any (F := Ideal) m ρ

/-- The two programs' kernels are the same text. -/
theorem defs₀_eq : Cert.Kernel.defs₀ (F := Bits) = Cert.KernelIdeal.defs₀ (F := Bits) := by
  funext κ ℓ a
  rcases κ with _ | _ | ⟨c, s⟩ <;> rcases ℓ with ⟨_ | _ | n, h⟩ <;> rfl

theorem defs_eq : Cert.Kernel.defs (F := Bits) = Cert.KernelIdeal.defs (F := Bits) := by
  unfold Cert.Kernel.defs Cert.KernelIdeal.defs
  exact congrArg (fun d => Cert.KernelIdeal.sc.defs (Pipeline.defs Cert.KernelIdeal.pcfgs d)) defs₀_eq

/-- The frame of the kernel over the machine's words. -/
theorem frame_kernel : Cert.quiescent_Kernel := fun m ρ _ => by
  have h := frame_any (F := Bits) m ρ
  rewrite [← defs_eq] at h
  exact h

end Cert.Proof.K

end
-- ==== Proof.RefOps.lean ====
/-
  The reference's program as a list of operations over numbered values: what comes before the six steps of the
  suppression, one step at a symbolic number, and what comes after.
-/
module

public import proofs.«01_k».proof.Proof.Gen.ReferenceIdeal
public import Idealize.ShloMosaic.Lib.StableHlo.RunHlo

@[expose] public section

noncomputable section

namespace Cert.Proof.R

open Cert.ReferenceIdeal Cert.ReferenceIdeal.Gen
open Idealize.ShloMosaic Idealize.ShloMosaic.StableHlo Idealize.SL.Sem

variable {F : FTy → Type} [FloatOps F]

/-- The reference names a value of type `T` by the number `n`. -/
def Ok (T : BufTy) (n : ℕ) : Prop :=
  ∃ h : n < 574, sig.names .tc .hbm ⟨n, h⟩ = true ∧ (sig.tyNear .tc .hbm ⟨n, h⟩) = T ∧ sig.isScoped (Kind.tc.table .hbm) ⟨n, h⟩ = false

instance (T : BufTy) (n : ℕ) : Decidable (Ok T n) := by unfold Ok; infer_instance

/-- The value numbered `n`. -/
def rf (T : BufTy) (n : ℕ) (h : Ok T n := by decide +kernel) : TRef sig T where
  ref := ⟨.hbm, ⟨n, h.1⟩, h.2.1⟩
  ty_eq := h.2.2.1
  on_device := nofun
  unscoped := h.2.2.2

/-- Value `i` of step `k`. -/
def st (T : BufTy) (k : Fin 6) (i : ℕ) (h : ∀ k : Fin 6, Ok T (48 + 72 * k.val + i) := by decide +kernel) : TRef sig T :=
  rf T (48 + 72 * k.val + i) (h k)

/-- The number of the scores that step `k` starts from. -/
def inpN (k : Fin 6) : ℕ := if k.val = 0 then 8 else 47 + 72 * k.val
theorem inp_ok : ∀ k : Fin 6, Ok ⟨S32x64x64, .f32⟩ (inpN k) := by decide +kernel
/-- The scores that step `k` starts from. -/
def inp (k : Fin 6) : TRef sig ⟨S32x64x64, .f32⟩ := rf _ (inpN k) (inp_ok k)

/-- Three values joined into one. -/
def cat3 {T U : BufTy} (a b c : TRef sig T) (y : TRef sig U)
    (f : T.Contents (Elt F) → T.Contents (Elt F) → T.Contents (Elt F) → U.Contents (Elt F)) : HloOp τ sig (Elt F) :=
  StableHlo.nary ![a.ref, b.ref, c.ref] y.ref (fun u => y.toBuf (f (a.ofBuf (u 0)) (b.ofBuf (u 1)) (c.ofBuf (u 2))))
    (by intro k; fin_cases k; exacts [a.dev, b.dev, c.dev]) y.dev

/-- Six values joined into one. -/
def cat6 {T U : BufTy} (a b c d e g : TRef sig T) (y : TRef sig U)
    (f : T.Contents (Elt F) → T.Contents (Elt F) → T.Contents (Elt F) → T.Contents (Elt F) → T.Contents (Elt F) → T.Contents (Elt F) → U.Contents (Elt F)) :
    HloOp τ sig (Elt F) :=
  StableHlo.nary ![a.ref, b.ref, c.ref, d.ref, e.ref, g.ref] y.ref
    (fun u => y.toBuf (f (a.ofBuf (u 0)) (b.ofBuf (u 1)) (c.ofBuf (u 2)) (d.ofBuf (u 3)) (e.ofBuf (u 4)) (g.ofBuf (u 5))))
    (by intro k; fin_cases k; exacts [a.dev, b.dev, c.dev, d.dev, e.dev, g.dev]) y.dev

/-- Before the steps: the scores divided by their sum, the thresholds, which modes end near which. -/
def preOps : List (HloOp τ sig (Elt F)) :=
  [TRef.nullary (rf ⟨S_, .f32⟩ 4) (constant S_ .f32 0x00000000#32),
   TRef.binary (rf ⟨S32x64x64, .f32⟩ 1) (rf ⟨S_, .f32⟩ 4) (rf ⟨S32x64, .f32⟩ 5) (fun x v => Host.reduceAdd x v reducesTo_S32x64x64_S32x64_d2 h_S_),
   TRef.unary (rf ⟨S32x64, .f32⟩ 5) (rf ⟨S32x64x1, .f32⟩ 6) (broadcastInDim S32x64x1 ![0, 1] bcast_S32x64_S32x64x1_0_1),
   TRef.unary (rf ⟨S32x64x1, .f32⟩ 6) (rf ⟨S32x64x64, .f32⟩ 7) (broadcastInDim S32x64x64 ![0, 1, 2] bcast_S32x64x1_S32x64x64_0_1_2),
   TRef.binary (rf ⟨S32x64x64, .f32⟩ 1) (rf ⟨S32x64x64, .f32⟩ 7) (rf ⟨S32x64x64, .f32⟩ 8) (Host.divf),
   TRef.unary (rf ⟨S32x64x3, .f32⟩ 3) (rf ⟨S32x64x1, .f32⟩ 9) (extractStridedSlice S32x64x1 ![0, 0, 0] · slices_S32x64x3_S32x64x1_0_0_0),
   TRef.reshape (rf ⟨S32x64x1, .f32⟩ 9) (rf ⟨S32x64, .f32⟩ 10) rfl shapeCasts_S32x64x1_S32x64,
   TRef.nullary (rf ⟨S_, .f32⟩ 11) (constant S_ .f32 0x40200000#32),
   TRef.unary (rf ⟨S_, .f32⟩ 11) (rf ⟨S32x64, .f32⟩ 12) (broadcastInDim S32x64 ![] bcast_S_S32x64),
   TRef.binary (rf ⟨S32x64, .f32⟩ 10) (rf ⟨S32x64, .f32⟩ 12) (rf ⟨S32x64, .f32⟩ 13) mulf,
   TRef.nullary (rf ⟨S_, .f32⟩ 14) (constant S_ .f32 0x00000000#32),
   TRef.unary (rf ⟨S_, .f32⟩ 14) (rf ⟨S32x64, .f32⟩ 15) (broadcastInDim S32x64 ![] bcast_S_S32x64),
   TRef.binary (rf ⟨S32x64, .f32⟩ 15) (rf ⟨S32x64, .f32⟩ 13) (rf ⟨S32x64, .f32⟩ 16) addf,
   TRef.unary (rf ⟨S32x64x3, .f32⟩ 3) (rf ⟨S32x64x1, .f32⟩ 17) (extractStridedSlice S32x64x1 ![0, 0, 1] · slices_S32x64x3_S32x64x1_0_0_1),
   TRef.reshape (rf ⟨S32x64x1, .f32⟩ 17) (rf ⟨S32x64, .f32⟩ 18) rfl shapeCasts_S32x64x1_S32x64,
   TRef.nullary (rf ⟨S_, .f32⟩ 19) (constant S_ .f32 0x3F800000#32),
   TRef.unary (rf ⟨S_, .f32⟩ 19) (rf ⟨S32x64, .f32⟩ 20) (broadcastInDim S32x64 ![] bcast_S_S32x64),
   TRef.binary (rf ⟨S32x64, .f32⟩ 18) (rf ⟨S32x64, .f32⟩ 20) (rf ⟨S32x64, .f32⟩ 21) mulf,
   TRef.binary (rf ⟨S32x64, .f32⟩ 16) (rf ⟨S32x64, .f32⟩ 21) (rf ⟨S32x64, .f32⟩ 22) addf,
   TRef.unary (rf ⟨S32x64x3, .f32⟩ 3) (rf ⟨S32x64x1, .f32⟩ 23) (extractStridedSlice S32x64x1 ![0, 0, 2] · slices_S32x64x3_S32x64x1_0_0_2),
   TRef.reshape (rf ⟨S32x64x1, .f32⟩ 23) (rf ⟨S32x64, .f32⟩ 24) rfl shapeCasts_S32x64x1_S32x64,
   TRef.nullary (rf ⟨S_, .f32⟩ 25) (constant S_ .f32 0x3FE00000#32),
   TRef.unary (rf ⟨S_, .f32⟩ 25) (rf ⟨S32x64, .f32⟩ 26) (broadcastInDim S32x64 ![] bcast_S_S32x64),
   TRef.binary (rf ⟨S32x64, .f32⟩ 24) (rf ⟨S32x64, .f32⟩ 26) (rf ⟨S32x64, .f32⟩ 27) mulf,
   TRef.binary (rf ⟨S32x64, .f32⟩ 22) (rf ⟨S32x64, .f32⟩ 27) (rf ⟨S32x64, .f32⟩ 28) addf,
   TRef.unary (rf ⟨S32x64, .f32⟩ 28) (rf ⟨S32x64x1x1, .f32⟩ 29) (broadcastInDim S32x64x1x1 ![0, 1] bcast_S32x64_S32x64x1x1_0_1),
   TRef.unary (rf ⟨S32x64x64x80x4, .f32⟩ 2) (rf ⟨S32x64x64x80x2, .f32⟩ 30) (extractStridedSlice S32x64x64x80x2 ![0, 0, 0, 0, 0] · slices_S32x64x64x80x4_S32x64x64x80x2_0_0_0_0_0),
   TRef.unary (rf ⟨S32x64x64x80x2, .f32⟩ 30) (rf ⟨S32x64x64x1x2, .f32⟩ 31) (extractStridedSlice S32x64x64x1x2 ![0, 0, 0, 79, 0] · slices_S32x64x64x80x2_S32x64x64x1x2_0_0_0_79_0),
   TRef.reshape (rf ⟨S32x64x64x1x2, .f32⟩ 31) (rf ⟨S32x64x64x2, .f32⟩ 32) rfl shapeCasts_S32x64x64x1x2_S32x64x64x2,
   TRef.unary (rf ⟨S32x64x64x2, .f32⟩ 32) (rf ⟨S32x64x1x64x2, .f32⟩ 33) (broadcastInDim S32x64x1x64x2 ![0, 1, 3, 4] bcast_S32x64x64x2_S32x64x1x64x2_0_1_3_4),
   TRef.unary (rf ⟨S32x64x64x2, .f32⟩ 32) (rf ⟨S32x64x64x1x2, .f32⟩ 34) (broadcastInDim S32x64x64x1x2 ![0, 1, 2, 4] bcast_S32x64x64x2_S32x64x64x1x2_0_1_2_4),
   TRef.unary (rf ⟨S32x64x1x64x2, .f32⟩ 33) (rf ⟨S32x64x64x64x2, .f32⟩ 35) (broadcastInDim S32x64x64x64x2 ![0, 1, 2, 3, 4] bcast_S32x64x1x64x2_S32x64x64x64x2_0_1_2_3_4),
   TRef.unary (rf ⟨S32x64x64x1x2, .f32⟩ 34) (rf ⟨S32x64x64x64x2, .f32⟩ 36) (broadcastInDim S32x64x64x64x2 ![0, 1, 2, 3, 4] bcast_S32x64x64x1x2_S32x64x64x64x2_0_1_2_3_4),
   TRef.binary (rf ⟨S32x64x64x64x2, .f32⟩ 35) (rf ⟨S32x64x64x64x2, .f32⟩ 36) (rf ⟨S32x64x64x64x2, .f32⟩ 37) subf,
   TRef.binary (rf ⟨S32x64x64x64x2, .f32⟩ 37) (rf ⟨S32x64x64x64x2, .f32⟩ 37) (rf ⟨S32x64x64x64x2, .f32⟩ 38) mulf,
   TRef.nullary (rf ⟨S_, .f32⟩ 39) (constant S_ .f32 0x00000000#32),
   TRef.binary (rf ⟨S32x64x64x64x2, .f32⟩ 38) (rf ⟨S_, .f32⟩ 39) (rf ⟨S32x64x64x64, .f32⟩ 40) (fun x v => Host.reduceAdd x v reducesTo_S32x64x64x64x2_S32x64x64x64_d4 h_S_),
   TRef.unary (rf ⟨S32x64x64x64, .f32⟩ 40) (rf ⟨S32x64x64x64, .f32⟩ 41) Host.sqrt,
   TRef.unary (rf ⟨S32x64x1x1, .f32⟩ 29) (rf ⟨S32x64x64x64, .f32⟩ 42) (broadcastInDim S32x64x64x64 ![0, 1, 2, 3] bcast_S32x64x1x1_S32x64x64x64_0_1_2_3),
   TRef.binary (rf ⟨S32x64x64x64, .f32⟩ 41) (rf ⟨S32x64x64x64, .f32⟩ 42) (rf ⟨S32x64x64x64, .i1⟩ 43) (cmpf .olt),
   TRef.nullary (rf ⟨S32, .i32⟩ 44) (iotaInDim S32 32 0),
   TRef.unary (rf ⟨S32, .i32⟩ 44) (rf ⟨S32x1, .i32⟩ 45) (broadcastInDim S32x1 ![0] bcast_S32_S32x1_0),
   TRef.nullary (rf ⟨S64, .i32⟩ 46) (iotaInDim S64 32 0),
   TRef.unary (rf ⟨S64, .i32⟩ 46) (rf ⟨S1x64, .i32⟩ 47) (broadcastInDim S1x64 ![1] bcast_S64_S1x64_1)]

/-- One step: the best mode, the scores of the modes near it damped, its own score struck out. -/
def stepOps (k : Fin 6) : List (HloOp τ sig (Elt F)) :=
  [TRef.nullary (st ⟨S32x64x64, .i32⟩ k 0) (iotaInDim S32x64x64 32 2),
   TRef.nullary (st ⟨S_, .f32⟩ k 1) (constant S_ .f32 0xFF800000#32),
   TRef.nullary (st ⟨S_, .i32⟩ k 2) (constantI S_ 32 0#32),
   TRef.quaternary (inp k) (st ⟨S32x64x64, .i32⟩ k 0) (st ⟨S_, .f32⟩ k 1) (st ⟨S_, .i32⟩ k 2) (st ⟨S32x64, .f32⟩ k 3) (fun x y u v j => (Host.argReduce reducer_argmax_f32_i32 x y u v reducesTo_S32x64x64_S32x64_d2 h_S_ j).1),
   TRef.quaternary (inp k) (st ⟨S32x64x64, .i32⟩ k 0) (st ⟨S_, .f32⟩ k 1) (st ⟨S_, .i32⟩ k 2) (st ⟨S32x64, .i32⟩ k 4) (fun x y u v j => (Host.argReduce reducer_argmax_f32_i32 x y u v reducesTo_S32x64x64_S32x64_d2 h_S_ j).2),
   TRef.nullary (st ⟨S_, .i32⟩ k 5) (constantI S_ 32 0#32),
   TRef.unary (st ⟨S_, .i32⟩ k 5) (st ⟨S32x1, .i32⟩ k 6) (broadcastInDim S32x1 ![] bcast_S_S32x1),
   TRef.binary (rf ⟨S32x1, .i32⟩ 45) (st ⟨S32x1, .i32⟩ k 6) (st ⟨S32x1, .i1⟩ k 7) (cmpi .slt),
   TRef.nullary (st ⟨S_, .i32⟩ k 8) (constantI S_ 32 32#32),
   TRef.unary (st ⟨S_, .i32⟩ k 8) (st ⟨S32x1, .i32⟩ k 9) (broadcastInDim S32x1 ![] bcast_S_S32x1),
   TRef.binary (rf ⟨S32x1, .i32⟩ 45) (st ⟨S32x1, .i32⟩ k 9) (st ⟨S32x1, .i32⟩ k 10) addi,
   TRef.ternary (st ⟨S32x1, .i1⟩ k 7) (st ⟨S32x1, .i32⟩ k 10) (rf ⟨S32x1, .i32⟩ 45) (st ⟨S32x1, .i32⟩ k 11) select,
   TRef.nullary (st ⟨S_, .i32⟩ k 12) (constantI S_ 32 0#32),
   TRef.unary (st ⟨S_, .i32⟩ k 12) (st ⟨S1x64, .i32⟩ k 13) (broadcastInDim S1x64 ![] bcast_S_S1x64),
   TRef.binary (rf ⟨S1x64, .i32⟩ 47) (st ⟨S1x64, .i32⟩ k 13) (st ⟨S1x64, .i1⟩ k 14) (cmpi .slt),
   TRef.nullary (st ⟨S_, .i32⟩ k 15) (constantI S_ 32 64#32),
   TRef.unary (st ⟨S_, .i32⟩ k 15) (st ⟨S1x64, .i32⟩ k 16) (broadcastInDim S1x64 ![] bcast_S_S1x64),
   TRef.binary (rf ⟨S1x64, .i32⟩ 47) (st ⟨S1x64, .i32⟩ k 16) (st ⟨S1x64, .i32⟩ k 17) addi,
   TRef.ternary (st ⟨S1x64, .i1⟩ k 14) (st ⟨S1x64, .i32⟩ k 17) (rf ⟨S1x64, .i32⟩ 47) (st ⟨S1x64, .i32⟩ k 18) select,
   TRef.nullary (st ⟨S_, .i32⟩ k 19) (constantI S_ 32 0#32),
   TRef.unary (st ⟨S_, .i32⟩ k 19) (st ⟨S32x64, .i32⟩ k 20) (broadcastInDim S32x64 ![] bcast_S_S32x64),
   TRef.binary (st ⟨S32x64, .i32⟩ k 4) (st ⟨S32x64, .i32⟩ k 20) (st ⟨S32x64, .i1⟩ k 21) (cmpi .slt),
   TRef.nullary (st ⟨S_, .i32⟩ k 22) (constantI S_ 32 64#32),
   TRef.unary (st ⟨S_, .i32⟩ k 22) (st ⟨S32x64, .i32⟩ k 23) (broadcastInDim S32x64 ![] bcast_S_S32x64),
   TRef.binary (st ⟨S32x64, .i32⟩ k 4) (st ⟨S32x64, .i32⟩ k 23) (st ⟨S32x64, .i32⟩ k 24) addi,
   TRef.ternary (st ⟨S32x64, .i1⟩ k 21) (st ⟨S32x64, .i32⟩ k 24) (st ⟨S32x64, .i32⟩ k 4) (st ⟨S32x64, .i32⟩ k 25) select,
   TRef.unary (st ⟨S32x1, .i32⟩ k 11) (st ⟨S32x64, .i32⟩ k 26) (broadcastInDim S32x64 ![0, 1] bcast_S32x1_S32x64_0_1),
   TRef.unary (st ⟨S1x64, .i32⟩ k 18) (st ⟨S32x64, .i32⟩ k 27) (broadcastInDim S32x64 ![0, 1] bcast_S1x64_S32x64_0_1),
   TRef.unary (st ⟨S32x64, .i32⟩ k 26) (st ⟨S32x64x1, .i32⟩ k 28) (broadcastInDim S32x64x1 ![0, 1] bcast_S32x64_S32x64x1_0_1),
   TRef.unary (st ⟨S32x64, .i32⟩ k 27) (st ⟨S32x64x1, .i32⟩ k 29) (broadcastInDim S32x64x1 ![0, 1] bcast_S32x64_S32x64x1_0_1),
   TRef.unary (st ⟨S32x64, .i32⟩ k 25) (st ⟨S32x64x1, .i32⟩ k 30) (broadcastInDim S32x64x1 ![0, 1] bcast_S32x64_S32x64x1_0_1),
   cat3 (st ⟨S32x64x1, .i32⟩ k 28) (st ⟨S32x64x1, .i32⟩ k 29) (st ⟨S32x64x1, .i32⟩ k 30) (st ⟨S32x64x3, .i32⟩ k 31) (fun a b c => concatenate S32x64x3 2 [⟨S32x64x1, a⟩, ⟨S32x64x1, b⟩, ⟨S32x64x1, c⟩] concatenates_S32x64x1_S32x64x1_S32x64x1_S32x64x3_d2),
   TRef.binary (rf ⟨S32x64x64x64, .i1⟩ 43) (st ⟨S32x64x3, .i32⟩ k 31) (st ⟨S32x64x64, .i1⟩ k 32) (fun x i => Host.gather gather_S32x64x64x64_S32x64x3_S32x64x64_2_012_n_n_012_2_11164 x i),
   TRef.unary (st ⟨S32x64x64, .i1⟩ k 32) (st ⟨S32x64x64, .i1⟩ k 33) noti,
   TRef.unary (st ⟨S32x64x64, .i1⟩ k 33) (st ⟨S32x64x64, .f32⟩ k 34) (uitofp .f32),
   TRef.nullary (st ⟨S_, .f32⟩ k 35) (constant S_ .f32 0x3F7D70A4#32),
   TRef.unary (st ⟨S_, .f32⟩ k 35) (st ⟨S32x64x64, .f32⟩ k 36) (broadcastInDim S32x64x64 ![] bcast_S_S32x64x64),
   TRef.binary (st ⟨S32x64x64, .f32⟩ k 34) (st ⟨S32x64x64, .f32⟩ k 36) (st ⟨S32x64x64, .f32⟩ k 37) mulf,
   TRef.nullary (st ⟨S_, .f32⟩ k 38) (constant S_ .f32 0x3C23D70A#32),
   TRef.unary (st ⟨S_, .f32⟩ k 38) (st ⟨S32x64x64, .f32⟩ k 39) (broadcastInDim S32x64x64 ![] bcast_S_S32x64x64),
   TRef.binary (st ⟨S32x64x64, .f32⟩ k 37) (st ⟨S32x64x64, .f32⟩ k 39) (st ⟨S32x64x64, .f32⟩ k 40) addf,
   TRef.binary (inp k) (st ⟨S32x64x64, .f32⟩ k 40) (st ⟨S32x64x64, .f32⟩ k 41) mulf,
   TRef.nullary (st ⟨S_, .i32⟩ k 42) (constantI S_ 32 0#32),
   TRef.unary (st ⟨S_, .i32⟩ k 42) (st ⟨S32x1, .i32⟩ k 43) (broadcastInDim S32x1 ![] bcast_S_S32x1),
   TRef.binary (rf ⟨S32x1, .i32⟩ 45) (st ⟨S32x1, .i32⟩ k 43) (st ⟨S32x1, .i1⟩ k 44) (cmpi .slt),
   TRef.nullary (st ⟨S_, .i32⟩ k 45) (constantI S_ 32 32#32),
   TRef.unary (st ⟨S_, .i32⟩ k 45) (st ⟨S32x1, .i32⟩ k 46) (broadcastInDim S32x1 ![] bcast_S_S32x1),
   TRef.binary (rf ⟨S32x1, .i32⟩ 45) (st ⟨S32x1, .i32⟩ k 46) (st ⟨S32x1, .i32⟩ k 47) addi,
   TRef.ternary (st ⟨S32x1, .i1⟩ k 44) (st ⟨S32x1, .i32⟩ k 47) (rf ⟨S32x1, .i32⟩ 45) (st ⟨S32x1, .i32⟩ k 48) select,
   TRef.nullary (st ⟨S_, .i32⟩ k 49) (constantI S_ 32 0#32),
   TRef.unary (st ⟨S_, .i32⟩ k 49) (st ⟨S1x64, .i32⟩ k 50) (broadcastInDim S1x64 ![] bcast_S_S1x64),
   TRef.binary (rf ⟨S1x64, .i32⟩ 47) (st ⟨S1x64, .i32⟩ k 50) (st ⟨S1x64, .i1⟩ k 51) (cmpi .slt),
   TRef.nullary (st ⟨S_, .i32⟩ k 52) (constantI S_ 32 64#32),
   TRef.unary (st ⟨S_, .i32⟩ k 52) (st ⟨S1x64, .i32⟩ k 53) (broadcastInDim S1x64 ![] bcast_S_S1x64),
   TRef.binary (rf ⟨S1x64, .i32⟩ 47) (st ⟨S1x64, .i32⟩ k 53) (st ⟨S1x64, .i32⟩ k 54) addi,
   TRef.ternary (st ⟨S1x64, .i1⟩ k 51) (st ⟨S1x64, .i32⟩ k 54) (rf ⟨S1x64, .i32⟩ 47) (st ⟨S1x64, .i32⟩ k 55) select,
   TRef.nullary (st ⟨S_, .i32⟩ k 56) (constantI S_ 32 0#32),
   TRef.unary (st ⟨S_, .i32⟩ k 56) (st ⟨S32x64, .i32⟩ k 57) (broadcastInDim S32x64 ![] bcast_S_S32x64),
   TRef.binary (st ⟨S32x64, .i32⟩ k 4) (st ⟨S32x64, .i32⟩ k 57) (st ⟨S32x64, .i1⟩ k 58) (cmpi .slt),
   TRef.nullary (st ⟨S_, .i32⟩ k 59) (constantI S_ 32 64#32),
   TRef.unary (st ⟨S_, .i32⟩ k 59) (st ⟨S32x64, .i32⟩ k 60) (broadcastInDim S32x64 ![] bcast_S_S32x64),
   TRef.binary (st ⟨S32x64, .i32⟩ k 4) (st ⟨S32x64, .i32⟩ k 60) (st ⟨S32x64, .i32⟩ k 61) addi,
   TRef.ternary (st ⟨S32x64, .i1⟩ k 58) (st ⟨S32x64, .i32⟩ k 61) (st ⟨S32x64, .i32⟩ k 4) (st ⟨S32x64, .i32⟩ k 62) select,
   TRef.unary (st ⟨S32x1, .i32⟩ k 48) (st ⟨S32x64, .i32⟩ k 63) (broadcastInDim S32x64 ![0, 1] bcast_S32x1_S32x64_0_1),
   TRef.unary (st ⟨S1x64, .i32⟩ k 55) (st ⟨S32x64, .i32⟩ k 64) (broadcastInDim S32x64 ![0, 1] bcast_S1x64_S32x64_0_1),
   TRef.unary (st ⟨S32x64, .i32⟩ k 63) (st ⟨S32x64x1, .i32⟩ k 65) (broadcastInDim S32x64x1 ![0, 1] bcast_S32x64_S32x64x1_0_1),
   TRef.unary (st ⟨S32x64, .i32⟩ k 64) (st ⟨S32x64x1, .i32⟩ k 66) (broadcastInDim S32x64x1 ![0, 1] bcast_S32x64_S32x64x1_0_1),
   TRef.unary (st ⟨S32x64, .i32⟩ k 62) (st ⟨S32x64x1, .i32⟩ k 67) (broadcastInDim S32x64x1 ![0, 1] bcast_S32x64_S32x64x1_0_1),
   cat3 (st ⟨S32x64x1, .i32⟩ k 65) (st ⟨S32x64x1, .i32⟩ k 66) (st ⟨S32x64x1, .i32⟩ k 67) (st ⟨S32x64x3, .i32⟩ k 68) (fun a b c => concatenate S32x64x3 2 [⟨S32x64x1, a⟩, ⟨S32x64x1, b⟩, ⟨S32x64x1, c⟩] concatenates_S32x64x1_S32x64x1_S32x64x1_S32x64x3_d2),
   TRef.nullary (st ⟨S_, .f32⟩ k 69) (constant S_ .f32 0xBF800000#32),
   TRef.unary (st ⟨S_, .f32⟩ k 69) (st ⟨S32x64, .f32⟩ k 70) (broadcastInDim S32x64 ![] bcast_S_S32x64),
   TRef.ternary (st ⟨S32x64x64, .f32⟩ k 41) (st ⟨S32x64x3, .i32⟩ k 68) (st ⟨S32x64, .f32⟩ k 70) (st ⟨S32x64x64, .f32⟩ k 71) (fun x i u => Host.scatter scatter_S32x64x64_S32x64x3_S32x64_n_012_012_2 (fun _ b => b) x i u)]

/-- After the steps: the six modes' scores and trajectories gathered, the scores' softmax, the results. -/
def postOps : List (HloOp τ sig (Elt F)) :=
  [TRef.unary (rf ⟨S32x64, .i32⟩ 52) (rf ⟨S32x64x1, .i32⟩ 480) (broadcastInDim S32x64x1 ![0, 1] bcast_S32x64_S32x64x1_0_1),
   TRef.unary (rf ⟨S32x64, .i32⟩ 124) (rf ⟨S32x64x1, .i32⟩ 481) (broadcastInDim S32x64x1 ![0, 1] bcast_S32x64_S32x64x1_0_1),
   TRef.unary (rf ⟨S32x64, .i32⟩ 196) (rf ⟨S32x64x1, .i32⟩ 482) (broadcastInDim S32x64x1 ![0, 1] bcast_S32x64_S32x64x1_0_1),
   TRef.unary (rf ⟨S32x64, .i32⟩ 268) (rf ⟨S32x64x1, .i32⟩ 483) (broadcastInDim S32x64x1 ![0, 1] bcast_S32x64_S32x64x1_0_1),
   TRef.unary (rf ⟨S32x64, .i32⟩ 340) (rf ⟨S32x64x1, .i32⟩ 484) (broadcastInDim S32x64x1 ![0, 1] bcast_S32x64_S32x64x1_0_1),
   TRef.unary (rf ⟨S32x64, .i32⟩ 412) (rf ⟨S32x64x1, .i32⟩ 485) (broadcastInDim S32x64x1 ![0, 1] bcast_S32x64_S32x64x1_0_1),
   cat6 (rf ⟨S32x64x1, .i32⟩ 480) (rf ⟨S32x64x1, .i32⟩ 481) (rf ⟨S32x64x1, .i32⟩ 482) (rf ⟨S32x64x1, .i32⟩ 483) (rf ⟨S32x64x1, .i32⟩ 484) (rf ⟨S32x64x1, .i32⟩ 485) (rf ⟨S32x64x6, .i32⟩ 486) (fun a b c d e g => concatenate S32x64x6 2 [⟨S32x64x1, a⟩, ⟨S32x64x1, b⟩, ⟨S32x64x1, c⟩, ⟨S32x64x1, d⟩, ⟨S32x64x1, e⟩, ⟨S32x64x1, g⟩] concatenates_S32x64x1_S32x64x1_S32x64x1_S32x64x1_S32x64x1_S32x64x1_S32x64x6_d2),
   TRef.unary (rf ⟨S32x1, .i32⟩ 45) (rf ⟨S32x1x1, .i32⟩ 487) (broadcastInDim S32x1x1 ![0, 1] bcast_S32x1_S32x1x1_0_1),
   TRef.unary (rf ⟨S1x64, .i32⟩ 47) (rf ⟨S1x64x1, .i32⟩ 488) (broadcastInDim S1x64x1 ![0, 1] bcast_S1x64_S1x64x1_0_1),
   TRef.nullary (rf ⟨S_, .i32⟩ 489) (constantI S_ 32 0#32),
   TRef.unary (rf ⟨S_, .i32⟩ 489) (rf ⟨S32x1x1, .i32⟩ 490) (broadcastInDim S32x1x1 ![] bcast_S_S32x1x1),
   TRef.binary (rf ⟨S32x1x1, .i32⟩ 487) (rf ⟨S32x1x1, .i32⟩ 490) (rf ⟨S32x1x1, .i1⟩ 491) (cmpi .slt),
   TRef.nullary (rf ⟨S_, .i32⟩ 492) (constantI S_ 32 32#32),
   TRef.unary (rf ⟨S_, .i32⟩ 492) (rf ⟨S32x1x1, .i32⟩ 493) (broadcastInDim S32x1x1 ![] bcast_S_S32x1x1),
   TRef.binary (rf ⟨S32x1x1, .i32⟩ 487) (rf ⟨S32x1x1, .i32⟩ 493) (rf ⟨S32x1x1, .i32⟩ 494) addi,
   TRef.ternary (rf ⟨S32x1x1, .i1⟩ 491) (rf ⟨S32x1x1, .i32⟩ 494) (rf ⟨S32x1x1, .i32⟩ 487) (rf ⟨S32x1x1, .i32⟩ 495) select,
   TRef.nullary (rf ⟨S_, .i32⟩ 496) (constantI S_ 32 0#32),
   TRef.unary (rf ⟨S_, .i32⟩ 496) (rf ⟨S1x64x1, .i32⟩ 497) (broadcastInDim S1x64x1 ![] bcast_S_S1x64x1),
   TRef.binary (rf ⟨S1x64x1, .i32⟩ 488) (rf ⟨S1x64x1, .i32⟩ 497) (rf ⟨S1x64x1, .i1⟩ 498) (cmpi .slt),
   TRef.nullary (rf ⟨S_, .i32⟩ 499) (constantI S_ 32 64#32),
   TRef.unary (rf ⟨S_, .i32⟩ 499) (rf ⟨S1x64x1, .i32⟩ 500) (broadcastInDim S1x64x1 ![] bcast_S_S1x64x1),
   TRef.binary (rf ⟨S1x64x1, .i32⟩ 488) (rf ⟨S1x64x1, .i32⟩ 500) (rf ⟨S1x64x1, .i32⟩ 501) addi,
   TRef.ternary (rf ⟨S1x64x1, .i1⟩ 498) (rf ⟨S1x64x1, .i32⟩ 501) (rf ⟨S1x64x1, .i32⟩ 488) (rf ⟨S1x64x1, .i32⟩ 502) select,
   TRef.nullary (rf ⟨S_, .i32⟩ 503) (constantI S_ 32 0#32),
   TRef.unary (rf ⟨S_, .i32⟩ 503) (rf ⟨S32x64x6, .i32⟩ 504) (broadcastInDim S32x64x6 ![] bcast_S_S32x64x6),
   TRef.binary (rf ⟨S32x64x6, .i32⟩ 486) (rf ⟨S32x64x6, .i32⟩ 504) (rf ⟨S32x64x6, .i1⟩ 505) (cmpi .slt),
   TRef.nullary (rf ⟨S_, .i32⟩ 506) (constantI S_ 32 64#32),
   TRef.unary (rf ⟨S_, .i32⟩ 506) (rf ⟨S32x64x6, .i32⟩ 507) (broadcastInDim S32x64x6 ![] bcast_S_S32x64x6),
   TRef.binary (rf ⟨S32x64x6, .i32⟩ 486) (rf ⟨S32x64x6, .i32⟩ 507) (rf ⟨S32x64x6, .i32⟩ 508) addi,
   TRef.ternary (rf ⟨S32x64x6, .i1⟩ 505) (rf ⟨S32x64x6, .i32⟩ 508) (rf ⟨S32x64x6, .i32⟩ 486) (rf ⟨S32x64x6, .i32⟩ 509) select,
   TRef.unary (rf ⟨S32x1x1, .i32⟩ 495) (rf ⟨S32x64x6, .i32⟩ 510) (broadcastInDim S32x64x6 ![0, 1, 2] bcast_S32x1x1_S32x64x6_0_1_2),
   TRef.unary (rf ⟨S1x64x1, .i32⟩ 502) (rf ⟨S32x64x6, .i32⟩ 511) (broadcastInDim S32x64x6 ![0, 1, 2] bcast_S1x64x1_S32x64x6_0_1_2),
   TRef.unary (rf ⟨S32x64x6, .i32⟩ 510) (rf ⟨S32x64x6x1, .i32⟩ 512) (broadcastInDim S32x64x6x1 ![0, 1, 2] bcast_S32x64x6_S32x64x6x1_0_1_2),
   TRef.unary (rf ⟨S32x64x6, .i32⟩ 511) (rf ⟨S32x64x6x1, .i32⟩ 513) (broadcastInDim S32x64x6x1 ![0, 1, 2] bcast_S32x64x6_S32x64x6x1_0_1_2),
   TRef.unary (rf ⟨S32x64x6, .i32⟩ 509) (rf ⟨S32x64x6x1, .i32⟩ 514) (broadcastInDim S32x64x6x1 ![0, 1, 2] bcast_S32x64x6_S32x64x6x1_0_1_2),
   cat3 (rf ⟨S32x64x6x1, .i32⟩ 512) (rf ⟨S32x64x6x1, .i32⟩ 513) (rf ⟨S32x64x6x1, .i32⟩ 514) (rf ⟨S32x64x6x3, .i32⟩ 515) (fun a b c => concatenate S32x64x6x3 3 [⟨S32x64x6x1, a⟩, ⟨S32x64x6x1, b⟩, ⟨S32x64x6x1, c⟩] concatenates_S32x64x6x1_S32x64x6x1_S32x64x6x1_S32x64x6x3_d3),
   TRef.binary (rf ⟨S32x64x64x80x4, .f32⟩ 2) (rf ⟨S32x64x6x3, .i32⟩ 515) (rf ⟨S32x64x6x80x4, .f32⟩ 516) (fun x i => Host.gather gather_S32x64x64x80x4_S32x64x6x3_S32x64x6x80x4_34_012_n_n_012_3_111804 x i),
   TRef.nullary (rf ⟨S_, .i32⟩ 517) (constantI S_ 32 0#32),
   TRef.unary (rf ⟨S_, .i32⟩ 517) (rf ⟨S32x1x1, .i32⟩ 518) (broadcastInDim S32x1x1 ![] bcast_S_S32x1x1),
   TRef.binary (rf ⟨S32x1x1, .i32⟩ 487) (rf ⟨S32x1x1, .i32⟩ 518) (rf ⟨S32x1x1, .i1⟩ 519) (cmpi .slt),
   TRef.nullary (rf ⟨S_, .i32⟩ 520) (constantI S_ 32 32#32),
   TRef.unary (rf ⟨S_, .i32⟩ 520) (rf ⟨S32x1x1, .i32⟩ 521) (broadcastInDim S32x1x1 ![] bcast_S_S32x1x1),
   TRef.binary (rf ⟨S32x1x1, .i32⟩ 487) (rf ⟨S32x1x1, .i32⟩ 521) (rf ⟨S32x1x1, .i32⟩ 522) addi,
   TRef.ternary (rf ⟨S32x1x1, .i1⟩ 519) (rf ⟨S32x1x1, .i32⟩ 522) (rf ⟨S32x1x1, .i32⟩ 487) (rf ⟨S32x1x1, .i32⟩ 523) select,
   TRef.nullary (rf ⟨S_, .i32⟩ 524) (constantI S_ 32 0#32),
   TRef.unary (rf ⟨S_, .i32⟩ 524) (rf ⟨S1x64x1, .i32⟩ 525) (broadcastInDim S1x64x1 ![] bcast_S_S1x64x1),
   TRef.binary (rf ⟨S1x64x1, .i32⟩ 488) (rf ⟨S1x64x1, .i32⟩ 525) (rf ⟨S1x64x1, .i1⟩ 526) (cmpi .slt),
   TRef.nullary (rf ⟨S_, .i32⟩ 527) (constantI S_ 32 64#32),
   TRef.unary (rf ⟨S_, .i32⟩ 527) (rf ⟨S1x64x1, .i32⟩ 528) (broadcastInDim S1x64x1 ![] bcast_S_S1x64x1),
   TRef.binary (rf ⟨S1x64x1, .i32⟩ 488) (rf ⟨S1x64x1, .i32⟩ 528) (rf ⟨S1x64x1, .i32⟩ 529) addi,
   TRef.ternary (rf ⟨S1x64x1, .i1⟩ 526) (rf ⟨S1x64x1, .i32⟩ 529) (rf ⟨S1x64x1, .i32⟩ 488) (rf ⟨S1x64x1, .i32⟩ 530) select,
   TRef.nullary (rf ⟨S_, .i32⟩ 531) (constantI S_ 32 0#32),
   TRef.unary (rf ⟨S_, .i32⟩ 531) (rf ⟨S32x64x6, .i32⟩ 532) (broadcastInDim S32x64x6 ![] bcast_S_S32x64x6),
   TRef.binary (rf ⟨S32x64x6, .i32⟩ 486) (rf ⟨S32x64x6, .i32⟩ 532) (rf ⟨S32x64x6, .i1⟩ 533) (cmpi .slt),
   TRef.nullary (rf ⟨S_, .i32⟩ 534) (constantI S_ 32 64#32),
   TRef.unary (rf ⟨S_, .i32⟩ 534) (rf ⟨S32x64x6, .i32⟩ 535) (broadcastInDim S32x64x6 ![] bcast_S_S32x64x6),
   TRef.binary (rf ⟨S32x64x6, .i32⟩ 486) (rf ⟨S32x64x6, .i32⟩ 535) (rf ⟨S32x64x6, .i32⟩ 536) addi,
   TRef.ternary (rf ⟨S32x64x6, .i1⟩ 533) (rf ⟨S32x64x6, .i32⟩ 536) (rf ⟨S32x64x6, .i32⟩ 486) (rf ⟨S32x64x6, .i32⟩ 537) select,
   TRef.unary (rf ⟨S32x1x1, .i32⟩ 523) (rf ⟨S32x64x6, .i32⟩ 538) (broadcastInDim S32x64x6 ![0, 1, 2] bcast_S32x1x1_S32x64x6_0_1_2),
   TRef.unary (rf ⟨S1x64x1, .i32⟩ 530) (rf ⟨S32x64x6, .i32⟩ 539) (broadcastInDim S32x64x6 ![0, 1, 2] bcast_S1x64x1_S32x64x6_0_1_2),
   TRef.unary (rf ⟨S32x64x6, .i32⟩ 538) (rf ⟨S32x64x6x1, .i32⟩ 540) (broadcastInDim S32x64x6x1 ![0, 1, 2] bcast_S32x64x6_S32x64x6x1_0_1_2),
   TRef.unary (rf ⟨S32x64x6, .i32⟩ 539) (rf ⟨S32x64x6x1, .i32⟩ 541) (broadcastInDim S32x64x6x1 ![0, 1, 2] bcast_S32x64x6_S32x64x6x1_0_1_2),
   TRef.unary (rf ⟨S32x64x6, .i32⟩ 537) (rf ⟨S32x64x6x1, .i32⟩ 542) (broadcastInDim S32x64x6x1 ![0, 1, 2] bcast_S32x64x6_S32x64x6x1_0_1_2),
   cat3 (rf ⟨S32x64x6x1, .i32⟩ 540) (rf ⟨S32x64x6x1, .i32⟩ 541) (rf ⟨S32x64x6x1, .i32⟩ 542) (rf ⟨S32x64x6x3, .i32⟩ 543) (fun a b c => concatenate S32x64x6x3 3 [⟨S32x64x6x1, a⟩, ⟨S32x64x6x1, b⟩, ⟨S32x64x6x1, c⟩] concatenates_S32x64x6x1_S32x64x6x1_S32x64x6x1_S32x64x6x3_d3),
   TRef.binary (rf ⟨S32x64x64, .f32⟩ 8) (rf ⟨S32x64x6x3, .i32⟩ 543) (rf ⟨S32x64x6, .f32⟩ 544) (fun x i => Host.gather gather_S32x64x64_S32x64x6x3_S32x64x6_n_012_n_n_012_3_111 x i),
   TRef.nullary (rf ⟨S_, .f32⟩ 545) (constant S_ .f32 0x00000000#32),
   TRef.binary (rf ⟨S32x64x6, .f32⟩ 544) (rf ⟨S_, .f32⟩ 545) (rf ⟨S32x64, .f32⟩ 546) (fun x v => Host.reduceAdd x v reducesTo_S32x64x6_S32x64_d2 h_S_),
   TRef.unary (rf ⟨S32x64, .f32⟩ 546) (rf ⟨S32x64x1, .f32⟩ 547) (broadcastInDim S32x64x1 ![0, 1] bcast_S32x64_S32x64x1_0_1),
   TRef.unary (rf ⟨S32x64x1, .f32⟩ 547) (rf ⟨S32x64x6, .f32⟩ 548) (broadcastInDim S32x64x6 ![0, 1, 2] bcast_S32x64x1_S32x64x6_0_1_2),
   TRef.binary (rf ⟨S32x64x6, .f32⟩ 544) (rf ⟨S32x64x6, .f32⟩ 548) (rf ⟨S32x64x6, .f32⟩ 549) (Host.divf),
   TRef.unary (rf ⟨S32x64x6, .f32⟩ 549) (rf ⟨S32x64x6, .f32⟩ 550) (Host.log),
   TRef.nullary (rf ⟨S_, .f32⟩ 551) (constant S_ .f32 0x3F000000#32),
   TRef.unary (rf ⟨S_, .f32⟩ 551) (rf ⟨S32x64x6, .f32⟩ 552) (broadcastInDim S32x64x6 ![] bcast_S_S32x64x6),
   TRef.binary (rf ⟨S32x64x6, .f32⟩ 550) (rf ⟨S32x64x6, .f32⟩ 552) (rf ⟨S32x64x6, .f32⟩ 553) (Host.divf),
   TRef.nullary (rf ⟨S_, .f32⟩ 554) (constant S_ .f32 0xFF800000#32),
   TRef.binary (rf ⟨S32x64x6, .f32⟩ 553) (rf ⟨S_, .f32⟩ 554) (rf ⟨S32x64, .f32⟩ 555) (fun x v => Host.reduce FloatOps.maximumf x v reducesTo_S32x64x6_S32x64_d2 h_S_),
   TRef.nullary (rf ⟨S_, .f32⟩ 556) (constant S_ .f32 0xFF800000#32),
   TRef.unary (rf ⟨S_, .f32⟩ 556) (rf ⟨S32x64, .f32⟩ 557) (broadcastInDim S32x64 ![] bcast_S_S32x64),
   TRef.binary (rf ⟨S32x64, .f32⟩ 557) (rf ⟨S32x64, .f32⟩ 555) (rf ⟨S32x64, .f32⟩ 558) maximumf,
   TRef.unary (rf ⟨S32x64, .f32⟩ 558) (rf ⟨S32x64x1, .f32⟩ 559) (broadcastInDim S32x64x1 ![0, 1] bcast_S32x64_S32x64x1_0_1),
   TRef.unary (rf ⟨S32x64x1, .f32⟩ 559) (rf ⟨S32x64x6, .f32⟩ 560) (broadcastInDim S32x64x6 ![0, 1, 2] bcast_S32x64x1_S32x64x6_0_1_2),
   TRef.binary (rf ⟨S32x64x6, .f32⟩ 553) (rf ⟨S32x64x6, .f32⟩ 560) (rf ⟨S32x64x6, .f32⟩ 561) subf,
   TRef.unary (rf ⟨S32x64x6, .f32⟩ 561) (rf ⟨S32x64x6, .f32⟩ 562) (Host.exp),
   TRef.nullary (rf ⟨S_, .f32⟩ 563) (constant S_ .f32 0x00000000#32),
   TRef.binary (rf ⟨S32x64x6, .f32⟩ 562) (rf ⟨S_, .f32⟩ 563) (rf ⟨S32x64, .f32⟩ 564) (fun x v => Host.reduceAdd x v reducesTo_S32x64x6_S32x64_d2 h_S_),
   TRef.unary (rf ⟨S32x64, .f32⟩ 564) (rf ⟨S32x64x1, .f32⟩ 565) (broadcastInDim S32x64x1 ![0, 1] bcast_S32x64_S32x64x1_0_1),
   TRef.unary (rf ⟨S32x64x1, .f32⟩ 565) (rf ⟨S32x64x6, .f32⟩ 566) (broadcastInDim S32x64x6 ![0, 1, 2] bcast_S32x64x1_S32x64x6_0_1_2),
   TRef.binary (rf ⟨S32x64x6, .f32⟩ 562) (rf ⟨S32x64x6, .f32⟩ 566) (rf ⟨S32x64x6, .f32⟩ 567) (Host.divf),
   TRef.unary (rf ⟨S32x64x6x80x4, .f32⟩ 516) (rf ⟨S32x80x64x6x4, .f32⟩ 568) (transpose S32x80x64x6x4 [0, 3, 1, 2, 4] · transposes_S32x64x6x80x4_S32x80x64x6x4_0_3_1_2_4),
   TRef.unary (rf ⟨S32x80x64x6x4, .f32⟩ 568) (rf ⟨S32x80x64x6x2, .f32⟩ 569) (extractStridedSlice S32x80x64x6x2 ![0, 0, 0, 0, 0] · slices_S32x80x64x6x4_S32x80x64x6x2_0_0_0_0_0),
   TRef.unary (rf ⟨S32x80x64x6x4, .f32⟩ 568) (rf ⟨S32x80x64x6x1, .f32⟩ 570) (extractStridedSlice S32x80x64x6x1 ![0, 0, 0, 0, 2] · slices_S32x80x64x6x4_S32x80x64x6x1_0_0_0_0_2),
   TRef.unary (rf ⟨S32x80x64x6x4, .f32⟩ 568) (rf ⟨S32x80x64x6x1, .f32⟩ 571) (extractStridedSlice S32x80x64x6x1 ![0, 0, 0, 0, 3] · slices_S32x80x64x6x4_S32x80x64x6x1_0_0_0_0_3),
   TRef.unary (rf ⟨S32x64, .i1⟩ 0) (rf ⟨S32x1x64, .i1⟩ 572) (broadcastInDim S32x1x64 ![0, 2] bcast_S32x64_S32x1x64_0_2),
   TRef.unary (rf ⟨S32x1x64, .i1⟩ 572) (rf ⟨S32x80x64, .i1⟩ 573) (broadcastInDim S32x80x64 ![0, 1, 2] bcast_S32x1x64_S32x80x64_0_1_2)]

/-- The whole program. -/
def allOps : List (HloOp τ sig (Elt F)) :=
  preOps ++ stepOps 0 ++ stepOps 1 ++ stepOps 2 ++ stepOps 3 ++ stepOps 4 ++ stepOps 5 ++ postOps

end Cert.Proof.R

end
-- ==== Proof.Settled.lean ====
/-
  A line of operations that writes each value once, after what it is computed from: at its end every operation's
  result is what it computes from the final contents.
-/
module

public import proofs.«01_k».proof.Proof.RefOps

@[expose] public section

noncomputable section

namespace Cert.Proof.R

open Cert.ReferenceIdeal Cert.ReferenceIdeal.Gen
open Idealize.ShloMosaic Idealize.ShloMosaic.StableHlo Idealize.SL.Sem

variable {F : FTy → Type} [FloatOps F]

/-- The number of a buffer. -/
def key (b : DevRef τ sig) : ℕ := b.idx.val

/-- From the number `n` on, each operation writes the next number and reads none beyond it; it acts on tensor values
    and allocates nothing. -/
def Ordered : ℕ → List (HloOp τ sig (Elt F)) → Prop
  | _, [] => True
  | n, op :: ops => ((∀ b ∈ op.writes, key b = n) ∧ (∀ b ∈ op.bufs, key b ≤ n) ∧ op.bufs ⊆ tcRefs τ sig ∧ op.fresh = ∅) ∧ Ordered (n + 1) ops

/-- The final contents settle an operation: what it wrote is its result of contents that agree with the final ones
    wherever it reads. -/
def Settled (V : Valuation τ sig (Elt F)) (op : HloOp τ sig (Elt F)) : Prop :=
  ∃ V' : Valuation τ sig (Elt F), (∀ b ∈ op.bufs, b ∉ op.writes → V' b = V b) ∧ ∀ b ∈ op.writes, V b = op.result V' b

/-- What lies below the numbers written stays. -/
theorem after_below : ∀ (n : ℕ) (l : List (HloOp τ sig (Elt F))) (V : Valuation τ sig (Elt F)), Ordered n l → ∀ b, key b < n → after l V b = V b
  | _, [], _, _, _, _ => rfl
  | n, op :: ops, V, h, b, hb => by
    rw [after_cons, after_below (n + 1) ops _ h.2 b (by omega), op.result_of_not_mem V fun hm => by have := h.1.1 b hm; omega]

theorem settled_of_ordered : ∀ (n : ℕ) (l : List (HloOp τ sig (Elt F))) (V : Valuation τ sig (Elt F)), Ordered n l → ∀ op ∈ l, Settled (after l V) op
  | n, op :: ops, V, h, o, ho => by
    rcases List.mem_cons.1 ho with rfl | ho
    · refine ⟨V, fun b hb hw => ?_, fun b hb => ?_⟩
      · rw [after_cons, after_below (n + 1) ops _ h.2 b (by have := h.1.2.1 b hb; omega), o.result_of_not_mem V hw]
      · rw [after_cons, after_below (n + 1) ops _ h.2 b (by have := h.1.1 b hb; omega)]
    · exact settled_of_ordered (n + 1) ops (op.result V) h.2 o ho

/-! ## The program's own line is so ordered -/

theorem ordered_append : ∀ (n : ℕ) (l l' : List (HloOp τ sig (Elt F))), Ordered n l → Ordered (n + l.length) l' → Ordered n (l ++ l')
  | _, [], _, _, h => h
  | n, op :: ops, l', h, h' => ⟨h.1, ordered_append (n + 1) ops l' h.2 (by rw [Nat.add_assoc, Nat.add_comm 1]; exact h')⟩

/-- The number of a value. -/
def num {T : BufTy} (x : TRef sig T) : ℕ := x.ref.idx.val

theorem num_rf (T : BufTy) (n : ℕ) (h : Ok T n) : num (rf T n h) = n := rfl
theorem num_st (T : BufTy) (k : Fin 6) (i : ℕ) (h) : num (st T k i h) = 48 + 72 * k.val + i := rfl
theorem num_inp (k : Fin 6) : num (inp k) ≤ 47 + 72 * k.val := by
  show inpN k ≤ _; unfold inpN; split <;> omega

theorem key_num {T : BufTy} (x : TRef sig T) : key (Proc.devRef .tc x.ref) = num x := rfl

section

variable {T Ta Tb Tc Te U : BufTy} {x : TRef sig T} {a : TRef sig Ta} {b : TRef sig Tb} {c : TRef sig Tc} {e : TRef sig Te} {y : TRef sig U}
  {n : ℕ} {l : List (HloOp τ sig (Elt F))}

theorem ord_nullary {v : U.Contents (Elt F)} (h : Ordered (n + 1) l) (hy : num y = n) : Ordered n (TRef.nullary y v :: l) := by
  exact ⟨⟨by simp [key, num] at *; omega, by simp [StableHlo.nullary_bufs, key, num] at *; omega, StableHlo.nullary_bufs_sub .., rfl⟩, h⟩

theorem ord_unary {f : T.Contents (Elt F) → U.Contents (Elt F)} (h : Ordered (n + 1) l) (hy : num y = n) (hx : num x ≤ n) :
    Ordered n (TRef.unary x y f :: l) := by
  exact ⟨⟨by simp [key, num] at *; omega, by simp [StableHlo.unary_bufs, key, num] at *; omega, StableHlo.unary_bufs_sub .., rfl⟩, h⟩

theorem ord_binary {f : Ta.Contents (Elt F) → Tb.Contents (Elt F) → U.Contents (Elt F)} (h : Ordered (n + 1) l) (hy : num y = n) (ha : num a ≤ n) (hb : num b ≤ n) : Ordered n (TRef.binary a b y f :: l) := by
  exact ⟨⟨by simp [key, num] at *; omega, by simp [StableHlo.binary_bufs, key, num] at *; omega, StableHlo.binary_bufs_sub .., rfl⟩, h⟩

theorem ord_ternary {f : Tc.Contents (Elt F) → Ta.Contents (Elt F) → Tb.Contents (Elt F) → U.Contents (Elt F)} (h : Ordered (n + 1) l) (hy : num y = n) (hc : num c ≤ n)
    (ha : num a ≤ n) (hb : num b ≤ n) : Ordered n (TRef.ternary c a b y f :: l) := by
  exact ⟨⟨by simp [key, num] at *; omega, by simp [StableHlo.ternary_bufs, key, num] at *; omega, StableHlo.ternary_bufs_sub .., rfl⟩, h⟩

theorem ord_quaternary {f : Ta.Contents (Elt F) → Tb.Contents (Elt F) → Tc.Contents (Elt F) → Te.Contents (Elt F) → U.Contents (Elt F)}
    (h : Ordered (n + 1) l) (hy : num y = n) (ha : num a ≤ n) (hb : num b ≤ n) (hc : num c ≤ n) (he : num e ≤ n) :
    Ordered n (TRef.quaternary a b c e y f :: l) := by
  exact ⟨⟨by simp [key, num] at *; omega, by simp [StableHlo.quaternary_bufs, key, num] at *; omega, StableHlo.quaternary_bufs_sub .., rfl⟩, h⟩

theorem ord_reshape {he : T.elt = U.elt} {hn : T.shape.ShapeCasts U.shape} (h : Ordered (n + 1) l) (hy : num y = n) (hx : num x ≤ n) :
    Ordered n (TRef.reshape (τ := τ) (Val := Elt F) x y he hn :: l) := by
  refine ⟨⟨fun r hr => by rw [Finset.mem_singleton.1 hr]; exact hy, fun r hr => ?_, StableHlo.reshape_bufs_sub .., rfl⟩, h⟩
  rcases Finset.mem_insert.1 hr with rfl | hr
  · exact hx
  · rw [Finset.mem_singleton.1 hr]; exact hy.le

theorem ord_cat3 {a b c : TRef sig T} {f} (h : Ordered (n + 1) l) (hy : num y = n) (ha : num a ≤ n) (hb : num b ≤ n) (hc : num c ≤ n) :
    Ordered n (cat3 a b c y f :: l) := by
  refine ⟨⟨fun r hr => by rw [Finset.mem_singleton.1 hr]; exact hy, fun r hr => ?_, StableHlo.nary_bufs_sub .., rfl⟩, h⟩
  rcases Finset.mem_insert.1 hr with rfl | hr
  · exact hy.le
  · obtain ⟨k, -, rfl⟩ := Finset.mem_image.1 hr
    fin_cases k; exacts [ha, hb, hc]

theorem ord_cat6 {a b c d e g : TRef sig T} {f} (h : Ordered (n + 1) l) (hy : num y = n) (ha : num a ≤ n) (hb : num b ≤ n) (hc : num c ≤ n) (hd : num d ≤ n) (he : num e ≤ n)
    (hg : num g ≤ n) : Ordered n (cat6 a b c d e g y f :: l) := by
  refine ⟨⟨fun r hr => by rw [Finset.mem_singleton.1 hr]; exact hy, fun r hr => ?_, StableHlo.nary_bufs_sub .., rfl⟩, h⟩
  rcases Finset.mem_insert.1 hr with rfl | hr
  · exact hy.le
  · obtain ⟨k, -, rfl⟩ := Finset.mem_image.1 hr
    fin_cases k; exacts [ha, hb, hc, hd, he, hg]

end

set_option maxRecDepth 10000 in
set_option maxHeartbeats 1000000 in
theorem pre_ordered : Ordered 4 (preOps (F := F)) := by
  unfold preOps
  repeat with_reducible first
    | refine ord_unary ?_ ?_ ?_ | refine ord_binary ?_ ?_ ?_ ?_ | refine ord_nullary ?_ ?_ | refine ord_reshape ?_ ?_ ?_
    | refine ord_ternary ?_ ?_ ?_ ?_ ?_ | refine ord_cat3 ?_ ?_ ?_ ?_ ?_ | refine ord_quaternary ?_ ?_ ?_ ?_ ?_ ?_ | refine ord_cat6 ?_ ?_ ?_ ?_ ?_ ?_ ?_ ?_
  · exact trivial
  all_goals try simp only [num_rf, num_st]
  all_goals try omega

set_option maxRecDepth 10000 in
set_option maxHeartbeats 1000000 in
theorem step_ordered (k : Fin 6) : Ordered (48 + 72 * k.val) (stepOps (F := F) k) := by
  have hk := num_inp k
  unfold stepOps
  repeat with_reducible first
    | refine ord_unary ?_ ?_ ?_ | refine ord_binary ?_ ?_ ?_ ?_ | refine ord_nullary ?_ ?_ | refine ord_reshape ?_ ?_ ?_
    | refine ord_ternary ?_ ?_ ?_ ?_ ?_ | refine ord_cat3 ?_ ?_ ?_ ?_ ?_ | refine ord_quaternary ?_ ?_ ?_ ?_ ?_ ?_ | refine ord_cat6 ?_ ?_ ?_ ?_ ?_ ?_ ?_ ?_
  · exact trivial
  all_goals try simp only [num_rf, num_st]
  all_goals try omega

set_option maxRecDepth 10000 in
set_option maxHeartbeats 1000000 in
theorem post_ordered : Ordered 480 (postOps (F := F)) := by
  unfold postOps
  repeat with_reducible first
    | refine ord_unary ?_ ?_ ?_ | refine ord_binary ?_ ?_ ?_ ?_ | refine ord_nullary ?_ ?_ | refine ord_reshape ?_ ?_ ?_
    | refine ord_ternary ?_ ?_ ?_ ?_ ?_ | refine ord_cat3 ?_ ?_ ?_ ?_ ?_ | refine ord_quaternary ?_ ?_ ?_ ?_ ?_ ?_ | refine ord_cat6 ?_ ?_ ?_ ?_ ?_ ?_ ?_ ?_
  · exact trivial
  all_goals try simp only [num_rf, num_st]
  all_goals try omega

set_option maxRecDepth 10000 in
theorem all_ordered : Ordered 4 (allOps (F := F)) :=
  ordered_append 4 _ _ (ordered_append 4 _ _ (ordered_append 4 _ _ (ordered_append 4 _ _ (ordered_append 4 _ _ (ordered_append 4 _ _ (ordered_append 4 _ _
    pre_ordered (step_ordered 0)) (step_ordered 1)) (step_ordered 2)) (step_ordered 3)) (step_ordered 4)) (step_ordered 5)) post_ordered

theorem tc_of_ordered : ∀ (n : ℕ) (l : List (HloOp τ sig (Elt F))), Ordered n l → ∀ op ∈ l, op.bufs ⊆ tcRefs τ sig ∧ op.fresh = ∅
  | n, op :: ops, h, o, ho => by
    rcases List.mem_cons.1 ho with rfl | ho
    · exact h.1.2.2
    · exact tc_of_ordered (n + 1) ops h.2 o ho

/-! ## Reading a settled operation -/

/-- A value's contents. -/
def val (V : Valuation τ sig (Elt F)) {T : BufTy} (x : TRef sig T) : T.Contents (Elt F) := x.ofBuf (V (Proc.devRef .tc x.ref))

variable {V : Valuation τ sig (Elt F)} {T Ta Tb Tc Te U : BufTy} {x : TRef sig T} {a : TRef sig Ta} {b : TRef sig Tb} {c : TRef sig Tc} {e : TRef sig Te} {y : TRef sig U}

theorem val_of {y : TRef sig U} {v : y.ref.ty.Contents (Elt F)} {w : U.Contents (Elt F)} (h : V (Proc.devRef .tc y.ref) = v) (hw : v = y.toBuf w) : val V y = w := by
  unfold val; rw [h, hw]; exact TRef.ofBuf_toBuf y w

theorem dne {r s : Ref sig .tc} (h : r ≠ s) : (Proc.devRef .tc r : DevRef τ sig) ∉ ({Proc.devRef .tc s} : Finset (DevRef τ sig)) :=
  fun hm => devRef_ne_of_ne h (Finset.mem_singleton.1 hm)

theorem val_nullary {v : U.Contents (Elt F)} (h : Settled V (TRef.nullary y v)) : val V y = v := by
  obtain ⟨V', -, hw⟩ := h
  exact val_of ((hw _ (Finset.mem_singleton_self _)).trans (nullary_result' _ _ _)) rfl

theorem val_unary {f : T.Contents (Elt F) → U.Contents (Elt F)} (h : Settled V (TRef.unary x y f)) (hx : x.ref ≠ y.ref) :
    val V y = f (val V x) := by
  obtain ⟨V', hr, hw⟩ := h
  refine val_of ((hw _ (Finset.mem_singleton_self _)).trans (unary_result' _ _ _ _)) ?_
  rw [hr (Proc.devRef .tc x.ref) (by simp [StableHlo.unary_bufs]) (dne hx)]; rfl

theorem val_binary {f : Ta.Contents (Elt F) → Tb.Contents (Elt F) → U.Contents (Elt F)} (h : Settled V (TRef.binary a b y f))
    (ha : a.ref ≠ y.ref) (hb : b.ref ≠ y.ref) : val V y = f (val V a) (val V b) := by
  obtain ⟨V', hr, hw⟩ := h
  refine val_of ((hw _ (Finset.mem_singleton_self _)).trans (binary_result' _ _ _ _ _)) ?_
  rw [hr (Proc.devRef .tc a.ref) (by simp [StableHlo.binary_bufs]) (dne ha), hr (Proc.devRef .tc b.ref) (by simp [StableHlo.binary_bufs]) (dne hb)]; rfl

theorem val_ternary {f : Tc.Contents (Elt F) → Ta.Contents (Elt F) → Tb.Contents (Elt F) → U.Contents (Elt F)} (h : Settled V (TRef.ternary c a b y f))
    (hc : c.ref ≠ y.ref) (ha : a.ref ≠ y.ref) (hb : b.ref ≠ y.ref) : val V y = f (val V c) (val V a) (val V b) := by
  obtain ⟨V', hr, hw⟩ := h
  refine val_of ((hw _ (Finset.mem_singleton_self _)).trans (ternary_result' _ _ _ _ _ _)) ?_
  rw [hr (Proc.devRef .tc c.ref) (by simp [StableHlo.ternary_bufs]) (dne hc), hr (Proc.devRef .tc a.ref) (by simp [StableHlo.ternary_bufs]) (dne ha),
    hr (Proc.devRef .tc b.ref) (by simp [StableHlo.ternary_bufs]) (dne hb)]; rfl

theorem val_quaternary {f : Ta.Contents (Elt F) → Tb.Contents (Elt F) → Tc.Contents (Elt F) → Te.Contents (Elt F) → U.Contents (Elt F)}
    (h : Settled V (TRef.quaternary a b c e y f))
    (ha : a.ref ≠ y.ref) (hb : b.ref ≠ y.ref) (hc : c.ref ≠ y.ref) (he : e.ref ≠ y.ref) : val V y = f (val V a) (val V b) (val V c) (val V e) := by
  obtain ⟨V', hr, hw⟩ := h
  refine val_of ((hw _ (Finset.mem_singleton_self _)).trans (quaternary_result' _ _ _ _ _ _ _)) ?_
  rw [hr (Proc.devRef .tc a.ref) (by simp [StableHlo.quaternary_bufs]) (dne ha), hr (Proc.devRef .tc b.ref) (by simp [StableHlo.quaternary_bufs]) (dne hb),
    hr (Proc.devRef .tc c.ref) (by simp [StableHlo.quaternary_bufs]) (dne hc), hr (Proc.devRef .tc e.ref) (by simp [StableHlo.quaternary_bufs]) (dne he)]; rfl

theorem val_reshape' {Tx Ty : BufTy} {x : TRef sig Tx} {y : TRef sig Ty} {he : Tx.elt = Ty.elt} {hn : Tx.shape.ShapeCasts Ty.shape}
    (h : Settled V (TRef.reshape (τ := τ) (Val := Elt F) x y he hn)) (hx : x.ref ≠ y.ref) : val V y = fun i => he ▸ shapeCast Ty.shape (val V x) hn i := by
  obtain ⟨x, hx1, hx2, hx3⟩ := x
  obtain ⟨y, hy1, hy2, hy3⟩ := y
  subst hx1; subst hy1
  obtain ⟨V', hr, hw⟩ := h
  have h1 := (hw _ (Finset.mem_singleton_self _)).trans (reshape_result' _ _ _ _ _)
  rw [hr (Proc.devRef .tc x) (by simp [StableHlo.reshape_bufs]) (dne hx)] at h1
  exact h1

theorem val_reshape {s t : Shape} {ε : EltTy} {x : TRef sig ⟨s, ε⟩} {y : TRef sig ⟨t, ε⟩} {hn : s.ShapeCasts t}
    (h : Settled V (TRef.reshape (τ := τ) (Val := Elt F) x y rfl hn)) (hx : x.ref ≠ y.ref) : val V y = shapeCast t (val V x) hn :=
  val_reshape' h hx

theorem val_cat3 {a b c : TRef sig T} {f} (h : Settled V (cat3 a b c y f)) (ha : a.ref ≠ y.ref) (hb : b.ref ≠ y.ref) (hc : c.ref ≠ y.ref) :
    val V y = f (val V a) (val V b) (val V c) := by
  obtain ⟨V', hr, hw⟩ := h
  refine val_of ((hw _ (Finset.mem_singleton_self _)).trans (nary_result' _ _ _ _ _)) ?_
  have m : ∀ k : Fin 3, (Proc.devRef .tc ((![a.ref, b.ref, c.ref] : Fin 3 → Ref sig .tc) k) : DevRef τ sig) ∈ (cat3 a b c y f).bufs := fun k =>
    Finset.mem_insert_of_mem (Finset.mem_image_of_mem _ (Finset.mem_univ k))
  have ra := hr _ (m 0) (dne ha); have rb := hr _ (m 1) (dne hb); have rc := hr _ (m 2) (dne hc)
  dsimp only at ra rb rc ⊢
  rw [ra, rb, rc]; rfl

theorem val_cat6 {a b c d e g : TRef sig T} {f} (h : Settled V (cat6 a b c d e g y f)) (ha : a.ref ≠ y.ref) (hb : b.ref ≠ y.ref) (hc : c.ref ≠ y.ref)
    (hd : d.ref ≠ y.ref) (he : e.ref ≠ y.ref) (hg : g.ref ≠ y.ref) :
    val V y = f (val V a) (val V b) (val V c) (val V d) (val V e) (val V g) := by
  obtain ⟨V', hr, hw⟩ := h
  refine val_of ((hw _ (Finset.mem_singleton_self _)).trans (nary_result' _ _ _ _ _)) ?_
  have m : ∀ k : Fin 6, (Proc.devRef .tc ((![a.ref, b.ref, c.ref, d.ref, e.ref, g.ref] : Fin 6 → Ref sig .tc) k) : DevRef τ sig) ∈ (cat6 a b c d e g y f).bufs := fun k =>
    Finset.mem_insert_of_mem (Finset.mem_image_of_mem _ (Finset.mem_univ k))
  have ra := hr _ (m 0) (dne ha); have rb := hr _ (m 1) (dne hb); have rc := hr _ (m 2) (dne hc)
  have rd := hr _ (m 3) (dne hd); have re := hr _ (m 4) (dne he); have rg := hr _ (m 5) (dne hg)
  dsimp only at ra rb rc rd re rg ⊢
  rw [ra, rb, rc, rd, re, rg]; rfl

end Cert.Proof.R

end
-- ==== Proof.RefRun.lean ====
/-
  The reference's run: its program is the list of operations, each value is written once and after what it is
  computed from, so at the end every value is its operation's result of the final contents.
-/
module

public import proofs.«01_k».proof.Defs
public import Idealize.ShloMosaic.Lib.Quiescent
public import proofs.«01_k».proof.Proof.Settled

@[expose] public section

noncomputable section

namespace Cert.Proof.R

open Cert.ReferenceIdeal Cert.ReferenceIdeal.Gen
open Idealize.ShloMosaic Idealize.ShloMosaic.StableHlo Idealize.SL.Sem

variable {F : FTy → Type} [FloatOps F]

/-! ## The program is the list -/

variable {nD' : Nat} {τ' : Topo} {sig' : RefSig} {Val : EltTy → Type} {Λ : Labels}

theorem isSeq_one (op : HloOp τ' sig' Val) :
    IsSeq (nD := nD') (Λ := Λ) (hlo rfl op fun _ => .ret (⟨⟩ : PUnit)) [op] := rfl

theorem isSeq_append {p q : Prog (TpuEff nD' τ' sig' Val Λ .tc) PUnit} {l l' : List (HloOp τ' sig' Val)} (h : IsSeq p l) (h' : IsSeq q l') :
    IsSeq (p >>= fun _ => q) (l ++ l') := by
  unfold IsSeq at *; rw [h, h', seq_append]

/-- The operations from the position `n` on, `c` of them. -/
def span (n c : ℕ) : List (HloOp τ sig (Elt F)) := (allOps.drop n).take c

attribute [local irreducible] Host.scatter Host.gather Host.argReduce Host.reduceAdd Host.reduce concatenate shapeCast broadcastInDim transpose

theorem part0 (d : Dev nD) : IsSeq (main_part0 (F := F) d) (span 0 67) := by
  set_option maxRecDepth 100000 in rfl
theorem part1 (d : Dev nD) : IsSeq (main_part1 (F := F) d) (span 67 64) := by
  set_option maxRecDepth 100000 in rfl
theorem part2 (d : Dev nD) : IsSeq (main_part2 (F := F) d) (span 131 64) := by
  set_option maxRecDepth 100000 in rfl
theorem part3 (d : Dev nD) : IsSeq (main_part3 (F := F) d) (span 195 60) := by
  set_option maxRecDepth 100000 in rfl
theorem part4 (d : Dev nD) : IsSeq (main_part4 (F := F) d) (span 255 64) := by
  set_option maxRecDepth 100000 in rfl
theorem part5 (d : Dev nD) : IsSeq (main_part5 (F := F) d) (span 319 64) := by
  set_option maxRecDepth 100000 in rfl
theorem part6 (d : Dev nD) : IsSeq (main_part6 (F := F) d) (span 383 64) := by
  set_option maxRecDepth 100000 in rfl
theorem part7 (d : Dev nD) : IsSeq (main_part7 (F := F) d) (span 447 60) := by
  set_option maxRecDepth 100000 in rfl
theorem part8 (d : Dev nD) : IsSeq (main_part8 (F := F) d) (span 507 60) := by
  set_option maxRecDepth 100000 in rfl
theorem part9 (d : Dev nD) : IsSeq (main_part9 (F := F) d) (span 567 3) := by
  set_option maxRecDepth 100000 in rfl

theorem spans : (allOps (F := F)) = span 0 67 ++ (span 67 64 ++ (span 131 64 ++ (span 195 60 ++ (span 255 64 ++ (span 319 64 ++ (span 383 64 ++ (span 447 60 ++ (span 507 60 ++ span 567 3)))))))) := by
  have h : ∀ (n c : ℕ), (allOps (F := F)).drop n = span n c ++ allOps.drop (n + c) := fun n c => by
    rw [span, ← List.drop_drop, List.take_append_drop]
  have e : (allOps (F := F)).drop 570 = [] := List.drop_eq_nil_of_le (Nat.le_of_eq rfl)
  rw [show (allOps (F := F)) = allOps.drop 0 from rfl, h 0 67, h 67 64, h 131 64, h 195 60, h 255 64, h 319 64, h 383 64, h 447 60, h 507 60, h 567 3, e, List.append_nil]

theorem main_seq (d : Dev nD) : IsSeq (main (F := F) d) allOps := by
  rw [spans]
  exact isSeq_append (part0 d) (isSeq_append (part1 d) (isSeq_append (part2 d) (isSeq_append (part3 d) (isSeq_append (part4 d)
    (isSeq_append (part5 d) (isSeq_append (part6 d) (isSeq_append (part7 d) (isSeq_append (part8 d) (part9 d)))))))))

/-! ## The run -/

/-- What a device's values hold at the end. -/
def fin (m : (ℓ : Loc nD τ sig) → Buf (Elt F) ℓ) (d : Dev nD) : Valuation τ sig (Elt F) := after allOps (launchContents m d)

variable {m : (ℓ : Loc nD τ sig) → Buf (Elt F) ℓ} {d : Dev nD}

theorem fin_settled : ∀ op ∈ (allOps (F := F)), Settled (fin m d) op := settled_of_ordered 4 _ _ all_ordered

theorem fin_arg (b : DevRef τ sig) (h : key b < 4) : fin m d b = launchContents m d b := after_below 4 _ _ all_ordered b h

theorem run_ref (m : (ℓ : Loc nD τ sig) → Buf (Elt F) ℓ) (ρ : Dev nD → PrngReg) :
    θ_run (defs (F := F)) (onTc (τ := τ) (main (F := F))) ⟨m, fun _ => 0, ρ⟩
      fun r => ∀ (d : Dev nD) (b : Ref sig .tc), r.2.mem ((d.tc : Thread nD τ).loc b) = fin m d (Proc.devRef .tc b) :=
  run_hlo _ _ (main_seq (F := F)) (by decide +kernel) (by decide +kernel)
    (List.forall_iff_forall_mem.2 fun op ho => (tc_of_ordered 4 _ all_ordered op ho).1) (fun op ho => (tc_of_ordered 4 _ all_ordered op ho).2) m ρ

theorem ref_arg {r : Ref sig .tc} (h : key (Proc.devRef .tc r) < 4) : fin m d (Proc.devRef .tc r) = m ((d.tc : Thread nD τ).loc r) := fin_arg _ h

/-- The frame of the reference. -/
theorem frame_ref : Cert.quiescent_ReferenceIdeal := fun m g _ =>
  (θ_run (defs (F := Ideal)) _ _).mono (fun r h =>
    ⟨fun c => ⟨(h c main_arg0).trans (ref_arg (by decide)), (h c main_arg1).trans (ref_arg (by decide)), (h c main_arg2).trans (ref_arg (by decide)),
      (h c main_arg3).trans (ref_arg (by decide))⟩, sem_eq_zero_of_no_sems (by decide) r.2⟩) (run_ref (F := Ideal) m g)

end Cert.Proof.R

end
-- ==== Proof.Spec.lean ====
/-
  The suppression on one row of 64 weights, over the extended reals: the first greatest weight, the weights after it
  is taken, and the six gains turned into shares.
-/
module

public import Idealize.ShloMosaic.Lib.Pointwise

@[expose] public section

noncomputable section

namespace Cert.Proof.M

open Idealize.ShloMosaic

/-- One row of 64 numbers. -/
abbrev Row := Fin 64 → EReal

/-- `a` is the first place where the row is greatest. -/
def IsPick (w : Row) (a : Fin 64) : Prop := (∀ j, w j ≤ w a) ∧ ∀ j, w j = w a → a ≤ j

/-- Each row has a first greatest place. -/
theorem exists_pick (w : Row) : ∃ a, IsPick w a := by
  obtain ⟨b, -, hb⟩ := Finset.exists_max_image Finset.univ w Finset.univ_nonempty
  have hne : (Finset.univ.filter fun j => w j = w b).Nonempty := ⟨b, by simp⟩
  refine ⟨(Finset.univ.filter fun j => w j = w b).min' hne, ?_, ?_⟩
  · have h := Finset.min'_mem _ hne
    rw [Finset.mem_filter] at h
    exact fun j => (hb j (Finset.mem_univ j)).trans h.2.symm.le
  · have h := Finset.min'_mem _ hne
    rw [Finset.mem_filter] at h
    exact fun j hj => Finset.min'_le _ _ (by rw [Finset.mem_filter]; exact ⟨Finset.mem_univ j, hj.trans h.2⟩)

/-- The first greatest place of a row. -/
def am (w : Row) : Fin 64 := (exists_pick w).choose

/-- It is one. -/
theorem am_pick (w : Row) : IsPick w (am w) := (exists_pick w).choose_spec

/-- There is only one. -/
theorem am_eq {w : Row} {a : Fin 64} (h : IsPick w a) : am w = a := by
  have h' := am_pick w
  have e : w a = w (am w) := le_antisymm (h'.1 a) (h.1 (am w))
  exact le_antisymm (h'.2 a e) (h.2 (am w) e.symm)

/-- The number put at a place already taken. -/
def cOff : EReal := Ideal.ofBits .f32 0xBF800000#32
/-- The factor kept by a mode far from the one taken. -/
def cFar : EReal := Ideal.ofBits .f32 0x3F7D70A4#32
/-- The factor every mode keeps. -/
def cAll : EReal := Ideal.ofBits .f32 0x3C23D70A#32
/-- The share's temperature. -/
def cHalf : EReal := Ideal.ofBits .f32 0x3F000000#32
/-- The three weights of a threshold. -/
def cA : EReal := Ideal.ofBits .f32 0x40200000#32
/-- The third of them. -/
def cC : EReal := Ideal.ofBits .f32 0x3FE00000#32

/-- The least number is below all. -/
theorem ofBits_bot : Ideal.ofBits .f32 0xFF800000#32 = ⊥ := by simp [Ideal.ofBits, Ideal.ieee]

/-- The distance between modes `a` and `j`. -/
def dist (X Y : Row) (a j : Fin 64) : EReal := Ideal.sqrt ((X j - X a) * (X j - X a) + (Y j - Y a) * (Y j - Y a))

/-- One where mode `j` is not near mode `a`, zero where it is. -/
def free (X Y : Row) (th : EReal) (a j : Fin 64) : EReal := if dist X Y a j < th then 0 else 1

/-- The weights after the greatest is taken. -/
def nxt (X Y : Row) (th : EReal) (w : Row) : Row := fun j =>
  if j = am w then cOff else w j * (free X Y th (am w) j * cFar + cAll)

/-- The weights after `k` are taken. -/
def wts (X Y : Row) (th : EReal) (w : Row) : ℕ → Row
  | 0 => w
  | k + 1 => nxt X Y th (wts X Y th w k)

/-- The logits of the six gains. -/
def lgt (s : Fin 6 → EReal) (k : Fin 6) : EReal := Ideal.div (Ideal.log (Ideal.div (s k) (∑ i, s i))) cHalf

/-- Their exponentials below the greatest. -/
def expo (s : Fin 6 → EReal) (k : Fin 6) : EReal :=
  Ideal.exp (lgt s k - Finset.univ.fold max ⊥ (lgt s))

/-- The shares of the six gains. -/
def soft (s : Fin 6 → EReal) (k : Fin 6) : EReal := Ideal.div (expo s k) (∑ i, expo s i)

/-- The threshold of a mode from its size. -/
def thr (c : Fin 3 → EReal) : EReal := c 0 * cA + c 1 + c 2 * cC

/-- The row's weights to begin with. -/
def unit (w : Row) : Row := fun j => Ideal.div (w j) (∑ i, w i)

/-- The pick of step `k` of row `(s, n)`, from the weights, the trajectories and the sizes given. -/
def pick (P : (⟨3, ![32, 64, 64]⟩ : Shape).Idx → EReal) (T : (⟨5, ![32, 64, 64, 80, 4]⟩ : Shape).Idx → EReal)
    (C : (⟨3, ![32, 64, 3]⟩ : Shape).Idx → EReal) (s : Fin 32) (n : Fin 64) (k : ℕ) : Fin 64 :=
  am (wts (fun i => T (ix5 s n i 79 0)) (fun i => T (ix5 s n i 79 1)) (thr fun i => C (ix3 s n i)) (unit fun i => P (ix3 s n i)) k)

/-! ### Words -/

/-- The least of a family of words read from a place that is the first of those in it. -/
theorem fold_minsi {f : Fin 64 → BitVec 32} {a : Fin 64} (ha : f a = BitVec.ofNat 32 a.val)
    (h : ∀ j, f j = BitVec.ofNat 32 j.val ∧ a ≤ j ∨ f j = 64#32) :
    Finset.univ.fold (IntOp.minsi (w := 32)) 2147483647#32 f = BitVec.ofNat 32 a.val := by
  have key : ∀ (s : Finset (Fin 64)),
      (∀ j ∈ s, (s.fold (IntOp.minsi (w := 32)) 2147483647#32 f).toInt ≤ (f j).toInt) ∧
        (s.fold (IntOp.minsi (w := 32)) 2147483647#32 f = 2147483647#32 ∨
          ∃ j ∈ s, s.fold (IntOp.minsi (w := 32)) 2147483647#32 f = f j) := by
    intro s
    induction s using Finset.induction with
    | empty => exact ⟨by simp, Or.inl (Finset.fold_empty)⟩
    | insert b s hb ih =>
      rw [Finset.fold_insert hb]
      generalize s.fold (IntOp.minsi (w := 32)) 2147483647#32 f = r at ih
      rw [IntOp.minsi]
      by_cases hs : (f b).slt r
      · have hlt := hs
        rw [BitVec.slt_iff_toInt_lt] at hlt
        simp only [hs, if_true]
        refine ⟨fun j hj => ?_, Or.inr ⟨b, Finset.mem_insert_self _ _, rfl⟩⟩
        rcases Finset.mem_insert.1 hj with rfl | hj
        · exact le_rfl
        · exact hlt.le.trans (ih.1 j hj)
      · have hge := hs
        rw [BitVec.slt_iff_toInt_lt, not_lt] at hge
        simp only [hs]
        refine ⟨fun j hj => ?_, ih.2.imp_right fun ⟨j, hj, e⟩ => ⟨j, Finset.mem_insert_of_mem hj, e⟩⟩
        rcases Finset.mem_insert.1 hj with rfl | hj
        · exact hge
        · exact ih.1 j hj
  have small : ∀ n : ℕ, n < 65 → (BitVec.ofNat 32 n).toInt = n := by
    intro n hn
    have e : (BitVec.ofNat 32 n).toNat = n := by rw [BitVec.toNat_ofNat]; omega
    rw [BitVec.toInt_eq_toNat_of_lt (by rw [e]; omega), e]
  obtain ⟨hle, hmem⟩ := key Finset.univ
  have h1 := hle a (Finset.mem_univ a)
  rw [ha, small a (by omega)] at h1
  have top : (2147483647#32 : BitVec 32).toInt = 2147483647 := by decide
  have h64 : (64#32 : BitVec 32).toInt = 64 := by decide
  generalize Finset.univ.fold (IntOp.minsi (w := 32)) 2147483647#32 f = r at *
  rcases hmem with e | ⟨j, -, e⟩
  · rw [e, top] at h1; omega
  · rcases h j with ⟨hj, haj⟩ | hj
    · rw [e, hj, small j.val (by omega)] at h1
      have e' : j = a := le_antisymm (Fin.le_def.2 (by omega)) haj
      rw [e, hj, e']
    · rw [e, hj, h64] at h1; omega

/-- The greatest of a row, from the least number. -/
theorem fold_max (w : Row) : Finset.univ.fold max ⊥ w = w (am w) := by
  apply le_antisymm
  · rw [Finset.fold_max_le]
    exact ⟨bot_le, fun j _ => (am_pick w).1 j⟩
  · rw [Finset.le_fold_max]
    exact Or.inr ⟨am w, Finset.mem_univ _, le_rfl⟩

/-- A sum against a mark reads the marked place. -/
theorem sum_mark (a : Fin 64) (w : Row) (m : Row) (hm : ∀ j, m j = if j = a then 1 else 0) :
    ∑ j, m j * w j = w a := by
  rw [Finset.sum_eq_single a]
  · rw [hm, if_pos rfl, one_mul]
  · intro j _ hj; rw [hm, if_neg hj, zero_mul]
  · intro h; exact absurd (Finset.mem_univ a) h

end Cert.Proof.M
-- ==== Proof.KPick.lean ====
/-
  The kernel on the matrix core, read at one row: its six picks are the first greatest weights of the row as it is
  marked down, and its scores the shares of their gains.
-/
module

public import proofs.«01_k».proof.Proof.Nms
public import proofs.«01_k».proof.Proof.Spec

@[expose] public section

noncomputable section

namespace Cert.Proof.K

open Cert.KernelIdeal Cert.KernelIdeal.Gen
open Idealize.ShloMosaic
open Cert.Proof.M

/-- A row of an array of rows. -/
def rw₁ (x : FVec Ideal S2048x64 .f32) (n : Fin 2048) : Row := fun j => x (ix2 n j)

/-- A truth value made a number. -/
theorem sitofp_bit (b : Bool) :
    (FloatOps.sitofp .f32 (BitVec.setWidth 32 (BitVec.ofBool b)) : Ideal .f32) = if b = true then 1 else 0 := by
  show (((BitVec.setWidth 32 (BitVec.ofBool b)).toInt : ℝ) : EReal) = _
  cases b
  · have h : (BitVec.setWidth 32 (BitVec.ofBool false)).toInt = 0 := by decide
    rw [h]; simp
  · have h : (BitVec.setWidth 32 (BitVec.ofBool true)).toInt = 1 := by decide
    rw [h]; simp

/-- The pick of a row is its first greatest place. -/
theorem pick_at (w : FVec Ideal S2048x64 .f32) (n : Fin 2048) :
    pick w (ix2 n 0) = BitVec.ofNat 32 (am (rw₁ w n)).val := by
  pointwise [pick, asCol, wide, lane]
  rw [ofBits_bot]
  have hf : Finset.fold max ⊥ (fun x => w (ix2 n x)) Finset.univ = rw₁ w n (am (rw₁ w n)) := fold_max (rw₁ w n)
  rw [hf]
  refine fold_minsi (if_pos rfl) fun j => ?_
  by_cases h : w (ix2 n j) = rw₁ w n (am (rw₁ w n))
  · exact Or.inl ⟨if_pos h, (am_pick (rw₁ w n)).2 j h⟩
  · exact Or.inr (if_neg h)

/-- The mark of a row is one at its pick alone. -/
theorem mark_at (w : FVec Ideal S2048x64 .f32) (n : Fin 2048) (j : Fin 64) :
    mark w (ix2 n j) = if j = am (rw₁ w n) then 1 else 0 := by
  pointwise [mark, wide, lane]
  rw [pick_at]
  have e : IntOp.cmpi CmpIPredicate.eq (BitVec.ofNat 32 j.val) (BitVec.ofNat 32 (am (rw₁ w n)).val)
      = BitVec.ofBool (decide (j = am (rw₁ w n))) := by
    refine congrArg BitVec.ofBool ?_
    rw [Bool.eq_iff_iff]
    simp only [beq_iff_eq, decide_eq_true_eq]
    constructor
    · intro h
      have h' := congrArg BitVec.toNat h
      simp only [BitVec.toNat_ofNat] at h'
      exact Fin.ext (by omega)
    · rintro h; rw [← h]
  rw [e, sitofp_bit]
  simp only [decide_eq_true_eq]

/-- A sum of a row against its mark. -/
theorem mark_sum (w x : FVec Ideal S2048x64 .f32) (n : Fin 2048) :
    ∑ j, mark w (ix2 n j) * x (ix2 n j) = rw₁ x n (am (rw₁ w n)) :=
  sum_mark (am (rw₁ w n)) (rw₁ x n) (fun j => mark w (ix2 n j)) (mark_at w n)

/-- The gain of a row is its first weight at the pick. -/
theorem gain_at (w₀ w : FVec Ideal S2048x64 .f32) (n : Fin 2048) :
    gain w₀ w (ix1 n) = rw₁ w₀ n (am (rw₁ w n)) := by
  pointwise [gain, rowSum]
  exact mark_sum w w₀ n

/-- One step of the suppression, on a row. -/
theorem next_at (X Y : FVec Ideal S2048x64 .f32) (th : FVec Ideal S2048x1 .f32) (w : FVec Ideal S2048x64 .f32)
    (n : Fin 2048) (j : Fin 64) :
    next X Y th w (ix2 n j) = nxt (rw₁ X n) (rw₁ Y n) (th (ix2 n 0)) (rw₁ w n) j := by
  pointwise [next, damp, far, near, away, wide, asCol, rowSum]
  rw [mark_sum, mark_sum, mark_at, sitofp_bit, nxt]
  simp only [decide_eq_true_eq]
  by_cases h : j = am (rw₁ w n)
  · rw [if_pos h, if_pos h, if_pos zero_lt_one]; rfl
  · rw [if_neg h, if_neg h, if_neg (lt_irrefl _)]
    refine congrArg (fun t => w (ix2 n j) * (t * cFar + cAll)) ?_
    rw [free]
    change 1 - (if dist (rw₁ X n) (rw₁ Y n) (am (rw₁ w n)) j < th (ix2 n 0) then (1 : EReal) else 0) = _
    split
    · exact EReal.sub_self (by decide) (by decide)
    · exact sub_zero _

/-- The weights after some steps, on a row. -/
theorem weights_at (X Y : FVec Ideal S2048x64 .f32) (th : FVec Ideal S2048x1 .f32) (w : FVec Ideal S2048x64 .f32)
    (n : Fin 2048) (k : ℕ) :
    rw₁ (weights X Y th w k) n = wts (rw₁ X n) (rw₁ Y n) (th (ix2 n 0)) (rw₁ w n) k := by
  induction k with
  | zero => rfl
  | succ k ih => exact funext fun j => (next_at X Y th _ n j).trans (by rw [ih]; rfl)

/-- The shares of a row. -/
theorem share6_at (s : FVec Ideal S2048x6 .f32) (n : Fin 2048) (j : Fin 6) :
    share6 s (ix2 n j) = soft (fun k => s (ix2 n k)) j := by
  pointwise [share6, K.expo, logits, wide6, asCol, rowSum6, six]
  simp only [ofBits_bot]
  rfl

/-- Six vectors side by side. -/
theorem six_at {α : Type} (c : ℕ → S2048.Idx → α) (n : Fin 2048) (j : Fin 6) : six c (ix2 n j) = c j.val (ix1 n) := by
  pointwise [six, asCol]
  fin_cases j <;> rfl

section
variable (v0 : Vec Ideal S2048x64 .f32) (v2 v4 : Vec Ideal S2048x1x64 .f32) (v6 : Vec Ideal S2048x3 .f32) (n : Fin 2048)

/-- The horizontal ends of a row's modes. -/
theorem pay3_at : rw₁ (k0_pay3 v2) n = fun i => v2 (ix3 n 0 i) := by
  funext i; unfold rw₁; pointwise [k0_pay3]

/-- The vertical ends of a row's modes. -/
theorem pay4_at : rw₁ (k0_pay4 v4) n = fun i => v4 (ix3 n 0 i) := by
  funext i; unfold rw₁; pointwise [k0_pay4]

/-- A row's weights made to sum to one. -/
theorem pay5_at : rw₁ (k0_pay5 v0) n = M.unit fun i => v0 (ix2 n i) := by
  funext i; unfold rw₁; pointwise [k0_pay5]; rfl

/-- A row's threshold. -/
theorem pay6_at : k0_pay6 v6 (ix2 n 0) = thr fun i => v6 (ix2 n i) := by
  pointwise [k0_pay6]; rfl

/-- The weights of a row after some picks. -/
def wtRow (k : ℕ) : Row :=
  wts (fun i => v2 (ix3 n 0 i)) (fun i => v4 (ix3 n 0 i)) (thr fun i => v6 (ix2 n i)) (M.unit fun i => v0 (ix2 n i)) k

/-- The kernel's weights after some picks, on a row. -/
theorem wt_at (k : ℕ) : rw₁ (wt v0 v2 v4 v6 k) n = wtRow v0 v2 v4 v6 n k := by
  rw [wt, weights_at, pay3_at, pay4_at, pay5_at, pay6_at]; rfl

/-- The scores stored, on a row. -/
theorem stored_scores_at (j : Fin 6) :
    storedScores (F := Ideal) v0 v2 v4 v6 (ix2 n j) =
      soft (fun k => M.unit (fun i => v0 (ix2 n i)) (am (wtRow v0 v2 v4 v6 n k.val))) j := by
  rw [storedScores, share6_at]
  refine congrArg (fun s => soft s j) (funext fun k => ?_)
  rw [six_at, gain_at, wt_at, pay5_at]

/-- The picks stored, on a row. -/
theorem stored_picks_at (j : Fin 6) :
    storedPicks (F := Ideal) v0 v2 v4 v6 (ix2 n j) =
      BitVec.ofNat 32 (64 * n.val + (am (wtRow v0 v2 v4 v6 n j.val)).val) := by
  rw [storedPicks]
  pointwise [flat]
  rw [six_at]
  pointwise
  rw [pick_at, wt_at]
  apply BitVec.eq_of_toNat_eq
  simp only [IntOp.addi, IntOp.muli, BitVec.toNat_add, BitVec.toNat_mul, BitVec.toNat_ofNat]
  omega
end

end Cert.Proof.K
-- ==== Proof.KVal.lean ====
/-
  The kernel program's results as functions of its arguments.
-/
module

public import proofs.«01_k».proof.Proof.Whole
public import proofs.«01_k».proof.Proof.KPick
public import Idealize.ShloMosaic.Lib.Pipeline.ValueKit.Geometry
public import Idealize.ShloMosaic.Lib.VecWindow

@[expose] public section

noncomputable section

namespace Cert.Proof.K

open Cert.KernelIdeal Cert.KernelIdeal.Gen
open Idealize.ShloMosaic Idealize.ShloMosaic.StableHlo
open Idealize.SL Idealize.SL.Sem
open Cert.Proof.M (Row am wts soft thr)

/-! ## The kernel on the matrix core over whole arrays -/

section
variable {F : FTy → Type} [FloatOps F] (V : Vals F) (c : Dev nD)

/-- The scores' array at the end is what the body stores. -/
theorem scoresOut_eq : scoresOut V c = outScores V c :=
  (dat V c).arrAt_eq_of_after_last 3 t0_0 (by decide +kernel) _ fun j => rfl

/-- The picks' array at the end is what the body stores. -/
theorem picksOut_eq : picksOut V c = outPicks V c :=
  (dat V c).arrAt_eq_of_after_last 4 t0_0 (by decide +kernel) _ fun j => rfl

/-- The place that a block at index zero gives an index. -/
theorem zero_block (k n : ℕ) : 0 * k + n = n := by omega

/-- The blocks fetched are the arrays. -/
theorem stg0_eq : stg0 V c = V c main_v5 := by
  funext j
  refine congrArg (V c main_v5) ?_
  refine ext2 ?_ ?_ <;> blk_simp <;> exact zero_block _ _
/-- The sizes' block is the array. -/
theorem stg1_eq : stg1 V c = V c main_v6 := by
  funext j
  refine congrArg (V c main_v6) ?_
  refine ext2 ?_ ?_ <;> blk_simp <;> exact zero_block _ _
/-- The end points' block is the array. -/
theorem stg2_eq : stg2 V c = V c main_v4 := by
  funext j
  refine congrArg (V c main_v4) ?_
  funext a; apply Fin.ext
  fin_cases a <;> blk_simp <;> exact zero_block _ _

/-- The body reads the array of weights whole. -/
theorem rdW_eq : rdW c (stage0_0 0) (stg0 V c) = V c main_v5 := by
  rw [stg0_eq]; exact View.readAt_full _ _ _
/-- The body reads the array of sizes whole. -/
theorem rdT_eq : rdT c (stage0_1 0) (stg1 V c) = V c main_v6 := by
  rw [stg1_eq]; exact View.readAt_full _ _ _
/-- The first end coordinates that the body reads. -/
theorem rdX_at (n : Fin 2048) (i : Fin 64) : rdX c (stage0_2 0) (stg2 V c) (ix3 n 0 i) = (V c main_v4 : S2048x2x64.Idx → Elt F .f32) (ix3 n 0 i) := by
  rw [stg2_eq]
  refine congrArg (V c main_v4) ?_
  funext a; apply Fin.ext
  fin_cases a
  · show 0 + 1 * n.val = n.val; omega
  · rfl
  · show 0 + 1 * i.val = i.val; omega
/-- The second end coordinates that the body reads. -/
theorem rdY_at (n : Fin 2048) (i : Fin 64) : rdY c (stage0_2 0) (stg2 V c) (ix3 n 0 i) = (V c main_v4 : S2048x2x64.Idx → Elt F .f32) (ix3 n 1 i) := by
  rw [stg2_eq]
  refine congrArg (V c main_v4) ?_
  funext a; apply Fin.ext
  fin_cases a
  · show 0 + 1 * n.val = n.val; omega
  · rfl
  · show 0 + 1 * i.val = i.val; omega

end

/-! ## The host's operations before it -/

/-- A reshaped array at an index, from the index of the same place in row-major order. -/
theorem cast_at {s t : Shape} {α : Type} (x : s.Idx → α) (h : s.ShapeCasts t) {j : t.Idx} {i : s.Idx}
    (e : (s.rowMajor i : ℕ) = t.rowMajor j) : shapeCast t x h j = x i := congrArg x (Shape.reshapeEquiv_eq_of_rowMajor h e)

/-- The number of row `(s, n)`. -/
def rowOf (s : Fin 32) (n : Fin 64) : Fin 2048 := ⟨64 * s.val + n.val, by omega⟩

variable (m : (ℓ : Loc nD τ sig) → Buf (Elt Ideal) ℓ) (d : Dev nD)

/-- The mask. -/
abbrev argM : S32x64.Idx → BitVec 1 := m (d, hb main_arg0)
/-- The probabilities. -/
abbrev argP : S32x64x64.Idx → EReal := m (d, hb main_arg1)
/-- The trajectories. -/
abbrev argT : S32x64x64x80x4.Idx → EReal := m (d, hb main_arg2)
/-- The kinds of the agents. -/
abbrev argC : S32x64x3.Idx → EReal := m (d, hb main_arg3)

/-- The kernel's weights are the probabilities, row by row. -/
theorem v5_at (s : Fin 32) (n i : Fin 64) : (W₁ m d (hb main_v5) : S2048x64.Idx → EReal) (ix2 (rowOf s n) i) = argP m d (ix3 s n i) := by
  unfold W₁ ops₁
  after_results
  refine cast_at _ _ ?_
  refine (Shape.rowMajor_val_three _).trans (Eq.trans ?_ (Shape.rowMajor_val_two _).symm)
  show (s.val * 64 + n.val) * 64 + i.val = (64 * s.val + n.val) * 64 + i.val
  omega

/-- The kernel's sizes are the kinds of the agents, row by row. -/
theorem v6_at (s : Fin 32) (n : Fin 64) (i : Fin 3) : (W₁ m d (hb main_v6) : S2048x3.Idx → EReal) (ix2 (rowOf s n) i) = argC m d (ix3 s n i) := by
  unfold W₁ ops₁
  after_results
  refine cast_at _ _ ?_
  refine (Shape.rowMajor_val_three _).trans (Eq.trans ?_ (Shape.rowMajor_val_two _).symm)
  show (s.val * 64 + n.val) * 3 + i.val = (64 * s.val + n.val) * 3 + i.val
  omega

/-- The kernel's end points are the trajectories at the last time. -/
theorem v4_at (s : Fin 32) (n i : Fin 64) (c : Fin 2) : (W₁ m d (hb main_v4) : S2048x2x64.Idx → EReal) (ix3 (rowOf s n) c i) = argT m d (ix5 s n i 79 ⟨c.val, by omega⟩) := by
  unfold W₁ ops₁
  after_results
  refine (cast_at (i := ix4 s n c i) _ _ ?_).trans ?_
  · refine (Shape.rowMajor_val_four _).trans (Eq.trans ?_ (Shape.rowMajor_val_three _).symm)
    show ((s.val * 64 + n.val) * 2 + c.val) * 64 + i.val = ((64 * s.val + n.val) * 2 + c.val) * 64 + i.val
    omega
  · pointwise
    rfl

/-- The tiles' table is the trajectories, time and component in one axis. -/
theorem v0_at (s : Fin 32) (n i : Fin 64) (t : Fin 80) (c : Fin 4) :
    (W₁ m d (hb main_v0) : S32x64x64x320.Idx → EReal) (ix4 s n i ⟨4 * t.val + c.val, by omega⟩) = argT m d (ix5 s n i t c) := by
  unfold W₁ ops₁
  after_results
  refine cast_at _ _ ?_
  refine (Shape.rowMajor_val_five _).trans (Eq.trans ?_ (Shape.rowMajor_val_four _).symm)
  show (((s.val * 64 + n.val) * 64 + i.val) * 80 + t.val) * 4 + c.val = ((s.val * 64 + n.val) * 64 + i.val) * 320 + (4 * t.val + c.val)
  omega

/-! ## The scores and the picks -/

/-- Equal rows have equal picks. -/
theorem pick_congr {X X' Y Y' P P' : Row} {C C' : Fin 3 → EReal} (hX : X = X') (hY : Y = Y') (hC : C = C') (hP : P = P') (k : ℕ) :
    am (wts X Y (thr C) (M.unit P) k) = am (wts X' Y' (thr C') (M.unit P') k) := by subst hX hY hC hP; rfl

/-- The row of weights that the body reads. -/
theorem rowP (s : Fin 32) (n : Fin 64) :
    (fun i => rdW d (stage0_0 0) (stg0 (VV m) d) (ix2 (rowOf s n) i)) = fun i => argP m d (ix3 s n i) :=
  funext fun i => (congrFun (rdW_eq (VV m) d) _).trans (v5_at m d s n i)

/-- The body's pick of a row at a step is the pick from the arguments. -/
theorem wtRow_eq (s : Fin 32) (n : Fin 64) (k : ℕ) :
    am (wtRow (rdW d (stage0_0 0) (stg0 (VV m) d)) (rdX d (stage0_2 0) (stg2 (VV m) d)) (rdY d (stage0_2 0) (stg2 (VV m) d)) (rdT d (stage0_1 0) (stg1 (VV m) d)) (rowOf s n) k)
      = M.pick (argP m d) (argT m d) (argC m d) s n k :=
  pick_congr (funext fun i => (rdX_at (VV m) d _ i).trans (v4_at m d s n i 0)) (funext fun i => (rdY_at (VV m) d _ i).trans (v4_at m d s n i 1))
    (funext fun i => (congrFun (rdT_eq (VV m) d) _).trans (v6_at m d s n i)) (rowP m d s n) k

/-- The scores the matrix core leaves. -/
theorem scores_at (s : Fin 32) (n : Fin 64) (k : Fin 6) :
    (scoresOut (VV m) d : S2048x6.Idx → EReal) (ix2 (rowOf s n) k)
      = soft (fun k => M.unit (fun i => argP m d (ix3 s n i)) (M.pick (argP m d) (argT m d) (argC m d) s n k.val)) k := by
  rw [scoresOut_eq]
  exact (stored_scores_at _ _ _ _ _ _).trans (congrArg (fun g => soft g k) (funext fun k => congr (congrArg M.unit (rowP m d s n)) (wtRow_eq m d s n k.val)))

/-- The picks the matrix core leaves, as places among all rows' modes. -/
theorem picks_at (s : Fin 32) (n : Fin 64) (k : Fin 6) :
    (picksOut (VV m) d : S2048x6.Idx → BitVec 32) (ix2 (rowOf s n) k)
      = BitVec.ofNat 32 (64 * (64 * s.val + n.val) + (M.pick (argP m d) (argT m d) (argC m d) s n k.val).val) := by
  rw [picksOut_eq]
  exact (stored_picks_at _ _ _ _ _ _).trans (congrArg (fun p : Fin 64 => BitVec.ofNat 32 (64 * (64 * s.val + n.val) + p.val)) (wtRow_eq m d s n k.val))

/-! ## What the tiles gather -/

/-- The row named by a place's word. -/
theorem hiW_val (r p : ℕ) (hr : r < 2048) (hp : p < 64) : (hiW (BitVec.ofNat 32 (64 * r + p))).toNat = r % 64 := by
  have e : (BitVec.ofNat 32 (64 * r + p)).toNat = 64 * r + p := by rw [BitVec.toNat_ofNat]; omega
  have hm : (BitVec.ofNat 32 (64 * r + p)).msb = false := by rw [BitVec.msb_eq_false_iff_two_mul_lt, e]; omega
  have hs : Scalar.shrsi (BitVec.ofNat 32 (64 * r + p)) 6#32 = BitVec.ofNat 32 (64 * r + p) >>> 6 := BitVec.sshiftRight_eq_of_msb_false hm
  show ((Scalar.shrsi (BitVec.ofNat 32 (64 * r + p)) 6#32) &&& 63#32).toNat = _
  rw [hs, BitVec.toNat_and, BitVec.toNat_ushiftRight, e, Nat.shiftRight_eq_div_pow]
  refine (Nat.and_two_pow_sub_one_eq_mod _ 6).trans ?_
  omega

/-- The mode named by a place's word. -/
theorem loW_val (r p : ℕ) (hr : r < 2048) (hp : p < 64) : (loW (BitVec.ofNat 32 (64 * r + p))).toNat = p := by
  have e : (BitVec.ofNat 32 (64 * r + p)).toNat = 64 * r + p := by rw [BitVec.toNat_ofNat]; omega
  show (BitVec.ofNat 32 (64 * r + p) &&& 63#32).toNat = _
  rw [BitVec.toNat_and, e]
  refine (Nat.and_two_pow_sub_one_eq_mod _ 6).trans ?_
  omega

/-- The table that the tiles read is the trajectories. -/
theorem aa_at (s : Fin 32) (n i : Fin 64) (t : Fin 80) (c : Fin 4) :
    AA m (ix4 s n i ⟨4 * t.val + c.val, by omega⟩) = argT m 0 (ix5 s n i t c) := by
  refine Eq.trans ?_ (v0_at m 0 s n i t c)
  unfold AA W₃ ops₂
  after_results
  rw [W₂, Function.update_of_ne (by decide), Function.update_of_ne (by decide)]

/-- The list of places that the tiles read is the picks. -/
theorem bb_at (s : Fin 32) (n : Fin 64) (k : Fin 6) :
    BB m (listIx s ⟨6 * n.val + k.val, by omega⟩)
      = BitVec.ofNat 32 (64 * (64 * s.val + n.val) + (M.pick (argP m 0) (argT m 0) (argC m 0) s n k.val).val) := by
  refine Eq.trans ?_ (picks_at m 0 s n k)
  unfold BB W₃ ops₂
  after_results
  rw [W₂, Function.update_self]
  refine cast_at _ _ ?_
  refine (Shape.rowMajor_val_two _).trans (Eq.trans ?_ (Shape.rowMajor_val_one _).symm)
  show (64 * s.val + n.val) * 6 + k.val = 384 * s.val + (6 * n.val + k.val)
  omega

/-- One number gathered. -/
theorem fetched_at (s : Fin 32) (n : Fin 64) (k : Fin 6) (t : Fin 80) (c : Fin 4) :
    T8 (AA m) (BB m) s (ix2 ⟨6 * n.val + k.val, by omega⟩ ⟨4 * t.val + c.val, by omega⟩)
      = argT m 0 (ix5 s n (M.pick (argP m 0) (argT m 0) (argC m 0) s n k.val) t c) := by
  rw [← aa_at]
  unfold T8
  refine congrArg (AA m) ?_
  show cellIx s (BB m (listIx s ⟨6 * n.val + k.val, _⟩)) _ = _
  rw [bb_at]
  unfold cellIx
  congr 1
  · apply Fin.ext
    show (hiW _).toNat = n.val
    rw [hiW_val _ _ (by omega) (Fin.isLt _)]; omega
  · apply Fin.ext
    show (loW _).toNat = _
    rw [loW_val _ _ (by omega) (Fin.isLt _)]

/-! ## The results -/

/-- The kernel's coordinates. -/
theorem v10_at (s : Fin 32) (t : Fin 80) (n : Fin 64) (k : Fin 6) (c : Fin 2) :
    (W₅ m d (hb main_v10) : S32x80x64x6x2.Idx → EReal) (ix5 s t n k c)
      = argT m 0 (ix5 s n (M.pick (argP m 0) (argT m 0) (argC m 0) s n k.val) t ⟨c.val, by omega⟩) := by
  rw [← fetched_at]
  unfold W₅ ops₃
  after_results
  rw [W₄, Function.update_of_ne (by decide), Function.update_of_ne (by decide), Function.update_self]
  refine (cast_at (i := ix3 s t ⟨(6 * n.val + k.val) * 2 + c.val, by omega⟩) _ _ ?_).trans ?_
  · refine (Shape.rowMajor_val_three _).trans (Eq.trans ?_ (Shape.rowMajor_val_five _).symm)
    show (s.val * 80 + t.val) * 768 + ((6 * n.val + k.val) * 2 + c.val) = (((s.val * 80 + t.val) * 64 + n.val) * 6 + k.val) * 2 + c.val
    omega
  · unfold O9
    refine congrArg (T8 (AA m) (BB m) s) (ext2 ?_ ?_)
    · show ((6 * n.val + k.val) * 2 + c.val) / 2 = 6 * n.val + k.val
      omega
    · show 4 * t.val + ((6 * n.val + k.val) * 2 + c.val) % 2 = 4 * t.val + c.val
      omega

/-- The kernel's headings. -/
theorem v11_at (s : Fin 32) (t : Fin 80) (n : Fin 64) (k : Fin 6) (c : Fin 1) :
    (W₅ m d (hb main_v11) : S32x80x64x6x1.Idx → EReal) (ix5 s t n k c)
      = argT m 0 (ix5 s n (M.pick (argP m 0) (argT m 0) (argC m 0) s n k.val) t 2) := by
  rw [← fetched_at]
  unfold W₅ ops₃
  after_results
  rw [W₄, Function.update_of_ne (by decide), Function.update_self]
  refine (cast_at (i := ix3 s t ⟨6 * n.val + k.val, by omega⟩) _ _ ?_).trans rfl
  refine (Shape.rowMajor_val_three _).trans (Eq.trans ?_ (Shape.rowMajor_val_five _).symm)
  show (s.val * 80 + t.val) * 384 + (6 * n.val + k.val) = (((s.val * 80 + t.val) * 64 + n.val) * 6 + k.val) * 1 + c.val
  omega

/-- The kernel's speeds. -/
theorem v12_at (s : Fin 32) (t : Fin 80) (n : Fin 64) (k : Fin 6) (c : Fin 1) :
    (W₅ m d (hb main_v12) : S32x80x64x6x1.Idx → EReal) (ix5 s t n k c)
      = argT m 0 (ix5 s n (M.pick (argP m 0) (argT m 0) (argC m 0) s n k.val) t 3) := by
  rw [← fetched_at]
  unfold W₅ ops₃
  after_results
  rw [W₄, Function.update_self]
  refine (cast_at (i := ix3 s t ⟨6 * n.val + k.val, by omega⟩) _ _ ?_).trans rfl
  refine (Shape.rowMajor_val_three _).trans (Eq.trans ?_ (Shape.rowMajor_val_five _).symm)
  show (s.val * 80 + t.val) * 384 + (6 * n.val + k.val) = (((s.val * 80 + t.val) * 64 + n.val) * 6 + k.val) * 1 + c.val
  omega

/-- The kernel's scores. -/
theorem v15_at (s : Fin 32) (n : Fin 64) (k : Fin 6) :
    (W₅ m d (hb main_v15) : S32x64x6.Idx → EReal) (ix3 s n k)
      = soft (fun k => M.unit (fun i => argP m d (ix3 s n i)) (M.pick (argP m d) (argT m d) (argC m d) s n k.val)) k := by
  rw [← scores_at]
  unfold W₅ ops₃
  after_results
  rw [W₄, Function.update_of_ne (by decide), Function.update_of_ne (by decide), Function.update_of_ne (by decide)]
  unfold W₃ ops₂
  after_results
  rw [W₂, Function.update_of_ne (by decide), Function.update_self]
  refine cast_at _ _ ?_
  refine (Shape.rowMajor_val_two _).trans (Eq.trans ?_ (Shape.rowMajor_val_three _).symm)
  show (64 * s.val + n.val) * 6 + k.val = (s.val * 64 + n.val) * 6 + k.val
  omega

/-- The kernel's mask is the argument repeated over time. -/
theorem v14_eq : (W₅ m d (hb main_v14) : S32x80x64.Idx → BitVec 1)
    = broadcastInDim S32x80x64 ![0, 1, 2] bcast_S32x1x64_S32x80x64_0_1_2 (broadcastInDim S32x1x64 ![0, 2] bcast_S32x64_S32x1x64_0_2 (argM m d)) := by
  unfold W₅ ops₃
  after_results
  rw [W₄, Function.update_of_ne (by decide), Function.update_of_ne (by decide), Function.update_of_ne (by decide)]
  unfold W₃ ops₂
  after_results
  rw [W₂, Function.update_of_ne (by decide), Function.update_of_ne (by decide)]
  unfold W₁ ops₁
  after_results
  rfl

end Cert.Proof.K

end
-- ==== Proof.RefPure.lean ====
/-
  The reference's gathers, its scatter and its pick of the greatest, read at one index.
-/
module

public import proofs.«01_k».proof.Proof.RefOps
public import proofs.«01_k».proof.Proof.Spec
public import Idealize.ShloMosaic.Lib.Routing.OpsSet

@[expose] public section

noncomputable section

namespace Cert.Proof.R

open Cert.ReferenceIdeal Cert.ReferenceIdeal.Gen
open Idealize.ShloMosaic Idealize.ShloMosaic.StableHlo
open Cert.Proof.M

/-- Three columns side by side. -/
theorem triple_at {α : Type} (a b c : S32x64x1.Idx → α) (s : Fin 32) (n : Fin 64) (q : Fin 3) :
    concatenate S32x64x3 2 [⟨S32x64x1, a⟩, ⟨S32x64x1, b⟩, ⟨S32x64x1, c⟩] concatenates_S32x64x1_S32x64x1_S32x64x1_S32x64x3_d2 (ix3 s n q)
      = (![a, b, c] : Fin 3 → _) q (ix3 s n 0) := by
  pointwise
  fin_cases q <;> rfl

/-- The first of three columns. -/
theorem triple_at₀ {α : Type} (a b c : S32x64x1.Idx → α) (s : Fin 32) (n : Fin 64) :
    concatenate S32x64x3 2 [⟨S32x64x1, a⟩, ⟨S32x64x1, b⟩, ⟨S32x64x1, c⟩] concatenates_S32x64x1_S32x64x1_S32x64x1_S32x64x3_d2 (ix3 s n 0)
      = a (ix3 s n 0) := triple_at a b c s n 0
/-- The second. -/
theorem triple_at₁ {α : Type} (a b c : S32x64x1.Idx → α) (s : Fin 32) (n : Fin 64) :
    concatenate S32x64x3 2 [⟨S32x64x1, a⟩, ⟨S32x64x1, b⟩, ⟨S32x64x1, c⟩] concatenates_S32x64x1_S32x64x1_S32x64x1_S32x64x3_d2 (ix3 s n 1)
      = b (ix3 s n 0) := triple_at a b c s n 1
/-- The third. -/
theorem triple_at₂ {α : Type} (a b c : S32x64x1.Idx → α) (s : Fin 32) (n : Fin 64) :
    concatenate S32x64x3 2 [⟨S32x64x1, a⟩, ⟨S32x64x1, b⟩, ⟨S32x64x1, c⟩] concatenates_S32x64x1_S32x64x1_S32x64x1_S32x64x3_d2 (ix3 s n 2)
      = c (ix3 s n 0) := triple_at a b c s n 2

/-- Index words that name a row, a mode's owner and a mode. -/
def Names (idx : IVec S32x64x3 32) (p : Fin 32 → Fin 64 → Fin 64) : Prop :=
  ∀ (s : Fin 32) (n : Fin 64), idx (ix3 s n 0) = BitVec.ofNat 32 s.val ∧ idx (ix3 s n 1) = BitVec.ofNat 32 n.val ∧ idx (ix3 s n 2) = BitVec.ofNat 32 (p s n).val

/-- A small word read signed. -/
theorem toInt_small (n : ℕ) (h : n < 2048) : (BitVec.ofNat 32 n).toInt = n := by
  have e : (BitVec.ofNat 32 n).toNat = n := by rw [BitVec.toNat_ofNat]; omega
  rw [BitVec.toInt_eq_toNat_of_lt (by rw [e]; omega), e]

/-- A gathered number is the named row's. -/
theorem gather_row_at {α : Type} (x : S32x64x64x64.Idx → α) (idx : IVec S32x64x3 32) (p : Fin 32 → Fin 64 → Fin 64) (h : Names idx p)
    (s : Fin 32) (n j : Fin 64) :
    Host.gather gather_S32x64x64x64_S32x64x3_S32x64x64_2_012_n_n_012_2_11164 x idx (ix3 s n j) = x (ix4 s n (p s n) j) := by
  have hs : ∀ q : Fin 3, GatherDims.start gather_S32x64x64x64_S32x64x3_S32x64x64_2_012_n_n_012_2_11164 (ix3 s n j) idx q.castSucc
      = min (idx (ix3 s n q)).toInt.toNat (S32x64x64x64.size q.castSucc - 1) := by
    intro q
    fin_cases q <;> exact congrArg (fun i => min (idx i).toInt.toNat _) (by funext b; fin_cases b <;> rfl)
  obtain ⟨h0, h1, h2⟩ := h s n
  refine congrArg x (funext fun b => Fin.ext ?_)
  fin_cases b
  · refine (hs 0).trans ?_
    rw [h0, toInt_small _ (by omega)]; exact min_eq_left (by show s.val ≤ 31; omega)
  · refine (hs 1).trans ?_
    rw [h1, toInt_small _ (by omega)]; exact min_eq_left (by show n.val ≤ 63; omega)
  · refine (hs 2).trans ?_
    rw [h2, toInt_small _ (by omega)]; exact min_eq_left (by show (p s n).val ≤ 63; omega)
  · exact Nat.zero_add _

/-- Index words that name a row, a mode's owner and a mode, six times over. -/
def Names6 (idx : IVec S32x64x6x3 32) (p : Fin 32 → Fin 64 → Fin 6 → Fin 64) : Prop :=
  ∀ (s : Fin 32) (n : Fin 64) (k : Fin 6), idx (ix4 s n k 0) = BitVec.ofNat 32 s.val ∧ idx (ix4 s n k 1) = BitVec.ofNat 32 n.val
    ∧ idx (ix4 s n k 2) = BitVec.ofNat 32 (p s n k).val

/-- A gathered trajectory is the named mode's. -/
theorem gather_traj_at {α : Type} (x : S32x64x64x80x4.Idx → α) (idx : IVec S32x64x6x3 32) (p : Fin 32 → Fin 64 → Fin 6 → Fin 64) (h : Names6 idx p)
    (s : Fin 32) (n : Fin 64) (k : Fin 6) (t : Fin 80) (c : Fin 4) :
    Host.gather gather_S32x64x64x80x4_S32x64x6x3_S32x64x6x80x4_34_012_n_n_012_3_111804 x idx (ix5 s n k t c) = x (ix5 s n (p s n k) t c) := by
  have hs : ∀ q : Fin 3, GatherDims.start gather_S32x64x64x80x4_S32x64x6x3_S32x64x6x80x4_34_012_n_n_012_3_111804 (ix5 s n k t c) idx q.castSucc.castSucc
      = min (idx (ix4 s n k q)).toInt.toNat (S32x64x64x80x4.size q.castSucc.castSucc - 1) := by
    intro q
    fin_cases q <;> exact congrArg (fun i => min (idx i).toInt.toNat _) (by funext b; fin_cases b <;> rfl)
  obtain ⟨h0, h1, h2⟩ := h s n k
  refine congrArg x (funext fun b => Fin.ext ?_)
  fin_cases b
  · refine (hs 0).trans ?_
    rw [h0, toInt_small _ (by omega)]; exact min_eq_left (by show s.val ≤ 31; omega)
  · refine (hs 1).trans ?_
    rw [h1, toInt_small _ (by omega)]; exact min_eq_left (by show n.val ≤ 63; omega)
  · refine (hs 2).trans ?_
    rw [h2, toInt_small _ (by omega)]; exact min_eq_left (by show (p s n k).val ≤ 63; omega)
  · exact Nat.zero_add _
  · exact Nat.zero_add _

/-- A gathered weight is the named mode's. -/
theorem gather_weight_at {α : Type} (x : S32x64x64.Idx → α) (idx : IVec S32x64x6x3 32) (p : Fin 32 → Fin 64 → Fin 6 → Fin 64) (h : Names6 idx p)
    (s : Fin 32) (n : Fin 64) (k : Fin 6) :
    Host.gather gather_S32x64x64_S32x64x6x3_S32x64x6_n_012_n_n_012_3_111 x idx (ix3 s n k) = x (ix3 s n (p s n k)) := by
  have hs : ∀ q : Fin 3, GatherDims.start gather_S32x64x64_S32x64x6x3_S32x64x6_n_012_n_n_012_3_111 (ix3 s n k) idx q
      = min (idx (ix4 s n k q)).toInt.toNat (S32x64x64.size q - 1) := by
    intro q
    fin_cases q <;> exact congrArg (fun i => min (idx i).toInt.toNat _) (by funext b; fin_cases b <;> rfl)
  obtain ⟨h0, h1, h2⟩ := h s n k
  refine congrArg x (funext fun b => Fin.ext ?_)
  fin_cases b
  · refine (hs 0).trans ?_
    rw [h0, toInt_small _ (by omega)]; exact min_eq_left (by show s.val ≤ 31; omega)
  · refine (hs 1).trans ?_
    rw [h1, toInt_small _ (by omega)]; exact min_eq_left (by show n.val ≤ 63; omega)
  · refine (hs 2).trans ?_
    rw [h2, toInt_small _ (by omega)]; exact min_eq_left (by show (p s n k).val ≤ 63; omega)

/-- The scatter of one number per row at its pick. -/
theorem scatter_row_at {α : Type} (x : S32x64x64.Idx → α) (idx : IVec S32x64x3 32) (upd : S32x64.Idx → α) (v : α) (hv : ∀ i, upd i = v)
    (p : Fin 32 → Fin 64 → Fin 64) (h : Names idx p) (s : Fin 32) (n j : Fin 64) :
    Host.scatter scatter_S32x64x64_S32x64x3_S32x64_n_012_012_2 (fun _ b => b) x idx upd (ix3 s n j) = if j = p s n then v else x (ix3 s n j) := by
  have hs : ∀ (s : Fin 32) (n : Fin 64) (q : Fin 3), ScatterDims.start scatter_S32x64x64_S32x64x3_S32x64_n_012_012_2 (ix2 s n) idx q
      = (idx (ix3 s n q)).toInt := by
    intro s n q
    fin_cases q <;> exact congrArg (fun i => (idx i).toInt) (by funext b; fin_cases b <;> rfl)
  have hst : ∀ (s' : Fin 32) (n' : Fin 64), ScatterDims.resultIdx? scatter_S32x64x64_S32x64x3_S32x64_n_012_012_2 (ix2 s' n') idx = some (ix3 s n j)
      ↔ s' = s ∧ n' = n ∧ p s' n' = j := by
    intro s' n'
    obtain ⟨h0, h1, h2⟩ := h s' n'
    rw [Routing.resultIdx?_eq_some]
    have e0 := hs s' n' 0; have e1 := hs s' n' 1; have e2 := hs s' n' 2
    rw [h0, toInt_small _ (by omega)] at e0
    rw [h1, toInt_small _ (by omega)] at e1
    rw [h2, toInt_small _ (by omega)] at e2
    have w : ∀ a, ScatterDims.window scatter_S32x64x64_S32x64x3_S32x64_n_012_012_2 (ix2 s' n') a = 0 := by
      intro a; fin_cases a <;> rfl
    constructor
    · intro ha
      have a0 := ha 0; have a1 := ha 1; have a2 := ha 2
      rw [w, e0] at a0; rw [w, e1] at a1; rw [w, e2] at a2
      change _ = ((s.val : ℕ) : ℤ) at a0; change _ = ((n.val : ℕ) : ℤ) at a1; change _ = ((j.val : ℕ) : ℤ) at a2
      exact ⟨Fin.ext (by omega), Fin.ext (by omega), Fin.ext (by omega)⟩
    · rintro ⟨rfl, rfl, rfl⟩ a
      rw [w]
      fin_cases a
      · exact congrArg (· + (0 : ℤ)) e0
      · exact congrArg (· + (0 : ℤ)) e1
      · exact congrArg (· + (0 : ℤ)) e2
  by_cases hj : j = p s n
  · rw [if_pos hj]
    exact Routing.scatter_set_hit _ _ _ _ _ v (fun k _ => hv k) (ix2 s n) ((hst s n).2 ⟨rfl, rfl, hj.symm⟩)
  · rw [if_neg hj]
    refine Routing.scatter_set_miss _ _ _ _ _ fun k hk => ?_
    obtain ⟨h1, h2, h3⟩ := (hst (k 0) (k 1)).1 ((congrArg (fun z => ScatterDims.resultIdx? scatter_S32x64x64_S32x64x3_S32x64_n_012_012_2 z idx)
      (eq_ix2 k).symm).trans hk)
    rw [h1, h2] at h3; exact hj h3.symm

/-! ## The first greatest of a row, as the host finds it -/

/-- A pair is at or before another: a greater value, or the same value with no greater index. -/
def Ahead (r p : EReal × BitVec 32) : Prop := p.1 ≤ r.1 ∧ (p.1 = r.1 → r.2.toInt ≤ p.2.toInt)

/-- The order is reflexive. -/
theorem Ahead.refl (r : EReal × BitVec 32) : Ahead r r := ⟨le_rfl, fun _ => le_rfl⟩

/-- The order is transitive. -/
theorem Ahead.trans {a b c : EReal × BitVec 32} (h : Ahead a b) (h' : Ahead b c) : Ahead a c :=
  ⟨h'.1.trans h.1, fun e => (h.2 (le_antisymm h.1 (e ▸ h'.1))).trans (h'.2 (le_antisymm h'.1 (e ▸ h.1)))⟩

/-- One comparison keeps the pair ahead. -/
theorem argmax_step (r p : EReal × BitVec 32) :
    let q := reducer_argmax_f32_i32 (F := Ideal) r p
    (q = r ∧ Ahead r p) ∨ (q = p ∧ Ahead p r) := by
  intro q
  obtain ⟨x, a⟩ := r
  obtain ⟨y, b⟩ := p
  have hq : q = ((if y < x then x else y), (if y < x ∨ (x = y ∧ a.toInt < b.toInt) then a else b)) := by
    show reducer_argmax_f32_i32 (F := Ideal) (x, a) (y, b) = _
    simp only [reducer_argmax_f32_i32, Ideal.cmpf_def, Ideal.cmp, IntOp.cmpi, IntOp.ori, IntOp.andi, Scalar.select]
    by_cases h1 : y < x <;> by_cases h2 : x = y <;> by_cases h3 : a.toInt < b.toInt <;>
      simp [h1, h2, h3, BitVec.slt]
  rw [hq]
  unfold Ahead
  by_cases h1 : y < x
  · left
    simp only [h1, if_true, true_or]
    exact ⟨trivial, h1.le, fun e => absurd e h1.ne⟩
  · rw [not_lt] at h1
    by_cases h2 : x = y ∧ a.toInt < b.toInt
    · left
      obtain ⟨rfl, h3⟩ := h2
      simp only [h3, lt_irrefl, if_false, and_self, or_true, if_true]
      exact ⟨trivial, le_rfl, fun _ => h3.le⟩
    · right
      simp only [not_lt.2 h1, h2, if_false, or_self]
      refine ⟨trivial, h1, fun e => ?_⟩
      by_contra h4
      exact h2 ⟨e, not_le.1 h4⟩

/-- The whole comparison finds a pair ahead of all. -/
theorem argmax_fold : ∀ (l : List (EReal × BitVec 32)) (r : EReal × BitVec 32),
    (∀ p ∈ r :: l, Ahead (l.foldl (reducer_argmax_f32_i32 (F := Ideal)) r) p) ∧ l.foldl (reducer_argmax_f32_i32 (F := Ideal)) r ∈ r :: l
  | [], r => ⟨fun p hp => by rw [List.mem_singleton.1 hp]; exact Ahead.refl r, List.mem_singleton_self r⟩
  | p :: l, r => by
    obtain ⟨h1, h2⟩ := argmax_fold l (reducer_argmax_f32_i32 (F := Ideal) r p)
    rw [List.foldl_cons]
    have hs := argmax_step r p
    generalize List.foldl (reducer_argmax_f32_i32 (F := Ideal)) (reducer_argmax_f32_i32 (F := Ideal) r p) l = z at *
    have hz := h1 _ (List.mem_cons_self)
    constructor
    · intro q hq
      rcases List.mem_cons.1 hq with rfl | hq
      · rcases hs with ⟨e, _⟩ | ⟨e, h⟩
        · rw [e] at hz; exact hz
        · rw [e] at hz; exact hz.trans h
      · rcases List.mem_cons.1 hq with rfl | hq
        · rcases hs with ⟨e, h⟩ | ⟨e, _⟩
          · rw [e] at hz; exact hz.trans h
          · rw [e] at hz; exact hz
        · exact h1 q (List.mem_cons_of_mem _ hq)
    · rcases List.mem_cons.1 h2 with h | h
      · rcases hs with ⟨e, _⟩ | ⟨e, _⟩
        · rw [h, e]; exact List.mem_cons_self
        · rw [h, e]; exact List.mem_cons_of_mem _ List.mem_cons_self
      · exact List.mem_cons_of_mem _ (List.mem_cons_of_mem _ h)

/-- The index the host finds is the row's first greatest. -/
theorem argmax_at (x : FVec Ideal S32x64x64 .f32) (s : Fin 32) (n : Fin 64) :
    (Host.argReduce reducer_argmax_f32_i32 x (iotaInDim S32x64x64 32 2) (constant S_ .f32 0xFF800000#32) (constantI S_ 32 0#32)
      reducesTo_S32x64x64_S32x64_d2 h_S_ (ix2 s n)).2 = BitVec.ofNat 32 (am fun j => x (ix3 s n j)).val := by
  rw [Ideal.argReduce_eq_reduce2, Host.reduce2_eq_foldl_fiber]
  have hd : ∀ i : S32x64x64.Idx, Shape.ReducesTo.drop reducesTo_S32x64x64_S32x64_d2 i = ix2 (i 0) (i 1) := by
    intro i; funext b; fin_cases b <;> rfl
  have hm : ∀ p, p ∈ Host.argReduceFiber x (iotaInDim S32x64x64 32 2) reducesTo_S32x64x64_S32x64_d2 (ix2 s n)
      ↔ ∃ j : Fin 64, p = (x (ix3 s n j), BitVec.ofNat 32 j.val) := by
    intro p
    simp only [Host.argReduceFiber, List.mem_map, List.mem_filter, List.mem_finRange, true_and, decide_eq_true_eq, hd]
    constructor
    · rintro ⟨i, hi, rfl⟩
      generalize S32x64x64.rowMajor.symm i = z at hi
      have h0 : z 0 = s := congrFun hi 0
      have h1 : z 1 = n := congrFun hi 1
      refine ⟨z 2, ?_⟩
      have hz : z = ix3 s n (z 2) := by rw [← h0, ← h1]; exact eq_ix3 z
      rw [hz]; rfl
    · rintro ⟨j, rfl⟩
      exact ⟨S32x64x64.rowMajor (ix3 s n j), by rw [Equiv.symm_apply_apply]; rfl, by rw [Equiv.symm_apply_apply]; rfl⟩
  obtain ⟨h1, h2⟩ := argmax_fold (Host.argReduceFiber x (iotaInDim S32x64x64 32 2) reducesTo_S32x64x64_S32x64_d2 (ix2 s n))
    (constant (F := Ideal) S_ .f32 0xFF800000#32 (Shape.Idx.first h_S_), constantI S_ 32 0#32 (Shape.Idx.first h_S_))
  generalize List.foldl (reducer_argmax_f32_i32 (F := Ideal)) _ _ = z at h1 h2 ⊢
  have hinit : (constant (F := Ideal) S_ .f32 0xFF800000#32 (Shape.Idx.first h_S_), constantI S_ 32 0#32 (Shape.Idx.first h_S_))
      = ((⊥ : EReal), BitVec.ofNat 32 0) := congrArg (fun v => (v, BitVec.ofNat 32 0)) ofBits_bot
  rw [hinit] at h1 h2
  have hall : ∀ j : Fin 64, Ahead z (x (ix3 s n j), BitVec.ofNat 32 j.val) := fun j => h1 _ (List.mem_cons_of_mem _ ((hm _).2 ⟨j, rfl⟩))
  have key : ∃ a : Fin 64, z = (x (ix3 s n a), BitVec.ofNat 32 a.val) := by
    rcases List.mem_cons.1 h2 with h | h
    · refine ⟨0, h.trans ?_⟩
      have h0 := (hall 0).1
      rw [h] at h0
      exact congrArg (fun v => (v, BitVec.ofNat 32 0)) (le_antisymm bot_le h0)
    · exact (hm _).1 h
  obtain ⟨a, rfl⟩ := key
  have : am (fun j => x (ix3 s n j)) = a := by
    apply am_eq
    refine ⟨fun j => (hall j).1, fun j hj => ?_⟩
    have h3 := (hall j).2 hj
    change (BitVec.ofNat 32 a.val).toInt ≤ (BitVec.ofNat 32 j.val).toInt at h3
    rw [toInt_small _ (by omega), toInt_small _ (by omega)] at h3
    exact Fin.le_def.2 (by omega)
  rw [this]

end Cert.Proof.R
-- ==== Proof.RefStep.lean ====
/-
  One of the reference's six steps: the pick of each row and the weights after it.
-/
module

public import proofs.«01_k».proof.Proof.RefPure
public import proofs.«01_k».proof.Proof.Settled

@[expose] public section

noncomputable section

namespace Cert.Proof.R

open Cert.ReferenceIdeal Cert.ReferenceIdeal.Gen
open Idealize.ShloMosaic Idealize.ShloMosaic.StableHlo Idealize.SL.Sem
open Cert.Proof.M

/-- Values of different numbers are different buffers. -/
theorem ne_num {T U : BufTy} {x : TRef sig T} {y : TRef sig U} (h : num x ≠ num y) : x.ref ≠ y.ref :=
  fun e => h (by unfold num; rw [e])

/-- Two values of a step. -/
theorem ne_st {T U : BufTy} {k : Fin 6} {i j : ℕ} {hi hj} (h : i ≠ j) : (st T k i hi).ref ≠ (st U k j hj).ref :=
  ne_num (by rw [num_st, num_st]; omega)
/-- A value from before the steps, and a step's. -/
theorem ne_pre {T U : BufTy} {k : Fin 6} {n j : ℕ} {hn hj} (h : n < 48) : (rf T n hn).ref ≠ (st U k j hj).ref :=
  ne_num (by rw [num_rf, num_st]; omega)
/-- A step's input, and its values. -/
theorem ne_inp {U : BufTy} {k : Fin 6} {j : ℕ} {hj} : (inp k).ref ≠ (st U k j hj).ref :=
  ne_num (by have := num_inp k; rw [num_st]; omega)

/-- An index that is not negative is not moved. -/
theorem fix_eq {t : Shape} (hb) (x a : IVec t 32) (h : ∀ i, ∃ n : ℕ, n < 2048 ∧ x i = BitVec.ofNat 32 n) :
    select (cmpi .slt x (broadcastInDim t ![] hb (constantI S_ 32 0#32))) a x = x := by
  funext i
  obtain ⟨n, hn, e⟩ := h i
  have hc : cmpi .slt x (broadcastInDim t ![] hb (constantI S_ 32 0#32)) i = 0#1 := by
    show BitVec.ofBool ((x i).slt 0#32) = 0#1
    have : (x i).slt 0#32 = false := by
      rw [e, Bool.eq_false_iff, ne_eq, BitVec.slt_iff_toInt_lt, toInt_small n hn]
      have h0 : (0#32 : BitVec 32).toInt = 0 := by decide
      rw [h0]; omega
    rw [this]; rfl
  show Scalar.select (cmpi .slt x _ i) (a i) (x i) = x i
  rw [hc]; rfl

/-- The rows' numbers. -/
def rowIds : IVec S32x1 32 := fun i => BitVec.ofNat 32 (i 0).val
/-- The owners' numbers. -/
def ownIds : IVec S1x64 32 := fun i => BitVec.ofNat 32 (i 1).val
/-- The picks of all rows. -/
def pickIds (w : FVec Ideal S32x64x64 .f32) : IVec S32x64 32 := fun i => BitVec.ofNat 32 (am fun j => w (ix3 (i 0) (i 1) j)).val

/-- The slices' numbers are small. -/
theorem rowIds_small (i : S32x1.Idx) : ∃ n : ℕ, n < 2048 ∧ rowIds i = BitVec.ofNat 32 n :=
  ⟨_, by have h : (i 0).val < 32 := (i 0).isLt; exact lt_trans h (by decide), rfl⟩
/-- The agents' numbers are small. -/
theorem ownIds_small (i : S1x64.Idx) : ∃ n : ℕ, n < 2048 ∧ ownIds i = BitVec.ofNat 32 n :=
  ⟨_, by have h : (i 1).val < 64 := (i 1).isLt; exact lt_trans h (by decide), rfl⟩
/-- The picks are small. -/
theorem pickIds_small (w : FVec Ideal S32x64x64 .f32) (i : S32x64.Idx) : ∃ n : ℕ, n < 2048 ∧ pickIds w i = BitVec.ofNat 32 n :=
  ⟨_, lt_trans (Fin.isLt _) (by decide), rfl⟩

/-- The index words a step writes name each row's pick. -/
theorem names_pick (w : FVec Ideal S32x64x64 .f32) :
    Names (concatenate S32x64x3 2 [
      ⟨S32x64x1, broadcastInDim S32x64x1 ![0, 1] bcast_S32x64_S32x64x1_0_1 (broadcastInDim S32x64 ![0, 1] bcast_S32x1_S32x64_0_1 rowIds)⟩,
      ⟨S32x64x1, broadcastInDim S32x64x1 ![0, 1] bcast_S32x64_S32x64x1_0_1 (broadcastInDim S32x64 ![0, 1] bcast_S1x64_S32x64_0_1 ownIds)⟩,
      ⟨S32x64x1, broadcastInDim S32x64x1 ![0, 1] bcast_S32x64_S32x64x1_0_1 (pickIds w)⟩] concatenates_S32x64x1_S32x64x1_S32x64x1_S32x64x3_d2)
      fun s n => am fun j => w (ix3 s n j) := by
  intro s n
  refine ⟨(triple_at₀ _ _ _ s n).trans ?_, (triple_at₁ _ _ _ s n).trans ?_, (triple_at₂ _ _ _ s n).trans ?_⟩
  · pointwise; rfl
  · pointwise; rfl
  · pointwise; rfl

variable {V : Valuation τ sig (Elt Ideal)} {k : Fin 6}

/-- One step: the pick of each row, and its weights after it. -/
theorem step_at (h : ∀ op ∈ stepOps k, Settled V op) (hrow : val V (rf ⟨S32x1, .i32⟩ 45) = rowIds)
    (hown : val V (rf ⟨S1x64, .i32⟩ 47) = ownIds) :
    val V (st ⟨S32x64, .i32⟩ k 4) = pickIds (val V (inp k)) ∧
    ∀ (s : Fin 32) (n j : Fin 64), val V (st ⟨S32x64x64, .f32⟩ k 71) (ix3 s n j) =
      if j = am (fun j => val V (inp k) (ix3 s n j)) then cOff
      else val V (inp k) (ix3 s n j) *
        (FloatOps.uitofp (F := Ideal) .f32
          (~~~(val V (rf ⟨S32x64x64x64, .i1⟩ 43) (ix4 s n (am (fun j => val V (inp k) (ix3 s n j))) j) : BitVec 1)) * cFar + cAll) := by
  simp only [stepOps, List.forall_mem_cons] at h
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, -⟩ := h
  have e4 : val V (st ⟨S32x64, .i32⟩ k 4) = pickIds (val V (inp k)) := by
    rw [val_quaternary h4 ne_inp (ne_st (by decide)) (ne_st (by decide)) (ne_st (by decide)), val_nullary h0, val_nullary h1, val_nullary h2]
    funext i
    rw [eq_ix2 i]
    exact argmax_at _ _ _
  have e31 : Names (val V (st ⟨S32x64x3, .i32⟩ k 31)) (fun s n => am fun j => val V (inp k) (ix3 s n j)) := by
    rw [val_cat3 h31 (ne_st (by decide)) (ne_st (by decide)) (ne_st (by decide)), val_unary h28 (ne_st (by decide)), val_unary h29 (ne_st (by decide)), val_unary h30 (ne_st (by decide)),
      val_unary h26 (ne_st (by decide)), val_unary h27 (ne_st (by decide)),
      val_ternary h11 (ne_st (by decide)) (ne_st (by decide)) (ne_pre (by decide)), val_binary h7 (ne_pre (by decide)) (ne_st (by decide)), val_unary h6 (ne_st (by decide)), val_nullary h5, hrow,
      fix_eq _ _ _ rowIds_small,
      val_ternary h18 (ne_st (by decide)) (ne_st (by decide)) (ne_pre (by decide)), val_binary h14 (ne_pre (by decide)) (ne_st (by decide)), val_unary h13 (ne_st (by decide)), val_nullary h12, hown,
      fix_eq _ _ _ ownIds_small,
      val_ternary h25 (ne_st (by decide)) (ne_st (by decide)) (ne_st (by decide)), val_binary h21 (ne_st (by decide)) (ne_st (by decide)), val_unary h20 (ne_st (by decide)), val_nullary h19, e4,
      fix_eq _ _ _ (pickIds_small _)]
    exact names_pick _
  have e68 : Names (val V (st ⟨S32x64x3, .i32⟩ k 68)) (fun s n => am fun j => val V (inp k) (ix3 s n j)) := by
    rw [val_cat3 h68 (ne_st (by decide)) (ne_st (by decide)) (ne_st (by decide)), val_unary h65 (ne_st (by decide)), val_unary h66 (ne_st (by decide)), val_unary h67 (ne_st (by decide)),
      val_unary h63 (ne_st (by decide)), val_unary h64 (ne_st (by decide)),
      val_ternary h48 (ne_st (by decide)) (ne_st (by decide)) (ne_pre (by decide)), val_binary h44 (ne_pre (by decide)) (ne_st (by decide)), val_unary h43 (ne_st (by decide)), val_nullary h42, hrow,
      fix_eq _ _ _ rowIds_small,
      val_ternary h55 (ne_st (by decide)) (ne_st (by decide)) (ne_pre (by decide)), val_binary h51 (ne_pre (by decide)) (ne_st (by decide)), val_unary h50 (ne_st (by decide)), val_nullary h49, hown,
      fix_eq _ _ _ ownIds_small,
      val_ternary h62 (ne_st (by decide)) (ne_st (by decide)) (ne_st (by decide)), val_binary h58 (ne_st (by decide)) (ne_st (by decide)), val_unary h57 (ne_st (by decide)), val_nullary h56, e4,
      fix_eq _ _ _ (pickIds_small _)]
    exact names_pick _
  refine ⟨e4, fun s n j => ?_⟩
  have e32 : val V (st ⟨S32x64x64, .i1⟩ k 32) (ix3 s n j) = val V (rf ⟨S32x64x64x64, .i1⟩ 43) (ix4 s n (am (fun j => val V (inp k) (ix3 s n j))) j) := by
    rw [val_binary h32 (ne_pre (by decide)) (ne_st (by decide))]
    exact gather_row_at _ _ _ e31 s n j
  have e70 : ∀ i, val V (st ⟨S32x64, .f32⟩ k 70) i = cOff := fun i => by
    rw [val_unary h70 (ne_st (by decide)), val_nullary h69]; rfl
  rw [val_ternary h71 (ne_st (by decide)) (ne_st (by decide)) (ne_st (by decide))]
  refine (scatter_row_at _ _ _ cOff e70 _ e68 s n j).trans ?_
  refine congrArg (ite _ cOff) ?_
  rw [val_binary h41 ne_inp (ne_st (by decide)), val_binary h40 (ne_st (by decide)) (ne_st (by decide)), val_binary h37 (ne_st (by decide)) (ne_st (by decide)), val_unary h34 (ne_st (by decide)), val_unary h33 (ne_st (by decide)),
    val_unary h36 (ne_st (by decide)), val_unary h39 (ne_st (by decide)), val_nullary h35, val_nullary h38, ← e32]
  rfl

end Cert.Proof.R
-- ==== Proof.RefPre.lean ====
/-
  What the reference computes before its steps: the row numbers, the weights that sum to one, and which modes end
  near which.
-/
module

public import proofs.«01_k».proof.Proof.RefStep

@[expose] public section

noncomputable section

namespace Cert.Proof.R

open Cert.ReferenceIdeal Cert.ReferenceIdeal.Gen
open Idealize.ShloMosaic Idealize.ShloMosaic.StableHlo Idealize.SL.Sem
open Cert.Proof.M

/-- Two numbered values. -/
theorem ne_rf {T U : BufTy} {n j : ℕ} {hn hj} (h : n ≠ j) : (rf T n hn).ref ≠ (rf U j hj).ref :=
  ne_num (by rw [num_rf, num_rf]; omega)

variable {V : Valuation τ sig (Elt Ideal)}

/-- The rows' numbers, as the reference counts them. -/
theorem pre_rows (h : ∀ op ∈ preOps, Settled V op) : val V (rf ⟨S32x1, .i32⟩ 45) = rowIds ∧ val V (rf ⟨S1x64, .i32⟩ 47) = ownIds := by
  simp only [preOps, List.forall_mem_cons] at h
  obtain ⟨h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, -⟩ := h
  constructor
  · rw [val_unary h45 (ne_rf (by decide)), val_nullary h44]
    funext i; rw [eq_ix2 i]; pointwise; rfl
  · rw [val_unary h47 (ne_rf (by decide)), val_nullary h46]
    funext i; rw [eq_ix2 i]; pointwise; rfl

/-- The weights of a row made to sum to one. -/
theorem pre_unit (h : ∀ op ∈ preOps, Settled V op) (s : Fin 32) (n j : Fin 64) :
    val V (rf ⟨S32x64x64, .f32⟩ 8) (ix3 s n j) = M.unit (fun i => val V (rf ⟨S32x64x64, .f32⟩ 1) (ix3 s n i)) j := by
  simp only [preOps, List.forall_mem_cons] at h
  obtain ⟨h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, -⟩ := h
  rw [val_binary h8 (ne_rf (by decide)) (ne_rf (by decide)), val_unary h7 (ne_rf (by decide)), val_unary h6 (ne_rf (by decide)), val_binary h5 (ne_rf (by decide)) (ne_rf (by decide)), val_nullary h4]
  generalize val V (rf ⟨S32x64x64, .f32⟩ 1) = w
  pointwise
  rfl

/-- Whether one mode of a row ends near another. -/
theorem pre_near (h : ∀ op ∈ preOps, Settled V op) (s : Fin 32) (n a j : Fin 64) :
    val V (rf ⟨S32x64x64x64, .i1⟩ 43) (ix4 s n a j) =
      BitVec.ofBool (decide (dist (fun i => val V (rf ⟨S32x64x64x80x4, .f32⟩ 2) (ix5 s n i 79 0)) (fun i => val V (rf ⟨S32x64x64x80x4, .f32⟩ 2) (ix5 s n i 79 1)) a j
        < thr fun i => val V (rf ⟨S32x64x3, .f32⟩ 3) (ix3 s n i))) := by
  simp only [preOps, List.forall_mem_cons] at h
  obtain ⟨h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, -⟩ := h
  rw [val_binary h43 (ne_rf (by decide)) (ne_rf (by decide)), val_unary h42 (ne_rf (by decide)), val_unary h41 (ne_rf (by decide)), val_binary h40 (ne_rf (by decide)) (ne_rf (by decide)), val_nullary h39, val_binary h38 (ne_rf (by decide)) (ne_rf (by decide)), val_binary h37 (ne_rf (by decide)) (ne_rf (by decide)),
    val_unary h36 (ne_rf (by decide)), val_unary h35 (ne_rf (by decide)), val_unary h34 (ne_rf (by decide)), val_unary h33 (ne_rf (by decide)), val_reshape h32 (ne_rf (by decide)), val_unary h31 (ne_rf (by decide)), val_unary h30 (ne_rf (by decide)),
    val_unary h29 (ne_rf (by decide)), val_binary h28 (ne_rf (by decide)) (ne_rf (by decide)), val_binary h27 (ne_rf (by decide)) (ne_rf (by decide)), val_unary h26 (ne_rf (by decide)), val_nullary h25, val_reshape h24 (ne_rf (by decide)), val_unary h23 (ne_rf (by decide)),
    val_binary h22 (ne_rf (by decide)) (ne_rf (by decide)), val_binary h21 (ne_rf (by decide)) (ne_rf (by decide)), val_unary h20 (ne_rf (by decide)), val_nullary h19, val_reshape h18 (ne_rf (by decide)), val_unary h17 (ne_rf (by decide)),
    val_binary h16 (ne_rf (by decide)) (ne_rf (by decide)), val_unary h15 (ne_rf (by decide)), val_nullary h14, val_binary h13 (ne_rf (by decide)) (ne_rf (by decide)), val_unary h12 (ne_rf (by decide)), val_nullary h11, val_reshape h10 (ne_rf (by decide)), val_unary h9 (ne_rf (by decide))]
  generalize val V (rf ⟨S32x64x64x80x4, .f32⟩ 2) = T
  generalize val V (rf ⟨S32x64x3, .f32⟩ 3) = C
  pointwise
  rw [Fin.sum_univ_two]
  rfl

end Cert.Proof.R
-- ==== Proof.RefPost.lean ====
/-
  What the reference computes after its steps: the picks side by side, the scores, and the trajectories picked.
-/
module

public import proofs.«01_k».proof.Proof.RefPre

@[expose] public section

noncomputable section

namespace Cert.Proof.R

open Cert.ReferenceIdeal Cert.ReferenceIdeal.Gen
open Idealize.ShloMosaic Idealize.ShloMosaic.StableHlo Idealize.SL.Sem
open Cert.Proof.M

/-- The pick of one row at one step, from the weights the steps start from. -/
def pk (W : Fin 6 → FVec Ideal S32x64x64 .f32) (s : Fin 32) (n : Fin 64) (k : Fin 6) : Fin 64 := am fun j => W k (ix3 s n j)

/-- The six picks of all rows. -/
def pick6 (W : Fin 6 → FVec Ideal S32x64x64 .f32) : IVec S32x64x6 32 := fun i => BitVec.ofNat 32 (pk W (i 0) (i 1) (i 2)).val

/-- Six columns of picks side by side. -/
theorem six_picks (W : Fin 6 → FVec Ideal S32x64x64 .f32) :
    concatenate S32x64x6 2 [⟨S32x64x1, broadcastInDim S32x64x1 ![0, 1] bcast_S32x64_S32x64x1_0_1 (pickIds (W 0))⟩,
      ⟨S32x64x1, broadcastInDim S32x64x1 ![0, 1] bcast_S32x64_S32x64x1_0_1 (pickIds (W 1))⟩,
      ⟨S32x64x1, broadcastInDim S32x64x1 ![0, 1] bcast_S32x64_S32x64x1_0_1 (pickIds (W 2))⟩,
      ⟨S32x64x1, broadcastInDim S32x64x1 ![0, 1] bcast_S32x64_S32x64x1_0_1 (pickIds (W 3))⟩,
      ⟨S32x64x1, broadcastInDim S32x64x1 ![0, 1] bcast_S32x64_S32x64x1_0_1 (pickIds (W 4))⟩,
      ⟨S32x64x1, broadcastInDim S32x64x1 ![0, 1] bcast_S32x64_S32x64x1_0_1 (pickIds (W 5))⟩]
      concatenates_S32x64x1_S32x64x1_S32x64x1_S32x64x1_S32x64x1_S32x64x1_S32x64x6_d2 = pick6 W := by
  funext i
  rw [eq_ix3 i]
  generalize i 0 = s; generalize i 1 = n; generalize i 2 = k
  change Fin 32 at s; change Fin 64 at n; change Fin 6 at k
  pointwise
  fin_cases k <;> rfl

/-- The index words of the six picks. -/
theorem names_pick6 (W : Fin 6 → FVec Ideal S32x64x64 .f32) :
    Names6 (concatenate S32x64x6x3 3 [
      ⟨S32x64x6x1, broadcastInDim S32x64x6x1 ![0, 1, 2] bcast_S32x64x6_S32x64x6x1_0_1_2
        (broadcastInDim S32x64x6 ![0, 1, 2] bcast_S32x1x1_S32x64x6_0_1_2 (broadcastInDim S32x1x1 ![0, 1] bcast_S32x1_S32x1x1_0_1 rowIds))⟩,
      ⟨S32x64x6x1, broadcastInDim S32x64x6x1 ![0, 1, 2] bcast_S32x64x6_S32x64x6x1_0_1_2
        (broadcastInDim S32x64x6 ![0, 1, 2] bcast_S1x64x1_S32x64x6_0_1_2 (broadcastInDim S1x64x1 ![0, 1] bcast_S1x64_S1x64x1_0_1 ownIds))⟩,
      ⟨S32x64x6x1, broadcastInDim S32x64x6x1 ![0, 1, 2] bcast_S32x64x6_S32x64x6x1_0_1_2 (pick6 W)⟩]
      concatenates_S32x64x6x1_S32x64x6x1_S32x64x6x1_S32x64x6x3_d3) (pk W) := by
  intro s n k
  refine ⟨?_, ?_, ?_⟩
  · pointwise; rfl
  · pointwise; rfl
  · pointwise; rfl

/-- The slices' numbers are small, one axis more. -/
theorem rows_small (i : S32x1x1.Idx) : ∃ n : ℕ, n < 2048 ∧ broadcastInDim S32x1x1 ![0, 1] bcast_S32x1_S32x1x1_0_1 rowIds i = BitVec.ofNat 32 n :=
  rowIds_small _
/-- The agents' numbers are small, one axis more. -/
theorem owns_small (i : S1x64x1.Idx) : ∃ n : ℕ, n < 2048 ∧ broadcastInDim S1x64x1 ![0, 1] bcast_S1x64_S1x64x1_0_1 ownIds i = BitVec.ofNat 32 n :=
  ownIds_small _
/-- The six picks are small. -/
theorem pick6_small (W : Fin 6 → FVec Ideal S32x64x64 .f32) (i : S32x64x6.Idx) : ∃ n : ℕ, n < 2048 ∧ pick6 W i = BitVec.ofNat 32 n :=
  ⟨_, lt_trans (Fin.isLt _) (by decide), rfl⟩

variable {V : Valuation τ sig (Elt Ideal)} {W : Fin 6 → FVec Ideal S32x64x64 .f32}

/-- The picks gathered side by side. -/
theorem post_picks (h : ∀ op ∈ postOps, Settled V op) (hp : ∀ k, val V (st ⟨S32x64, .i32⟩ k 4) = pickIds (W k)) :
    val V (rf ⟨S32x64x6, .i32⟩ 486) = pick6 W := by
  simp only [postOps, List.forall_mem_cons] at h
  obtain ⟨h480, h481, h482, h483, h484, h485, h486, h487, h488, h489, h490, h491, h492, h493, h494, h495, h496, h497, h498, h499, h500, h501, h502, h503, h504, h505, h506, h507, h508, h509, h510, h511, h512, h513, h514, h515, h516, h517, h518, h519, h520, h521, h522, h523, h524, h525, h526, h527, h528, h529, h530, h531, h532, h533, h534, h535, h536, h537, h538, h539, h540, h541, h542, h543, h544, h545, h546, h547, h548, h549, h550, h551, h552, h553, h554, h555, h556, h557, h558, h559, h560, h561, h562, h563, h564, h565, h566, h567, h568, h569, h570, h571, h572, h573, -⟩ := h
  have p0 : val V (rf ⟨S32x64, .i32⟩ 52) = pickIds (W 0) := hp 0
  have p1 : val V (rf ⟨S32x64, .i32⟩ 124) = pickIds (W 1) := hp 1
  have p2 : val V (rf ⟨S32x64, .i32⟩ 196) = pickIds (W 2) := hp 2
  have p3 : val V (rf ⟨S32x64, .i32⟩ 268) = pickIds (W 3) := hp 3
  have p4 : val V (rf ⟨S32x64, .i32⟩ 340) = pickIds (W 4) := hp 4
  have p5 : val V (rf ⟨S32x64, .i32⟩ 412) = pickIds (W 5) := hp 5
  rw [val_cat6 h486 (ne_rf (by decide)) (ne_rf (by decide)) (ne_rf (by decide)) (ne_rf (by decide)) (ne_rf (by decide)) (ne_rf (by decide)),
    val_unary h480 (ne_rf (by decide)), val_unary h481 (ne_rf (by decide)), val_unary h482 (ne_rf (by decide)), val_unary h483 (ne_rf (by decide)), val_unary h484 (ne_rf (by decide)), val_unary h485 (ne_rf (by decide)), p0, p1, p2, p3, p4, p5]
  exact six_picks W

/-- The index words for the trajectories. -/
theorem post_names₁ (h : ∀ op ∈ postOps, Settled V op) (hrow : val V (rf ⟨S32x1, .i32⟩ 45) = rowIds)
    (hown : val V (rf ⟨S1x64, .i32⟩ 47) = ownIds) (h6 : val V (rf ⟨S32x64x6, .i32⟩ 486) = pick6 W) :
    Names6 (val V (rf ⟨S32x64x6x3, .i32⟩ 515)) (pk W) := by
  simp only [postOps, List.forall_mem_cons] at h
  obtain ⟨h480, h481, h482, h483, h484, h485, h486, h487, h488, h489, h490, h491, h492, h493, h494, h495, h496, h497, h498, h499, h500, h501, h502, h503, h504, h505, h506, h507, h508, h509, h510, h511, h512, h513, h514, h515, h516, h517, h518, h519, h520, h521, h522, h523, h524, h525, h526, h527, h528, h529, h530, h531, h532, h533, h534, h535, h536, h537, h538, h539, h540, h541, h542, h543, h544, h545, h546, h547, h548, h549, h550, h551, h552, h553, h554, h555, h556, h557, h558, h559, h560, h561, h562, h563, h564, h565, h566, h567, h568, h569, h570, h571, h572, h573, -⟩ := h
  rw [val_cat3 h515 (ne_rf (by decide)) (ne_rf (by decide)) (ne_rf (by decide)), val_unary h512 (ne_rf (by decide)), val_unary h513 (ne_rf (by decide)), val_unary h514 (ne_rf (by decide)), val_unary h510 (ne_rf (by decide)), val_unary h511 (ne_rf (by decide)),
    val_ternary h495 (ne_rf (by decide)) (ne_rf (by decide)) (ne_rf (by decide)), val_binary h491 (ne_rf (by decide)) (ne_rf (by decide)), val_unary h490 (ne_rf (by decide)), val_nullary h489, val_unary h487 (ne_rf (by decide)), hrow,
    fix_eq _ _ _ rows_small,
    val_ternary h502 (ne_rf (by decide)) (ne_rf (by decide)) (ne_rf (by decide)), val_binary h498 (ne_rf (by decide)) (ne_rf (by decide)), val_unary h497 (ne_rf (by decide)), val_nullary h496, val_unary h488 (ne_rf (by decide)), hown,
    fix_eq _ _ _ owns_small,
    val_ternary h509 (ne_rf (by decide)) (ne_rf (by decide)) (ne_rf (by decide)), val_binary h505 (ne_rf (by decide)) (ne_rf (by decide)), val_unary h504 (ne_rf (by decide)), val_nullary h503, h6, fix_eq _ _ _ (pick6_small W)]
  exact names_pick6 W

/-- The index words for the weights. -/
theorem post_names₂ (h : ∀ op ∈ postOps, Settled V op) (hrow : val V (rf ⟨S32x1, .i32⟩ 45) = rowIds)
    (hown : val V (rf ⟨S1x64, .i32⟩ 47) = ownIds) (h6 : val V (rf ⟨S32x64x6, .i32⟩ 486) = pick6 W) :
    Names6 (val V (rf ⟨S32x64x6x3, .i32⟩ 543)) (pk W) := by
  simp only [postOps, List.forall_mem_cons] at h
  obtain ⟨h480, h481, h482, h483, h484, h485, h486, h487, h488, h489, h490, h491, h492, h493, h494, h495, h496, h497, h498, h499, h500, h501, h502, h503, h504, h505, h506, h507, h508, h509, h510, h511, h512, h513, h514, h515, h516, h517, h518, h519, h520, h521, h522, h523, h524, h525, h526, h527, h528, h529, h530, h531, h532, h533, h534, h535, h536, h537, h538, h539, h540, h541, h542, h543, h544, h545, h546, h547, h548, h549, h550, h551, h552, h553, h554, h555, h556, h557, h558, h559, h560, h561, h562, h563, h564, h565, h566, h567, h568, h569, h570, h571, h572, h573, -⟩ := h
  rw [val_cat3 h543 (ne_rf (by decide)) (ne_rf (by decide)) (ne_rf (by decide)), val_unary h540 (ne_rf (by decide)), val_unary h541 (ne_rf (by decide)), val_unary h542 (ne_rf (by decide)), val_unary h538 (ne_rf (by decide)), val_unary h539 (ne_rf (by decide)),
    val_ternary h523 (ne_rf (by decide)) (ne_rf (by decide)) (ne_rf (by decide)), val_binary h519 (ne_rf (by decide)) (ne_rf (by decide)), val_unary h518 (ne_rf (by decide)), val_nullary h517, val_unary h487 (ne_rf (by decide)), hrow,
    fix_eq _ _ _ rows_small,
    val_ternary h530 (ne_rf (by decide)) (ne_rf (by decide)) (ne_rf (by decide)), val_binary h526 (ne_rf (by decide)) (ne_rf (by decide)), val_unary h525 (ne_rf (by decide)), val_nullary h524, val_unary h488 (ne_rf (by decide)), hown,
    fix_eq _ _ _ owns_small,
    val_ternary h537 (ne_rf (by decide)) (ne_rf (by decide)) (ne_rf (by decide)), val_binary h533 (ne_rf (by decide)) (ne_rf (by decide)), val_unary h532 (ne_rf (by decide)), val_nullary h531, h6, fix_eq _ _ _ (pick6_small W)]
  exact names_pick6 W

/-- The scores. -/
theorem post_scores (h : ∀ op ∈ postOps, Settled V op) (hn : Names6 (val V (rf ⟨S32x64x6x3, .i32⟩ 543)) (pk W))
    (s : Fin 32) (n : Fin 64) (k : Fin 6) :
    val V (rf ⟨S32x64x6, .f32⟩ 567) (ix3 s n k) = soft (fun k => val V (rf ⟨S32x64x64, .f32⟩ 8) (ix3 s n (pk W s n k))) k := by
  simp only [postOps, List.forall_mem_cons] at h
  obtain ⟨h480, h481, h482, h483, h484, h485, h486, h487, h488, h489, h490, h491, h492, h493, h494, h495, h496, h497, h498, h499, h500, h501, h502, h503, h504, h505, h506, h507, h508, h509, h510, h511, h512, h513, h514, h515, h516, h517, h518, h519, h520, h521, h522, h523, h524, h525, h526, h527, h528, h529, h530, h531, h532, h533, h534, h535, h536, h537, h538, h539, h540, h541, h542, h543, h544, h545, h546, h547, h548, h549, h550, h551, h552, h553, h554, h555, h556, h557, h558, h559, h560, h561, h562, h563, h564, h565, h566, h567, h568, h569, h570, h571, h572, h573, -⟩ := h
  have e : ∀ k, val V (rf ⟨S32x64x6, .f32⟩ 544) (ix3 s n k) = val V (rf ⟨S32x64x64, .f32⟩ 8) (ix3 s n (pk W s n k)) := fun k => by
    rw [val_binary h544 (ne_rf (by decide)) (ne_rf (by decide))]; exact gather_weight_at _ _ _ hn s n k
  rw [← funext e]
  rw [val_binary h567 (ne_rf (by decide)) (ne_rf (by decide)), val_unary h566 (ne_rf (by decide)), val_unary h565 (ne_rf (by decide)), val_binary h564 (ne_rf (by decide)) (ne_rf (by decide)), val_nullary h563, val_unary h562 (ne_rf (by decide)), val_binary h561 (ne_rf (by decide)) (ne_rf (by decide)), val_unary h560 (ne_rf (by decide)), val_unary h559 (ne_rf (by decide)),
    val_binary h558 (ne_rf (by decide)) (ne_rf (by decide)), val_unary h557 (ne_rf (by decide)), val_nullary h556, val_binary h555 (ne_rf (by decide)) (ne_rf (by decide)), val_nullary h554, val_binary h553 (ne_rf (by decide)) (ne_rf (by decide)), val_unary h552 (ne_rf (by decide)), val_nullary h551, val_unary h550 (ne_rf (by decide)), val_binary h549 (ne_rf (by decide)) (ne_rf (by decide)),
    val_unary h548 (ne_rf (by decide)), val_unary h547 (ne_rf (by decide)), val_binary h546 (ne_rf (by decide)) (ne_rf (by decide)), val_nullary h545]
  generalize val V (rf ⟨S32x64x6, .f32⟩ 544) = g
  clear * -
  pointwise
  simp only [ofBits_bot, max_eq_right bot_le]
  rfl

/-- A gathered trajectory, its time set before its mode. -/
theorem post_traj (h : ∀ op ∈ postOps, Settled V op) (hn : Names6 (val V (rf ⟨S32x64x6x3, .i32⟩ 515)) (pk W))
    (s : Fin 32) (t : Fin 80) (n : Fin 64) (k : Fin 6) (c : Fin 4) :
    val V (rf ⟨S32x80x64x6x4, .f32⟩ 568) (ix5 s t n k c) = val V (rf ⟨S32x64x64x80x4, .f32⟩ 2) (ix5 s n (pk W s n k) t c) := by
  simp only [postOps, List.forall_mem_cons] at h
  obtain ⟨h480, h481, h482, h483, h484, h485, h486, h487, h488, h489, h490, h491, h492, h493, h494, h495, h496, h497, h498, h499, h500, h501, h502, h503, h504, h505, h506, h507, h508, h509, h510, h511, h512, h513, h514, h515, h516, h517, h518, h519, h520, h521, h522, h523, h524, h525, h526, h527, h528, h529, h530, h531, h532, h533, h534, h535, h536, h537, h538, h539, h540, h541, h542, h543, h544, h545, h546, h547, h548, h549, h550, h551, h552, h553, h554, h555, h556, h557, h558, h559, h560, h561, h562, h563, h564, h565, h566, h567, h568, h569, h570, h571, h572, h573, -⟩ := h
  rw [val_unary h568 (ne_rf (by decide)), val_binary h516 (ne_rf (by decide)) (ne_rf (by decide))]
  refine Eq.trans ?_ (gather_traj_at _ _ _ hn s n k t c)
  generalize Host.gather _ _ _ = g
  clear * -
  pointwise

/-- The results that are slices of it, and the mask. -/
theorem post_results (h : ∀ op ∈ postOps, Settled V op) (s : Fin 32) (t : Fin 80) (n : Fin 64) (k : Fin 6) :
    (∀ c : Fin 2, val V (rf ⟨S32x80x64x6x2, .f32⟩ 569) (ix5 s t n k c) = val V (rf ⟨S32x80x64x6x4, .f32⟩ 568) (ix5 s t n k ⟨c.val, by omega⟩)) ∧
    (∀ c : Fin 1, val V (rf ⟨S32x80x64x6x1, .f32⟩ 570) (ix5 s t n k c) = val V (rf ⟨S32x80x64x6x4, .f32⟩ 568) (ix5 s t n k 2)) ∧
    (∀ c : Fin 1, val V (rf ⟨S32x80x64x6x1, .f32⟩ 571) (ix5 s t n k c) = val V (rf ⟨S32x80x64x6x4, .f32⟩ 568) (ix5 s t n k 3)) ∧
    val V (rf ⟨S32x80x64, .i1⟩ 573) = broadcastInDim S32x80x64 ![0, 1, 2] bcast_S32x1x64_S32x80x64_0_1_2
      (broadcastInDim S32x1x64 ![0, 2] bcast_S32x64_S32x1x64_0_2 (val V (rf ⟨S32x64, .i1⟩ 0))) := by
  simp only [postOps, List.forall_mem_cons] at h
  obtain ⟨h480, h481, h482, h483, h484, h485, h486, h487, h488, h489, h490, h491, h492, h493, h494, h495, h496, h497, h498, h499, h500, h501, h502, h503, h504, h505, h506, h507, h508, h509, h510, h511, h512, h513, h514, h515, h516, h517, h518, h519, h520, h521, h522, h523, h524, h525, h526, h527, h528, h529, h530, h531, h532, h533, h534, h535, h536, h537, h538, h539, h540, h541, h542, h543, h544, h545, h546, h547, h548, h549, h550, h551, h552, h553, h554, h555, h556, h557, h558, h559, h560, h561, h562, h563, h564, h565, h566, h567, h568, h569, h570, h571, h572, h573, -⟩ := h
  rw [val_unary h569 (ne_rf (by decide)), val_unary h570 (ne_rf (by decide)), val_unary h571 (ne_rf (by decide)), val_unary h573 (ne_rf (by decide)), val_unary h572 (ne_rf (by decide))]
  generalize val V (rf ⟨S32x80x64x6x4, .f32⟩ 568) = g
  clear * -
  refine ⟨fun c => ?_, fun c => ?_, fun c => ?_, rfl⟩
  · pointwise
  · pointwise
  · pointwise

end Cert.Proof.R
-- ==== Proof.RefVal.lean ====
/-
  The reference's results as functions of its arguments.
-/
module

public import proofs.«01_k».proof.Proof.RefPost
public import proofs.«01_k».proof.Proof.RefRun

@[expose] public section

noncomputable section

namespace Cert.Proof.R

open Cert.ReferenceIdeal Cert.ReferenceIdeal.Gen
open Idealize.ShloMosaic Idealize.ShloMosaic.StableHlo Idealize.SL.Sem
open Cert.Proof.M

variable {V : Valuation τ sig (Elt Ideal)}

/-- The probabilities. -/
abbrev argP (V : Valuation τ sig (Elt Ideal)) : FVec Ideal S32x64x64 .f32 := val V (rf ⟨S32x64x64, .f32⟩ 1)
/-- The trajectories. -/
abbrev argT (V : Valuation τ sig (Elt Ideal)) : FVec Ideal S32x64x64x80x4 .f32 := val V (rf ⟨S32x64x64x80x4, .f32⟩ 2)
/-- The kinds of the agents. -/
abbrev argC (V : Valuation τ sig (Elt Ideal)) : FVec Ideal S32x64x3 .f32 := val V (rf ⟨S32x64x3, .f32⟩ 3)

/-- The weights that each step starts from. -/
def Wk (V : Valuation τ sig (Elt Ideal)) (k : Fin 6) : FVec Ideal S32x64x64 .f32 := val V (inp k)

/-- What all operations settle, the first of them settle. -/
theorem pre_mem (h : ∀ op ∈ allOps, Settled V op) : ∀ op ∈ preOps, Settled V op := fun op ho => h op (by
  simp only [allOps, List.mem_append]; tauto)
/-- What all operations settle, the last of them settle. -/
theorem post_mem (h : ∀ op ∈ allOps, Settled V op) : ∀ op ∈ postOps, Settled V op := fun op ho => h op (by
  simp only [allOps, List.mem_append]; tauto)
/-- What all operations settle, those of a step settle. -/
theorem step_mem (h : ∀ op ∈ allOps, Settled V op) (k : Fin 6) : ∀ op ∈ stepOps k, Settled V op := fun op ho => h op (by
  simp only [allOps, List.mem_append]
  match k, ho with
  | 0, ho => tauto
  | 1, ho => tauto
  | 2, ho => tauto
  | 3, ho => tauto
  | 4, ho => tauto
  | 5, ho => tauto)

/-- Values of equal numbers are equal. -/
theorem val_num {T : BufTy} {n n' : ℕ} {h h'} (e : n = n') : val V (rf T n h) = val V (rf T n' h') := by subst e; rfl

/-- A truth turned about, as a number. -/
theorem turned (p : Prop) [Decidable p] :
    FloatOps.uitofp (F := Ideal) .f32 (~~~(BitVec.ofBool (decide p)) : BitVec 1) = if p then (0 : EReal) else 1 := by
  by_cases h : p
  · simp [h, FloatOps.uitofp]
  · simp [h, FloatOps.uitofp]

/-- The weights each step starts from, row by row. -/
theorem steps_at (h : ∀ op ∈ allOps, Settled V op) (s : Fin 32) (n : Fin 64) : ∀ (k : ℕ) (hk : k < 6),
    (fun j => Wk V ⟨k, hk⟩ (ix3 s n j)) =
      wts (fun i => argT V (ix5 s n i 79 0)) (fun i => argT V (ix5 s n i 79 1)) (thr fun i => argC V (ix3 s n i)) (M.unit fun i => argP V (ix3 s n i)) k
  | 0, _ => funext fun j => pre_unit (pre_mem h) s n j
  | k + 1, hk => by
    have ih := steps_at h s n k (by omega)
    obtain ⟨hrow, hown⟩ := pre_rows (pre_mem h)
    have e := (step_at (step_mem h ⟨k, by omega⟩) hrow hown).2 s n
    have ei : Wk V ⟨k + 1, hk⟩ = val V (st ⟨S32x64x64, .f32⟩ ⟨k, by omega⟩ 71) :=
      val_num (by show (if k + 1 = 0 then 8 else 47 + 72 * (k + 1)) = 48 + 72 * k + 71; rw [if_neg (by omega)]; omega)
    funext j
    rw [ei, e j, wts, nxt, ← ih]
    change (if j = am (fun j => Wk V ⟨k, _⟩ (ix3 s n j)) then _ else _) = _
    rw [pre_near (pre_mem h), turned]
    rfl

/-- The reference's pick of a row at a step is the pick from the arguments. -/
theorem pk_eq (h : ∀ op ∈ allOps, Settled V op) (s : Fin 32) (n : Fin 64) (k : Fin 6) :
    pk (Wk V) s n k = pick (argP V) (argT V) (argC V) s n k.val := congrArg am (steps_at h s n k.val k.isLt)

/-- The reference's scores. -/
theorem scores_val (h : ∀ op ∈ allOps, Settled V op) (s : Fin 32) (n : Fin 64) (k : Fin 6) :
    val V (rf ⟨S32x64x6, .f32⟩ 567) (ix3 s n k) =
      soft (fun k => M.unit (fun i => argP V (ix3 s n i)) (pick (argP V) (argT V) (argC V) s n k.val)) k := by
  obtain ⟨hrow, hown⟩ := pre_rows (pre_mem h)
  have h6 := post_picks (post_mem h) (W := Wk V) fun k => (step_at (step_mem h k) hrow hown).1
  rw [post_scores (post_mem h) (post_names₂ (post_mem h) hrow hown h6) s n k]
  congr 1
  funext k
  rw [pk_eq h, pre_unit (pre_mem h)]

/-- The reference's picked trajectories. -/
theorem traj_val (h : ∀ op ∈ allOps, Settled V op) (s : Fin 32) (t : Fin 80) (n : Fin 64) (k : Fin 6) (c : Fin 4) :
    val V (rf ⟨S32x80x64x6x4, .f32⟩ 568) (ix5 s t n k c) = argT V (ix5 s n (pick (argP V) (argT V) (argC V) s n k.val) t c) := by
  obtain ⟨hrow, hown⟩ := pre_rows (pre_mem h)
  have h6 := post_picks (post_mem h) (W := Wk V) fun k => (step_at (step_mem h k) hrow hown).1
  rw [post_traj (post_mem h) (post_names₁ (post_mem h) hrow hown h6) s t n k c, pk_eq h]

end Cert.Proof.R

end
-- ==== Proof.Same.lean ====
/-
  The kernel's results are the reference's: equal arguments give equal results.
-/
module

public import proofs.«01_k».proof.Defs
public import proofs.«01_k».proof.Proof.KVal
public import proofs.«01_k».proof.Proof.RefVal
public import proofs.«01_k».proof.Proof.Frames

@[expose] public section

noncomputable section

namespace Cert.Proof.A

open Idealize.ShloMosaic Idealize.SL.Sem

section

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two programs start from equal arguments. -/
structure SameArgs : Prop where
  mask : m' ((Dev.tc 0 : Thread ReferenceIdeal.nD ReferenceIdeal.τ).loc ReferenceIdeal.main_arg0) = m ((Dev.tc 0 : Thread KernelIdeal.nD KernelIdeal.τ).loc KernelIdeal.main_arg0)
  probs : m' ((Dev.tc 0 : Thread ReferenceIdeal.nD ReferenceIdeal.τ).loc ReferenceIdeal.main_arg1) = m ((Dev.tc 0 : Thread KernelIdeal.nD KernelIdeal.τ).loc KernelIdeal.main_arg1)
  paths : m' ((Dev.tc 0 : Thread ReferenceIdeal.nD ReferenceIdeal.τ).loc ReferenceIdeal.main_arg2) = m ((Dev.tc 0 : Thread KernelIdeal.nD KernelIdeal.τ).loc KernelIdeal.main_arg2)
  sizes : m' ((Dev.tc 0 : Thread ReferenceIdeal.nD ReferenceIdeal.τ).loc ReferenceIdeal.main_arg3) = m ((Dev.tc 0 : Thread KernelIdeal.nD KernelIdeal.τ).loc KernelIdeal.main_arg3)

/-- The reference's final contents. -/
abbrev VR : Valuation ReferenceIdeal.τ ReferenceIdeal.sig (Elt Ideal) := R.fin m' 0

/-- An argument as the reference's contents hold it. -/
theorem held_eq (V : Valuation ReferenceIdeal.τ ReferenceIdeal.sig (Elt Ideal)) :
    R.argP V = V (Proc.devRef .tc ReferenceIdeal.main_arg1) ∧ R.argT V = V (Proc.devRef .tc ReferenceIdeal.main_arg2) ∧
    R.argC V = V (Proc.devRef .tc ReferenceIdeal.main_arg3) ∧
    R.val V (R.rf ⟨ReferenceIdeal.S32x64, .i1⟩ 0) = V (Proc.devRef .tc ReferenceIdeal.main_arg0) := ⟨rfl, rfl, rfl, rfl⟩

variable {m m'} (h : SameArgs m m')
include h

/-- Both programs hold the same probabilities. -/
theorem probs_eq : R.argP (VR m') = K.argP m 0 :=
  (held_eq (VR m')).1.trans ((R.ref_arg (m := m') (d := 0) (r := ReferenceIdeal.main_arg1) (by decide)).trans h.probs)
/-- Both programs hold the same trajectories. -/
theorem paths_eq : R.argT (VR m') = K.argT m 0 :=
  (held_eq (VR m')).2.1.trans ((R.ref_arg (m := m') (d := 0) (r := ReferenceIdeal.main_arg2) (by decide)).trans h.paths)
/-- Both programs hold the same kinds of agents. -/
theorem sizes_eq : R.argC (VR m') = K.argC m 0 :=
  (held_eq (VR m')).2.2.1.trans ((R.ref_arg (m := m') (d := 0) (r := ReferenceIdeal.main_arg3) (by decide)).trans h.sizes)
/-- Both programs hold the same mask. -/
theorem mask_eq : R.val (VR m') (R.rf ⟨ReferenceIdeal.S32x64, .i1⟩ 0) = K.argM m 0 :=
  (held_eq (VR m')).2.2.2.trans ((R.ref_arg (m := m') (d := 0) (r := ReferenceIdeal.main_arg0) (by decide)).trans h.mask)

/-- The scores are equal. -/
theorem same_scores : (R.fin m' 0 (Proc.devRef .tc ReferenceIdeal.main_v424) : ReferenceIdeal.S32x64x6.Idx → EReal)
    = (K.W₅ m 0 (K.hb KernelIdeal.main_v15) : KernelIdeal.S32x64x6.Idx → EReal) := by
  funext i
  rw [eq_ix3 i]
  generalize i 0 = s; generalize i 1 = n; generalize i 2 = k
  refine (R.scores_val (V := VR m') R.fin_settled s n k).trans (Eq.trans ?_ (K.v15_at m 0 s n k).symm)
  rw [probs_eq h, paths_eq h, sizes_eq h]

/-- The picked trajectories are equal, number by number. -/
theorem same_traj (s : Fin 32) (t : Fin 80) (n : Fin 64) (k : Fin 6) (c : Fin 4) :
    R.val (VR m') (R.rf ⟨ReferenceIdeal.S32x80x64x6x4, .f32⟩ 568) (ix5 s t n k c)
      = K.argT m 0 (ix5 s n (M.pick (K.argP m 0) (K.argT m 0) (K.argC m 0) s n k.val) t c) := by
  rw [R.traj_val (V := VR m') R.fin_settled, probs_eq h, paths_eq h, sizes_eq h]

/-- The coordinates are equal. -/
theorem same_coords : (R.fin m' 0 (Proc.devRef .tc ReferenceIdeal.main_v426) : ReferenceIdeal.S32x80x64x6x2.Idx → EReal)
    = (K.W₅ m 0 (K.hb KernelIdeal.main_v10) : KernelIdeal.S32x80x64x6x2.Idx → EReal) := by
  funext i
  rw [eq_ix5 i]
  generalize i 0 = s; generalize i 1 = t; generalize i 2 = n; generalize i 3 = k; generalize i 4 = c
  exact ((R.post_results (V := VR m') (R.post_mem R.fin_settled) s t n k).1 c).trans ((same_traj h s t n k _).trans (K.v10_at m 0 s t n k c).symm)

/-- The headings are equal. -/
theorem same_headings : (R.fin m' 0 (Proc.devRef .tc ReferenceIdeal.main_v427) : ReferenceIdeal.S32x80x64x6x1.Idx → EReal)
    = (K.W₅ m 0 (K.hb KernelIdeal.main_v11) : KernelIdeal.S32x80x64x6x1.Idx → EReal) := by
  funext i
  rw [eq_ix5 i]
  generalize i 0 = s; generalize i 1 = t; generalize i 2 = n; generalize i 3 = k; generalize i 4 = c
  exact ((R.post_results (V := VR m') (R.post_mem R.fin_settled) s t n k).2.1 c).trans ((same_traj h s t n k _).trans (K.v11_at m 0 s t n k c).symm)

/-- The speeds are equal. -/
theorem same_speeds : (R.fin m' 0 (Proc.devRef .tc ReferenceIdeal.main_v428) : ReferenceIdeal.S32x80x64x6x1.Idx → EReal)
    = (K.W₅ m 0 (K.hb KernelIdeal.main_v12) : KernelIdeal.S32x80x64x6x1.Idx → EReal) := by
  funext i
  rw [eq_ix5 i]
  generalize i 0 = s; generalize i 1 = t; generalize i 2 = n; generalize i 3 = k; generalize i 4 = c
  exact ((R.post_results (V := VR m') (R.post_mem R.fin_settled) s t n k).2.2.1 c).trans ((same_traj h s t n k _).trans (K.v12_at m 0 s t n k c).symm)

/-- The masks are equal. -/
theorem same_mask : (R.fin m' 0 (Proc.devRef .tc ReferenceIdeal.main_v430) : ReferenceIdeal.S32x80x64.Idx → BitVec 1)
    = (K.W₅ m 0 (K.hb KernelIdeal.main_v14) : KernelIdeal.S32x80x64.Idx → BitVec 1) := by
  refine ((R.post_results (V := VR m') (R.post_mem R.fin_settled) 0 0 0 0).2.2.2).trans (Eq.trans ?_ (K.v14_eq m 0).symm)
  rw [mask_eq h]

end

/-- What the kernel's run leaves in a buffer of the host's. -/
theorem left {m : (ℓ : Loc KernelIdeal.nD KernelIdeal.τ KernelIdeal.sig) → Buf (Elt Ideal) ℓ} {r} (h : K.QC m r) (c : Dev KernelIdeal.nD)
    (b : Ref KernelIdeal.sig .tc) (hb : K.hb b ∈ K.ucRefs \ K.readRefs) : r.2.mem ((c.tc : Thread KernelIdeal.nD KernelIdeal.τ).loc b) = K.W₅ m c (K.hb b) :=
  h.1 c (K.hb b) hb

/-- Over the extended reals the kernel computes what the reference does. -/
theorem same : Cert.algebraic_KernelIdeal_ReferenceIdeal := by
  intro m g m' g' _ hargs
  have hs : SameArgs m m' := ⟨(hargs 0).1, (hargs 0).2.1, (hargs 0).2.2.1, (hargs 0).2.2.2⟩
  refine ⟨fun c => K.W₅ m c (K.hb KernelIdeal.main_v14), fun c => K.W₅ m c (K.hb KernelIdeal.main_v10), fun c => K.W₅ m c (K.hb KernelIdeal.main_v15),
    fun c => K.W₅ m c (K.hb KernelIdeal.main_v11), fun c => K.W₅ m c (K.hb KernelIdeal.main_v12), ?_, ?_⟩
  · exact (θ_run (Cert.KernelIdeal.defs (F := Ideal)) _ _).mono (fun r h c =>
      ⟨left h c _ (by decide), left h c _ (by decide), left h c _ (by decide), left h c _ (by decide), left h c _ (by decide),
        K.arg_end m h c (K.hb KernelIdeal.main_arg0) (by decide), K.arg_end m h c (K.hb KernelIdeal.main_arg1) (by decide),
        K.arg_end m h c (K.hb KernelIdeal.main_arg2) (by decide), K.arg_end m h c (K.hb KernelIdeal.main_arg3) (by decide)⟩) (K.run_main (F := Ideal) m g)
  · refine (θ_run (Cert.ReferenceIdeal.defs (F := Ideal)) _ _).mono (fun r h c => ?_) (R.run_ref (F := Ideal) m' g')
    obtain rfl : c = 0 := Subsingleton.elim _ _
    exact ⟨(h 0 ReferenceIdeal.main_v430).trans (same_mask hs), (h 0 ReferenceIdeal.main_v426).trans (same_coords hs), (h 0 ReferenceIdeal.main_v424).trans (same_scores hs),
      (h 0 ReferenceIdeal.main_v427).trans (same_headings hs), (h 0 ReferenceIdeal.main_v428).trans (same_speeds hs),
      (h 0 ReferenceIdeal.main_arg0).trans (R.ref_arg (by decide)), (h 0 ReferenceIdeal.main_arg1).trans (R.ref_arg (by decide)),
      (h 0 ReferenceIdeal.main_arg2).trans (R.ref_arg (by decide)), (h 0 ReferenceIdeal.main_arg3).trans (R.ref_arg (by decide))⟩

end Cert.Proof.A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Frames
public import proofs.«01_k».proof.Proof.RefRun
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  K.frame_kernel, K.frame_ideal, R.frame_ref, trivial, A.same⟩

end Cert.Proof

end
